-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S512x512 : Shape := ⟨2, ![512, 512]⟩
abbrev S8192x256 : Shape := ⟨2, ![8192, 256]⟩
abbrev S8192x1 : Shape := ⟨2, ![8192, 1]⟩
abbrev S16x4 : Shape := ⟨2, ![16, 4]⟩
abbrev S2x512x512 : Shape := ⟨3, ![2, 512, 512]⟩
abbrev S15x512x512 : Shape := ⟨3, ![15, 512, 512]⟩
abbrev S15 : Shape := ⟨1, ![15]⟩
abbrev S_ : Shape := ⟨0, ![]⟩
abbrev S1 : Shape := ⟨1, ![1]⟩
abbrev S1x4 : Shape := ⟨2, ![1, 4]⟩
abbrev S512x4 : Shape := ⟨2, ![512, 4]⟩
abbrev S4 : Shape := ⟨1, ![4]⟩
abbrev S1x256x512 : Shape := ⟨3, ![1, 256, 512]⟩
abbrev S256x512 : Shape := ⟨2, ![256, 512]⟩
abbrev S1x512x512 : Shape := ⟨3, ![1, 512, 512]⟩

abbrev nBuf : Space → Nat
  | .hbm => 5
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .f32⟩
  | .local _ .vmem, ⟨4, _⟩ => ⟨S8192x256, .bf16⟩
  | .local _ .vmem, ⟨5, _⟩ => ⟨S8192x1, .i32⟩
  | .local _ .vmem, ⟨6, _⟩ => ⟨S16x4, .f32⟩
  | .local _ .vmem, ⟨7, _⟩ => ⟨S512x512, .f32⟩
  | .local _ .vmem, ⟨8, _⟩ => ⟨S2x512x512, .bf16⟩
  | .local _ .vmem, ⟨9, _⟩ => ⟨S15x512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  (ofTc nBuf bufTy 2 94 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v15 : BitVec 32 := Scalar.muli v2 c512_i32
  let v16 : Index := Scalar.indexCast v15
  let c0_11 : Index := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_14 : BitVec 32 := 512#32
  let v22 : BitVec 32 := Scalar.muli v2 c512_i32_14
  let v23 : Index := Scalar.indexCast v22
  let c0_15 : Index := 0#32
  ![v23.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_16 : BitVec 32 := 512#32
  let v27 : BitVec 32 := Scalar.muli v2 c512_i32_16
  let c0_i32_21 : BitVec 32 := 0#32
  ![v27.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_19 : BitVec 32 := 1#32
  let v28 : BitVec 32 := Scalar.muli v7 c1_i32_19
  let v29 : BitVec 32 := Scalar.addi c0_i32_20 v28
  v29.toNat
def k0_off4 (d0 : Dev nD) (c0_i32_23 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v36 : BitVec 32 := Scalar.subi v2 c0_i32_23
  let c16_i32_24 : BitVec 32 := 16#32
  let v37 : BitVec 32 := Scalar.addi v36 c16_i32_24
  let c16_i32_25 : BitVec 32 := 16#32
  let v38 : BitVec 32 := Scalar.remsi v37 c16_i32_25
  let c512_i32_26 : BitVec 32 := 512#32
  let v39 : BitVec 32 := Scalar.muli v38 c512_i32_26
  let c0_i32_31 : BitVec 32 := 0#32
  ![v39.toNat, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v40 : BitVec 32 := Scalar.muli v7 c1_i32_29
  let v41 : BitVec 32 := Scalar.addi c0_i32_30 v40
  v41.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_45 : BitVec 32 := 1#32
  let v58 : BitVec 32 := Scalar.muli v7 c1_i32_45
  let v59 : BitVec 32 := Scalar.addi c0_i32_46 v58
  v59.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_61 : BitVec 32 := 1#32
  let v76 : BitVec 32 := Scalar.muli v7 c1_i32_61
  let v77 : BitVec 32 := Scalar.addi c0_i32_62 v76
  v77.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_76 : BitVec 32 := 1#32
  let v94 : BitVec 32 := Scalar.muli v7 c1_i32_76
  let v95 : BitVec 32 := Scalar.addi c0_i32_77 v94
  v95.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_91 : BitVec 32 := 1#32
  let v112 : BitVec 32 := Scalar.muli v7 c1_i32_91
  let v113 : BitVec 32 := Scalar.addi c0_i32_92 v112
  v113.toNat
def k0_dev9 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_106 : BitVec 32 := 1#32
  let v130 : BitVec 32 := Scalar.muli v7 c1_i32_106
  let v131 : BitVec 32 := Scalar.addi c0_i32_107 v130
  v131.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_121 : BitVec 32 := 1#32
  let v148 : BitVec 32 := Scalar.muli v7 c1_i32_121
  let v149 : BitVec 32 := Scalar.addi c0_i32_122 v148
  v149.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_136 : BitVec 32 := 1#32
  let v166 : BitVec 32 := Scalar.muli v7 c1_i32_136
  let v167 : BitVec 32 := Scalar.addi c0_i32_137 v166
  v167.toNat
def k0_dev12 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_151 : BitVec 32 := 1#32
  let v184 : BitVec 32 := Scalar.muli v7 c1_i32_151
  let v185 : BitVec 32 := Scalar.addi c0_i32_152 v184
  v185.toNat
def k0_dev13 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_166 : BitVec 32 := 1#32
  let v202 : BitVec 32 := Scalar.muli v7 c1_i32_166
  let v203 : BitVec 32 := Scalar.addi c0_i32_167 v202
  v203.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_181 : BitVec 32 := 1#32
  let v220 : BitVec 32 := Scalar.muli v7 c1_i32_181
  let v221 : BitVec 32 := Scalar.addi c0_i32_182 v220
  v221.toNat
def k0_dev15 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_196 : BitVec 32 := 1#32
  let v238 : BitVec 32 := Scalar.muli v7 c1_i32_196
  let v239 : BitVec 32 := Scalar.addi c0_i32_197 v238
  v239.toNat
def k0_dev16 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_211 : BitVec 32 := 1#32
  let v256 : BitVec 32 := Scalar.muli v7 c1_i32_211
  let v257 : BitVec 32 := Scalar.addi c0_i32_212 v256
  v257.toNat
def k0_dev17 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_226 : BitVec 32 := 1#32
  let v274 : BitVec 32 := Scalar.muli v7 c1_i32_226
  let v275 : BitVec 32 := Scalar.addi c0_i32_227 v274
  v275.toNat
def k0_dev18 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_241 : BitVec 32 := 1#32
  let v292 : BitVec 32 := Scalar.muli v7 c1_i32_241
  let v293 : BitVec 32 := Scalar.addi c0_i32_242 v292
  v293.toNat
def k0_off5 (d0 : Dev nD) (c1_i32_318 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v513 : BitVec 32 := Scalar.subi v2 c1_i32_318
  let c16_i32_319 : BitVec 32 := 16#32
  let v514 : BitVec 32 := Scalar.addi v513 c16_i32_319
  let c16_i32_320 : BitVec 32 := 16#32
  let v515 : BitVec 32 := Scalar.remsi v514 c16_i32_320
  let c512_i32_321 : BitVec 32 := 512#32
  let v516 : BitVec 32 := Scalar.muli v515 c512_i32_321
  let c0_i32_326 : BitVec 32 := 0#32
  ![v516.toNat, 0]
def k0_dev19 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_324 : BitVec 32 := 1#32
  let v517 : BitVec 32 := Scalar.muli v7 c1_i32_324
  let v518 : BitVec 32 := Scalar.addi c0_i32_325 v517
  v518.toNat
def k0_off6 (d0 : Dev nD) (c1_i32_328 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v525 : BitVec 32 := Scalar.subi v2 c1_i32_328
  let c32_i32 : BitVec 32 := 32#32
  let v526 : BitVec 32 := Scalar.addi v525 c32_i32
  let c16_i32_329 : BitVec 32 := 16#32
  let v527 : BitVec 32 := Scalar.remsi v526 c16_i32_329
  let c512_i32_330 : BitVec 32 := 512#32
  let v528 : BitVec 32 := Scalar.muli v527 c512_i32_330
  let v529 : Index := Scalar.indexCast v528
  let c0_331 : Index := 0#32
  ![v529.toNat, 0]
def k0_off7 (d0 : Dev nD) (c1_i32_328 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v525 : BitVec 32 := Scalar.subi v2 c1_i32_328
  let c32_i32 : BitVec 32 := 32#32
  let v526 : BitVec 32 := Scalar.addi v525 c32_i32
  let c16_i32_329 : BitVec 32 := 16#32
  let v527 : BitVec 32 := Scalar.remsi v526 c16_i32_329
  let v537 : Index := Scalar.indexCast v527
  let c0_333 : Index := 0#32
  ![v537.toNat, 0]
def k0_off8 (d0 : Dev nD) (c1_i32_328 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v525 : BitVec 32 := Scalar.subi v2 c1_i32_328
  let c32_i32 : BitVec 32 := 32#32
  let v526 : BitVec 32 := Scalar.addi v525 c32_i32
  let c16_i32_329 : BitVec 32 := 16#32
  let v527 : BitVec 32 := Scalar.remsi v526 c16_i32_329
  let c512_i32_330 : BitVec 32 := 512#32
  let v528 : BitVec 32 := Scalar.muli v527 c512_i32_330
  let v550 : Index := Scalar.indexCast v528
  let c0_338 : Index := 0#32
  ![v550.toNat, 0]
def k0_dev20 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_351 : BitVec 32 := 1#32
  let v577 : BitVec 32 := Scalar.muli v7 c1_i32_351
  let v578 : BitVec 32 := Scalar.addi c0_i32_352 v577
  v578.toNat
def k0_dev21 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_369 : BitVec 32 := 1#32
  let v597 : BitVec 32 := Scalar.muli v7 c1_i32_369
  let v598 : BitVec 32 := Scalar.addi c0_i32_370 v597
  v598.toNat
def k0_dev22 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_410 : BitVec 32 := 1#32
  let v669 : BitVec 32 := Scalar.muli v7 c1_i32_410
  let v670 : BitVec 32 := Scalar.addi c0_i32_411 v669
  v670.toNat
def k0_dev23 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_428 : BitVec 32 := 1#32
  let v689 : BitVec 32 := Scalar.muli v7 c1_i32_428
  let v690 : BitVec 32 := Scalar.addi c0_i32_429 v689
  v690.toNat
def k0_dev24 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_478 : BitVec 32 := 1#32
  let v767 : BitVec 32 := Scalar.muli v7 c1_i32_478
  let v768 : BitVec 32 := Scalar.addi c0_i32_479 v767
  v768.toNat
def k0_dev25 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_496 : BitVec 32 := 1#32
  let v787 : BitVec 32 := Scalar.muli v7 c1_i32_496
  let v788 : BitVec 32 := Scalar.addi c0_i32_497 v787
  v788.toNat
def k0_dev26 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_546 : BitVec 32 := 1#32
  let v865 : BitVec 32 := Scalar.muli v7 c1_i32_546
  let v866 : BitVec 32 := Scalar.addi c0_i32_547 v865
  v866.toNat
def k0_dev27 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_564 : BitVec 32 := 1#32
  let v885 : BitVec 32 := Scalar.muli v7 c1_i32_564
  let v886 : BitVec 32 := Scalar.addi c0_i32_565 v885
  v886.toNat
def k0_dev28 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_614 : BitVec 32 := 1#32
  let v963 : BitVec 32 := Scalar.muli v7 c1_i32_614
  let v964 : BitVec 32 := Scalar.addi c0_i32_615 v963
  v964.toNat
def k0_dev29 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_632 : BitVec 32 := 1#32
  let v983 : BitVec 32 := Scalar.muli v7 c1_i32_632
  let v984 : BitVec 32 := Scalar.addi c0_i32_633 v983
  v984.toNat
def k0_dev30 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_682 : BitVec 32 := 1#32
  let v1061 : BitVec 32 := Scalar.muli v7 c1_i32_682
  let v1062 : BitVec 32 := Scalar.addi c0_i32_683 v1061
  v1062.toNat
def k0_dev31 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_700 : BitVec 32 := 1#32
  let v1081 : BitVec 32 := Scalar.muli v7 c1_i32_700
  let v1082 : BitVec 32 := Scalar.addi c0_i32_701 v1081
  v1082.toNat
def k0_dev32 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_750 : BitVec 32 := 1#32
  let v1159 : BitVec 32 := Scalar.muli v7 c1_i32_750
  let v1160 : BitVec 32 := Scalar.addi c0_i32_751 v1159
  v1160.toNat
def k0_dev33 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_768 : BitVec 32 := 1#32
  let v1179 : BitVec 32 := Scalar.muli v7 c1_i32_768
  let v1180 : BitVec 32 := Scalar.addi c0_i32_769 v1179
  v1180.toNat
def k0_dev34 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_818 : BitVec 32 := 1#32
  let v1257 : BitVec 32 := Scalar.muli v7 c1_i32_818
  let v1258 : BitVec 32 := Scalar.addi c0_i32_819 v1257
  v1258.toNat
def k0_dev35 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_836 : BitVec 32 := 1#32
  let v1277 : BitVec 32 := Scalar.muli v7 c1_i32_836
  let v1278 : BitVec 32 := Scalar.addi c0_i32_837 v1277
  v1278.toNat
def k0_dev36 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_886 : BitVec 32 := 1#32
  let v1355 : BitVec 32 := Scalar.muli v7 c1_i32_886
  let v1356 : BitVec 32 := Scalar.addi c0_i32_887 v1355
  v1356.toNat
def k0_dev37 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_904 : BitVec 32 := 1#32
  let v1375 : BitVec 32 := Scalar.muli v7 c1_i32_904
  let v1376 : BitVec 32 := Scalar.addi c0_i32_905 v1375
  v1376.toNat
def k0_dev38 (d0 : Dev nD) : Nat :=
  let c0_i32_955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_954 : BitVec 32 := 1#32
  let v1453 : BitVec 32 := Scalar.muli v7 c1_i32_954
  let v1454 : BitVec 32 := Scalar.addi c0_i32_955 v1453
  v1454.toNat
def k0_dev39 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_972 : BitVec 32 := 1#32
  let v1473 : BitVec 32 := Scalar.muli v7 c1_i32_972
  let v1474 : BitVec 32 := Scalar.addi c0_i32_973 v1473
  v1474.toNat
def k0_dev40 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1022 : BitVec 32 := 1#32
  let v1551 : BitVec 32 := Scalar.muli v7 c1_i32_1022
  let v1552 : BitVec 32 := Scalar.addi c0_i32_1023 v1551
  v1552.toNat
def k0_dev41 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1040 : BitVec 32 := 1#32
  let v1571 : BitVec 32 := Scalar.muli v7 c1_i32_1040
  let v1572 : BitVec 32 := Scalar.addi c0_i32_1041 v1571
  v1572.toNat
def k0_dev42 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1090 : BitVec 32 := 1#32
  let v1649 : BitVec 32 := Scalar.muli v7 c1_i32_1090
  let v1650 : BitVec 32 := Scalar.addi c0_i32_1091 v1649
  v1650.toNat
def k0_dev43 (d0 : Dev nD) : Nat :=
  let c0_i32_1109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1108 : BitVec 32 := 1#32
  let v1669 : BitVec 32 := Scalar.muli v7 c1_i32_1108
  let v1670 : BitVec 32 := Scalar.addi c0_i32_1109 v1669
  v1670.toNat
def k0_dev44 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1158 : BitVec 32 := 1#32
  let v1747 : BitVec 32 := Scalar.muli v7 c1_i32_1158
  let v1748 : BitVec 32 := Scalar.addi c0_i32_1159 v1747
  v1748.toNat
def k0_dev45 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1176 : BitVec 32 := 1#32
  let v1767 : BitVec 32 := Scalar.muli v7 c1_i32_1176
  let v1768 : BitVec 32 := Scalar.addi c0_i32_1177 v1767
  v1768.toNat
def k0_dev46 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1226 : BitVec 32 := 1#32
  let v1845 : BitVec 32 := Scalar.muli v7 c1_i32_1226
  let v1846 : BitVec 32 := Scalar.addi c0_i32_1227 v1845
  v1846.toNat
def k0_dev47 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1283 : BitVec 32 := 1#32
  let v1931 : BitVec 32 := Scalar.muli v7 c1_i32_1283
  let v1932 : BitVec 32 := Scalar.addi c0_i32_1284 v1931
  v1932.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1950 : Index := Scalar.indexCast v2
  let c0_1292 : Index := 0#32
  ![v1950.toNat, 0]
def k0_dev48 (d0 : Dev nD) : Nat :=
  let c0_i32_1492_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1491_r0 : BitVec 32 := 1#32
  let v2136_r0 : BitVec 32 := Scalar.muli v5 c1_i32_1491_r0
  let v2137_r0 : BitVec 32 := Scalar.addi c0_i32_1492_r0 v2136_r0
  v2137_r0.toNat
def k0_dev49 (d0 : Dev nD) : Nat :=
  let c0_i32_1495_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1494_r0 : BitVec 32 := 1#32
  let v2138_r0 : BitVec 32 := Scalar.muli v7 c1_i32_1494_r0
  let v2139_r0 : BitVec 32 := Scalar.addi c0_i32_1495_r0 v2138_r0
  v2139_r0.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x256 : Shape := ⟨2, ![8192, 256]⟩
abbrev S256x64 : Shape := ⟨2, ![256, 64]⟩
abbrev S8192x1 : Shape := ⟨2, ![8192, 1]⟩
abbrev S64x256x512 : Shape := ⟨3, ![64, 256, 512]⟩
abbrev S64 : Shape := ⟨1, ![64]⟩
abbrev S1x64 : Shape := ⟨2, ![1, 64]⟩
abbrev S8192x64 : Shape := ⟨2, ![8192, 64]⟩
abbrev S_ : Shape := ⟨0, ![]⟩
abbrev S8192x64x512 : Shape := ⟨3, ![8192, 64, 512]⟩
abbrev S8192x64x1 : Shape := ⟨3, ![8192, 64, 1]⟩
abbrev S8192x512 : Shape := ⟨2, ![8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x64, .bf16⟩
  | .hbm, ⟨2, _⟩ => ⟨S8192x1, .i32⟩
  | .hbm, ⟨3, _⟩ => ⟨S64x256x512, .bf16⟩
  | .hbm, ⟨4, _⟩ => ⟨S64, .i32⟩
  | .hbm, ⟨5, _⟩ => ⟨S1x64, .i32⟩
  | .hbm, ⟨6, _⟩ => ⟨S8192x64, .i32⟩
  | .hbm, ⟨7, _⟩ => ⟨S8192x64, .i32⟩
  | .hbm, ⟨8, _⟩ => ⟨S8192x64, .i1⟩
  | .hbm, ⟨9, _⟩ => ⟨S8192x64, .i32⟩
  | .hbm, ⟨10, _⟩ => ⟨S_, .i32⟩
  | .hbm, ⟨11, _⟩ => ⟨S_, .i32⟩
  | .hbm, ⟨12, _⟩ => ⟨S8192x64, .i32⟩
  | .hbm, ⟨13, _⟩ => ⟨S8192x64, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i1⟩
  | .hbm, ⟨18, _⟩ => ⟨S8192x64, .i1⟩
  | .hbm, ⟨19, _⟩ => ⟨S8192x256, .f32⟩
  | .hbm, ⟨20, _⟩ => ⟨S64x256x512, .f32⟩
  | .hbm, ⟨21, _⟩ => ⟨S8192x64x512, .f32⟩
  | .hbm, ⟨22, _⟩ => ⟨S8192x64x1, .i1⟩
  | .hbm, ⟨23, _⟩ => ⟨S_, .f32⟩
  | .hbm, ⟨24, _⟩ => ⟨S_, .f32⟩
  | .hbm, ⟨25, _⟩ => ⟨S8192x64x512, .i1⟩
  | .hbm, ⟨26, _⟩ => ⟨S8192x64x512, .f32⟩
  | .hbm, ⟨27, _⟩ => ⟨S8192x64x512, .f32⟩
  | .hbm, ⟨28, _⟩ => ⟨S_, .f32⟩
  | .hbm, ⟨29, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Cells.lean ====
/-
The ring of sixteen devices and its semaphore cells: the neighbours, the chunk a device holds at a
position of the ring, the buffers and the rectangles the transfers move, the number of each semaphore.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.SL.BI.BigOpNat
public import Mathlib.Algebra.BigOperators.Intervals
public import Mathlib.Tactic.Abel

@[expose] public section

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds' ghost state of the ring's own cells. -/
abbrev UB : Type := URounds (GSem nD τ sig) Bool
/-- The ghost state of the pipeline's cells beside that of the ring's. -/
abbrev UU : Type := UR sig nD τ × UB

local notation "𝕄" => MT nD τ sig Unit (Elt F) ℕ UU ℕ

/-- The pipeline's ghost state sits on the left. -/
abbrev EP : Emb (UR sig nD τ) (MT nD τ sig Unit (Elt F) ℕ UU ℕ) := embL
/-- The ring's ghost state sits on the right. -/
abbrev ER : Emb UB (MT nD τ sig Unit (Elt F) ℕ UU ℕ) := embR

/-! ## The ring -/

set_option backward.proofsInPublic true in
/-- The device after `c`. -/
def nxt (c : Dev nD) : Dev nD := ⟨(c.val + 1) % 16, Nat.mod_lt _ (by decide)⟩
set_option backward.proofsInPublic true in
/-- The device before `c`. -/
def prv (c : Dev nD) : Dev nD := ⟨(c.val + 15) % 16, Nat.mod_lt _ (by decide)⟩
set_option backward.proofsInPublic true in
/-- The device `p` places before `c`: whose chunk `c` holds at position `p` of the ring. -/
def back (c : Dev nD) (p : ℕ) : Dev nD := ⟨(c.val + (16 - p % 16)) % 16, Nat.mod_lt _ (by decide)⟩

/-- The device before the next one is the device itself. -/
theorem prv_nxt (c : Dev nD) : prv (nxt c) = c := by revert c; decide
/-- The device after the one before is the device itself. -/
theorem nxt_prv (c : Dev nD) : nxt (prv c) = c := by revert c; decide
/-- On a ring of sixteen the two neighbours differ. -/
theorem nxt_ne_prv (c : Dev nD) : nxt c ≠ prv c := by revert c; decide
/-- No places back is the device itself. -/
theorem back_zero (c : Dev nD) : back c 0 = c := by revert c; decide

/-- What lies `h + 1` places before the next device lies `h` places before this one. -/
theorem back_nxt (c : Dev nD) (h : ℕ) : back (nxt c) (h + 1) = back c h := by
  apply Fin.ext; have := c.isLt; simp only [back, nxt]; omega

/-- Within one turn of the ring, different distances back meet different devices. -/
theorem back_inj (c : Dev nD) {p q : ℕ} (hp : p < 16) (hq : q < 16) (h : back c p = back c q) : p = q := by
  have h' := congrArg Fin.val h; have := c.isLt; simp only [back] at h'; omega

/-- Every device lies some distance back, less than one turn. -/
theorem back_surj (c b : Dev nD) : ∃ p < 16, back c p = b := by revert c b; decide

/-- Going once round the ring, as a permutation of the devices. -/
def ring : Dev nD ≃ Dev nD := ⟨nxt, prv, prv_nxt, nxt_prv⟩

/-! ## The buffers -/

/-- The staged activations, whole. -/
abbrev xM : Memref sig .tc .vmem S512x256 .bf16 := Memref.whole cc0_stg0_0
/-- The staged routes, whole. -/
abbrev rM : Memref sig .tc .vmem S512x1 .i32 := Memref.whole cc0_stg1_0
/-- The staged weights, whole. -/
abbrev wM : Memref sig .tc .vmem S4x256x512 .bf16 := Memref.whole cc0_stg2_0
/-- The staged result, whole. -/
abbrev oM : Memref sig .tc .vmem S512x512 .f32 := Memref.whole cc0_stg3_0
/-- The gathered activations, whole. -/
abbrev xaM : Memref sig .tc .vmem S8192x256 .bf16 := Memref.whole cc0_scratch0
/-- The gathered routes, whole. -/
abbrev raM : Memref sig .tc .vmem S8192x1 .i32 := Memref.whole cc0_scratch1
/-- The table of counts, whole. -/
abbrev bM : Memref sig .tc .vmem S16x4 .f32 := Memref.whole cc0_scratch2
/-- The device's own part of the result, whole. -/
abbrev cM : Memref sig .tc .vmem S512x512 .f32 := Memref.whole cc0_scratch3
/-- The two send buffers, whole. -/
abbrev sM : Memref sig .tc .vmem S2x512x512 .bf16 := Memref.whole cc0_scratch4
/-- The fifteen landing slots, whole. -/
abbrev vM : Memref sig .tc .vmem S15x512x512 .bf16 := Memref.whole cc0_scratch5

/-- A chunk of activations lies within the gathered activations. -/
theorem inbX (b : Dev nD) : ∀ a, (![512 * b.val, 0] : Fin 2 → Nat) a + S512x256.size a ≤ S8192x256.size a := by revert b; decide
/-- A chunk of routes lies within the gathered routes. -/
theorem inbR (b : Dev nD) : ∀ a, (![512 * b.val, 0] : Fin 2 → Nat) a + S512x1.size a ≤ S8192x1.size a := by revert b; decide
/-- A row of counts lies within the table. -/
theorem inbB (b : Dev nD) : ∀ a, (![b.val, 0] : Fin 2 → Nat) a + S1x4.size a ≤ S16x4.size a := by revert b; decide
/-- A page of weights lies within the staged weights. -/
theorem inbW (k : Fin 4) : ∀ a, (![k.val, 0, 0] : Fin 3 → Nat) a + S1x256x512.size a ≤ S4x256x512.size a := by revert k; decide
/-- A send buffer lies within the pair. -/
theorem inbS (i : Fin 2) : ∀ a, (![i.val, 0, 0] : Fin 3 → Nat) a + S1x512x512.size a ≤ S2x512x512.size a := by revert i; decide
/-- A landing slot lies within the fifteen. -/
theorem inbV (s : Fin 15) : ∀ a, (![s.val, 0, 0] : Fin 3 → Nat) a + S1x512x512.size a ≤ S15x512x512.size a := by revert s; decide

/-- The rows of the gathered activations that device `b`'s block fills, -/
abbrev xR (b : Dev nD) : Rect S8192x256 := Rect.unit (s := S8192x256) ![512 * b.val, 0] S512x256.size (inbX b)
/-- of the gathered routes, -/
abbrev rR (b : Dev nD) : Rect S8192x1 := Rect.unit (s := S8192x1) ![512 * b.val, 0] S512x1.size (inbR b)
/-- a row of the table of counts, -/
abbrev bR (b : Dev nD) : Rect S16x4 := Rect.unit (s := S16x4) ![b.val, 0] S1x4.size (inbB b)
/-- one of the two slots messages leave from, -/
abbrev sR (i : Fin 2) : Rect S2x512x512 := Rect.unit (s := S2x512x512) ![i.val, 0, 0] S1x512x512.size (inbS i)
/-- one of the fifteen they arrive in, one expert's weights. -/
abbrev vR (s : Fin 15) : Rect S15x512x512 := Rect.unit (s := S15x512x512) ![s.val, 0, 0] S1x512x512.size (inbV s)
/-- Page `k` of the staged weights. -/
abbrev wR (k : Fin 4) : Rect S4x256x512 := Rect.unit (s := S4x256x512) ![k.val, 0, 0] S1x256x512.size (inbW k)

/-- The chunk of the gathered activations, the chunk of the gathered routes, the slots, as the transfers name them. -/
abbrev xC (b : Dev nD) : Memref sig .tc .vmem S512x256 .bf16 := xaM.slice (xR b) (fun _ => rfl)
/-- Chunk `b` of the gathered routes. -/
abbrev rC (b : Dev nD) : Memref sig .tc .vmem S512x1 .i32 := raM.slice (rR b) (fun _ => rfl)
/-- Send buffer `i`. -/
abbrev sC (i : Fin 2) : Memref sig .tc .vmem S512x512 .bf16 := (sM.slice (sR i) (fun _ => rfl)).squeeze S512x512 squeezes_S1x512x512_S512x512
/-- Landing slot `s`. -/
abbrev vC (s : Fin 15) : Memref sig .tc .vmem S512x512 .bf16 := (vM.slice (vR s) (fun _ => rfl)).squeeze S512x512 squeezes_S1x512x512_S512x512

/-! ## The semaphores -/

set_option backward.proofsInPublic true in
/-- The DMA semaphore number `n`: from 4 the sends of activations, from 19 their receives, from 34 and 49 those of the
    routes, from 64 and 79 those of the messages. -/
def dsem (n : ℕ) : DmaSem sig := ⟨n % 94, Nat.mod_lt _ (by decide)⟩

/-- The barrier's semaphore. -/
abbrev barS : Sem sig := (SemArray.scalar (sig.barrier 0 rfl) : Sems sig S_).sem
/-- The closing handshake's semaphore. -/
abbrev finS : Sem sig := (cc0_scoped0 : Sems sig S_).sem

/-- The transfer cell `n` of device `c`. -/
abbrev dcell (c : Dev nD) (n : ℕ) : GSem nD τ sig := ((c : Thread nD τ), .dma (dsem n))
/-- The barrier's cell of device `c`. -/
abbrev barCell (c : Dev nD) : GSem nD τ sig := ((c : Thread nD τ), .reg barS)
/-- The closing handshake's cell of device `c`. -/
abbrev finCell (c : Dev nD) : GSem nD τ sig := ((c : Thread nD τ), .reg finS)

/-- All the cells of a device: the barrier's, the closing handshake's, the ninety transfers'. -/
def csem (k : Fin 92) : SemLoc sig := if k.val = 0 then .reg barS else if k.val = 1 then .reg finS else .dma (dsem (k.val + 2))
/-- The ones the kernel itself allocates: all but the barrier's. -/
def osem (k : Fin 91) : SemLoc sig := csem k.succ
/-- The cell that a device and a number name. -/
abbrev kcell (ck : Dev nD × Fin 92) : GSem nD τ sig := ((ck.1 : Thread nD τ), csem ck.2)

/-- A transfer semaphore's number is the number it was made from. -/
theorem dsem_val (n : ℕ) (h : n < 94) : (dsem n).val = n := Nat.mod_eq_of_lt h

/-- What the copy of a chunk of activations is worth. -/
abbrev NX : ℕ := (xC 0).view.dmaCredit
/-- What the copy of a chunk of routes is worth. -/
abbrev NA : ℕ := (rC 0).view.dmaCredit
/-- What the copy of a message is worth. -/
abbrev NS : ℕ := (vC 0).view.dmaCredit

/-- A chunk of activations is worth something. -/
theorem NX_pos : 0 < NX := View.dmaCredit_pos _ (by decide)
/-- A chunk of routes is worth something. -/
theorem NA_pos : 0 < NA := View.dmaCredit_pos _ (by decide)
/-- A message is worth something. -/
theorem NS_pos : 0 < NS := View.dmaCredit_pos _ (by decide)

/-- A send buffer is worth as much as a landing slot. -/
theorem sC_credit (i : Fin 2) : (sC i).view.dmaCredit = NS := rfl

/-- The kernel's own semaphores are as the launch asks: distinct, and apart from the pipeline's. -/
theorem ownSemFacts : Pipeline.OwnSemFacts cfg0.spec osem := by decide +kernel
end Cert.RingMoe
end
-- ==== Proof.Protocol.lean ====
/-
The contents of the buffers as the run fills them, the schedule of the semaphores, what each device owes
and the levels that order the waits.
-/
module

public import proofs.«01_k».proof.Proof.Cells

@[expose] public section

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-- The state the kernel starts in. -/
def s₀ : MemSt nD τ sig (Elt F) := ⟨m, fun _ => 0, ρ⟩

/-! ## Contents -/

/-- Device `c`'s staged block of the activations, of the routes, of the weights. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s staged routes. -/
def rstg (c : Dev nD) : (cc0_stg1_0 : Ref sig .tc).ty.Contents (Elt F) :=
  (win0_1.blk (0 : Fin 1)).view.read (Elt F) ((s₀ m ρ).mem ((c : Thread nD τ).loc main_arg2))
/-- Device `c`'s staged weights. -/
def wstg (c : Dev nD) : (cc0_stg2_0 : Ref sig .tc).ty.Contents (Elt F) :=
  (win0_2.blk (0 : Fin 1)).view.read (Elt F) ((s₀ m ρ).mem ((c : Thread nD τ).loc main_arg3))

/-- The chunk device `b` stores into the gathered activations, into the gathered routes. -/
def xblk (b : Dev nD) : FVec F S512x256 .bf16 := k0_pay1 (xstg m ρ b)
/-- The chunk of routes that device `b` stores. -/
def rblk (b : Dev nD) : IVec S512x1 32 := k0_pay2 (F := F) (rstg m ρ b)

/-- Expert `k`'s weights on device `c`. -/
def wexp (c : Dev nD) (k : Fin 4) : Vec F S1x256x512 .bf16 := (wM : Memref sig .tc .vmem S4x256x512 .bf16).view.readAt (Elt F) (wR k).toLoadRect (wstg m ρ c)
/-- The first expert's weights on device `c`. -/
def w0 (c : Dev nD) : FVec F S256x512 .bf16 := k0_pay41 (wexp m ρ c 0)
/-- The second expert's weights on device `c`. -/
def w1 (c : Dev nD) : FVec F S256x512 .bf16 := k0_pay42 (wexp m ρ c 1)
/-- The third expert's weights on device `c`. -/
def w2 (c : Dev nD) : FVec F S256x512 .bf16 := k0_pay43 (wexp m ρ c 2)
/-- The fourth expert's weights on device `c`. -/
def w3 (c : Dev nD) : FVec F S256x512 .bf16 := k0_pay44 (wexp m ρ c 3)

/-- The position of device `c` on the ring as a word, and the four experts it holds. -/
def pos (c : Dev nD) : BitVec 32 := Scalar.remsi (Scalar.divsi (Dev.word c) 1#32) 16#32
/-- The four experts that device `c` holds. -/
def eb (c : Dev nD) : IVec S1x4 32 := k0_pay3 (pos c)
/-- The lower triangle of ones. -/
def tri : FVec F S512x512 .f32 := k0_pay40 k0_pay39

/-- How many tokens of a chunk of routes go to each of the four experts. -/
def cnt (e : IVec S1x4 32) (r : IVec S512x1 32) : FVec F S1x4 .f32 :=
  shapeCast S1x4 (multiReduction .add [0] S4
    (sitofp (F := F) .f32 (extui 32 (cmpi .eq (broadcastTo S512x4 r broadcasts_S512x1_S512x4) (broadcastTo S512x4 e broadcasts_S1x4_S512x4)) natLt_1_32))
    0x00000000#32 reduces_S512x4_S4 (.inl rfl) rfl) shapeCasts_S4_S1x4

/-- How many tokens of the chunks before `b` go to each of device `c`'s experts. -/
def run (c : Dev nD) : ℕ → FVec F S1x4 .f32
  | 0 => k0_pay4
  | b + 1 => addf (run c b) (cnt (eb c) (rblk m ρ ⟨b % 16, Nat.mod_lt _ (by decide)⟩))
/-- The row of the table of counts for chunk `b`. -/
def brow (c : Dev nD) (b : ℕ) : FVec F S1x4 .f32 := shapeCast S1x4 (run m ρ c b) shapeCasts_S1x4_S1x4

/-- Device `c`'s experts' contribution to chunk `b`. -/
def con (c b : Dev nD) : FVec F S512x512 .f32 :=
  k0_pay104 (eb c) tri (w0 m ρ c) (w1 m ρ c) (w2 m ρ c) (w3 m ρ c) (rblk m ρ b) (brow m ρ c b.val) (xblk m ρ b)

/-- Message `s` of device `c`: its contribution to the chunk `s + 1` places back, on top of the message the device before sent. -/
def msg : ℕ → Dev nD → FVec F S1x512x512 .bf16
  | 0, c => shapeCast S1x512x512 (truncf .bf16 (con m ρ c (back c 1)) bitsLt_bf16_f32) shapeCasts_S512x512_S1x512x512
  | s + 1, c => k0_pay54 (con m ρ c (back c (s + 2))) (msg s (prv c))

/-- The result on device `c`. -/
def own (c : Dev nD) : FVec F S512x512 .f32 := k0_pay105 (con m ρ c c)
/-- The result on device `c`. -/
def outAt (c : Dev nD) : FVec F S512x512 .f32 := k0_pay106 (own m ρ c) (msg m ρ 14 (prv c))

/-- The gathered activations and routes, filled; the table of counts, filled; a message slot holding message `s`; the landing slots, filled. -/
def XALL : (cc0_scratch0 : Ref sig .tc).ty.Contents (Elt F) := fun i =>
  xblk m ρ ⟨(i 0).val / 512, Nat.div_lt_of_lt_mul (i 0).isLt⟩ (ix2 ⟨(i 0).val % 512, Nat.mod_lt _ (by decide)⟩ (i 1))
/-- The gathered routes, filled. -/
def RALL : (cc0_scratch1 : Ref sig .tc).ty.Contents (Elt F) := fun i =>
  rblk m ρ ⟨(i 0).val / 512, Nat.div_lt_of_lt_mul (i 0).isLt⟩ (ix2 ⟨(i 0).val % 512, Nat.mod_lt _ (by decide)⟩ (i 1))
/-- The table of counts, filled. -/
def BALL (c : Dev nD) : (cc0_scratch2 : Ref sig .tc).ty.Contents (Elt F) := fun i => brow m ρ c (i 0).val (ix2 0 (i 1))
/-- A send buffer holding message `s`. -/
def SBUF (c : Dev nD) (s : ℕ) : (cc0_scratch4 : Ref sig .tc).ty.Contents (Elt F) := fun i => msg m ρ s c (ix3 0 (i 1) (i 2))
/-- The landing slots, filled. -/
def VBUF (c : Dev nD) : (cc0_scratch5 : Ref sig .tc).ty.Contents (Elt F) := fun i => msg m ρ (i 0).val (prv c) (ix3 0 (i 1) (i 2))

/-- There is one number below one. -/
theorem fin_one_eq {n : ℕ} (hn : n = 1) (a b : Fin n) : a = b := by subst hn; exact Subsingleton.elim a b

/-- Chunk `b` of the filled activations is what device `b` stored. -/
theorem XALL_read (b : Dev nD) : (xC b).view.read (Elt F) (XALL m ρ) = xblk m ρ b := by
  funext j
  show xblk m ρ ⟨(512 * b.val + 1 * (j 0).val) / 512, _⟩ (ix2 ⟨(512 * b.val + 1 * (j 0).val) % 512, _⟩ _) = _
  have h0 : (j 0).val < 512 := (j 0).isLt
  have hd : (512 * b.val + 1 * (j 0).val) / 512 = b.val := by omega
  have hm : (512 * b.val + 1 * (j 0).val) % 512 = (j 0).val := by omega
  congr 1
  · exact Fin.ext hd
  · funext a
    match a with
    | ⟨0, _⟩ => exact Fin.ext hm
    | ⟨1, _⟩ => exact Fin.ext (Nat.zero_add _ |>.trans (Nat.one_mul _))

/-- Chunk `b` of the filled routes is what device `b` stored. -/
theorem RALL_read (b : Dev nD) : (rC b).view.read (Elt F) (RALL m ρ) = rblk m ρ b := by
  funext j
  show rblk m ρ ⟨(512 * b.val + 1 * (j 0).val) / 512, _⟩ (ix2 ⟨(512 * b.val + 1 * (j 0).val) % 512, _⟩ _) = _
  have h0 : (j 0).val < 512 := (j 0).isLt
  have hd : (512 * b.val + 1 * (j 0).val) / 512 = b.val := by omega
  have hm : (512 * b.val + 1 * (j 0).val) % 512 = (j 0).val := by omega
  congr 1
  · exact Fin.ext hd
  · funext a
    match a with
    | ⟨0, _⟩ => exact Fin.ext hm
    | ⟨1, _⟩ => exact Fin.ext (Nat.zero_add _ |>.trans (Nat.one_mul _))

/-- Row `b` of the filled table is the counts before chunk `b`. -/
theorem BALL_read (c b : Dev nD) : (bM : Memref sig .tc .vmem S16x4 .f32).view.readAt (Elt F) (bR b).toLoadRect (BALL m ρ c) = brow m ρ c b.val := by
  funext j
  show brow m ρ c (b.val + 1 * (j 0).val) (ix2 0 _) = _
  have h0 : (j 0).val = 0 := Nat.lt_one_iff.mp (j 0).isLt
  rw [h0]
  congr 1
  funext a
  match a with
  | ⟨0, _⟩ => exact Fin.ext h0.symm
  | ⟨1, _⟩ => exact Fin.ext (Nat.zero_add _ |>.trans (Nat.one_mul _))

/-- A send buffer holding message `s` reads as it. -/
theorem SBUF_read (c : Dev nD) (i : Fin 2) (s : ℕ) : (sM : Memref sig .tc .vmem S2x512x512 .bf16).view.readAt (Elt F) (sR i).toLoadRect (SBUF m ρ c s) = msg m ρ s c := by
  funext j
  show msg m ρ s c (ix3 0 _ _) = _
  have h0 : (j 0).val = 0 := Nat.lt_one_iff.mp (j 0).isLt
  congr 1
  funext a
  match a with
  | ⟨0, _⟩ => exact Fin.ext h0.symm
  | ⟨1, _⟩ => exact Fin.ext (Nat.zero_add _ |>.trans (Nat.one_mul _))
  | ⟨2, _⟩ => exact Fin.ext (Nat.zero_add _ |>.trans (Nat.one_mul _))

/-- Slot `s` of the filled landing slots is message `s` of the device before. -/
theorem VBUF_read (c : Dev nD) (s : Fin 15) : (vM : Memref sig .tc .vmem S15x512x512 .bf16).view.readAt (Elt F) (vR s).toLoadRect (VBUF m ρ c) = msg m ρ s.val (prv c) := by
  funext j
  show msg m ρ (s.val + 1 * (j 0).val) (prv c) (ix3 0 _ _) = _
  have h0 : (j 0).val = 0 := Nat.lt_one_iff.mp (j 0).isLt
  rw [h0]
  congr 1
  funext a
  match a with
  | ⟨0, _⟩ => exact Fin.ext h0.symm
  | ⟨1, _⟩ => exact Fin.ext (Nat.zero_add _ |>.trans (Nat.one_mul _))
  | ⟨2, _⟩ => exact Fin.ext (Nat.zero_add _ |>.trans (Nat.one_mul _))

/-- A landing slot read through the squeezed view is the message slot it came from read through its own. -/
theorem VBUF_landed (c : Dev nD) (i : Fin 2) (s : Fin 15) :
    (vC s).view.read (Elt F) (VBUF m ρ (nxt c)) = (sC i).view.read (Elt F) (SBUF m ρ c s.val) := by
  have h := (VBUF_read m ρ (nxt c) s).trans ((congrArg (msg m ρ s.val) (prv_nxt c)).trans (SBUF_read m ρ c i s.val).symm)
  funext j
  exact congrFun h (Shape.reshapeEquiv squeezes_S1x512x512_S512x512.numel_eq j)

/-- Contents written everywhere through a view are, on the view's elements, any contents that read back as what was written. -/
theorem write_eq_on {sp : CoreSpace} {s : Shape} {e : EltTy} (M : Memref sig .tc sp s e) (fd g : M.view.ty.Contents (Elt F)) (w : s.Idx → Elt F e)
    (h : M.view.read (Elt F) g = w) : ∀ i ∈ M.view.set, M.view.write (Elt F) fd w Finset.univ i = g i := by
  intro i hi
  obtain ⟨j, -, rfl⟩ := Finset.mem_map.mp hi
  rw [View.write_emb_of_mem _ _ (Finset.mem_univ j), ← congrFun h j, View.read_apply, cast_cast, cast_eq]

/-! ## The pieces of the buffers -/

/-- The send buffer of a step: they alternate. -/
def sI (n : ℕ) : Fin 2 := ⟨n % 2, Nat.mod_lt _ (by decide)⟩
/-- The landing slot of a step. -/
def vI (n : ℕ) : Fin 15 := ⟨n % 15, Nat.mod_lt _ (by decide)⟩

/-- The left half of a share: kept by the device for reading. -/
abbrev qL : PosShare TreeShare := (fullShare : PosShare TreeShare).left
/-- The right half of a share: lent to a copy. -/
abbrev qR : PosShare TreeShare := (fullShare : PosShare TreeShare).right

/-- Device `d`'s chunk `b` of the gathered activations, of the gathered routes, its message slot, its landing slot. -/
def xP (d b : Dev nD) (q : PosShare TreeShare) (f : (cc0_scratch0 : Ref sig .tc).ty.Contents (Elt F)) : sProp 𝕄 :=
  (xC b).view.loc (d : Thread nD τ) ↦[(xC b).view.set]{q} f
/-- Device `d` holds its chunk `b` of routes, with contents `f`. -/
def rP (d b : Dev nD) (q : PosShare TreeShare) (f : (cc0_scratch1 : Ref sig .tc).ty.Contents (Elt F)) : sProp 𝕄 :=
  (rC b).view.loc (d : Thread nD τ) ↦[(rC b).view.set]{q} f
/-- Device `d` holds its send buffer `i`, with contents `f`. -/
def sP (d : Dev nD) (i : Fin 2) (f : (cc0_scratch4 : Ref sig .tc).ty.Contents (Elt F)) : sProp 𝕄 :=
  (sC i).view.loc (d : Thread nD τ) ↦[(sC i).view.set]{fullShare} f
/-- Device `d` holds its landing slot `s`, with contents `f`. -/
def vP (d : Dev nD) (s : Fin 15) (f : (cc0_scratch5 : Ref sig .tc).ty.Contents (Elt F)) : sProp 𝕄 :=
  (vC s).view.loc (d : Thread nD τ) ↦[(vC s).view.set]{fullShare} f

/-- Whatever it holds: a chunk of the gathered activations, of the gathered routes, a message slot, a landing slot. -/
def xA (d b : Dev nD) : sProp 𝕄 := iprop(∃ f, xP (F := F) d b fullShare f)
/-- Device `d` holds its chunk `b` of routes, with whatever contents. -/
def rA (d b : Dev nD) : sProp 𝕄 := iprop(∃ f, rP (F := F) d b fullShare f)
/-- Device `d` holds its send buffer `i`, with whatever contents. -/
def sA (d : Dev nD) (i : Fin 2) : sProp 𝕄 := iprop(∃ f, sP (F := F) d i f)
/-- Device `d` holds its landing slot `s`, with whatever contents. -/
def vA (d : Dev nD) (s : Fin 15) : sProp 𝕄 := iprop(∃ f, vP (F := F) d s f)

omit [FloatOps F] in
/-- A chunk of activations may be put into a cell. -/
instance xP_st (d b : Dev nD) (q) (f) : BI.Storable (upEmb : UEmb _ 𝕄) (xP (F := F) d b q f) := by unfold xP; infer_instance
omit [FloatOps F] in
/-- A chunk of routes may be put into a cell. -/
instance rP_st (d b : Dev nD) (q) (f) : BI.Storable (upEmb : UEmb _ 𝕄) (rP (F := F) d b q f) := by unfold rP; infer_instance
omit [FloatOps F] in
/-- A send buffer may be put into a cell. -/
instance sP_st (d : Dev nD) (i) (f) : BI.Storable (upEmb : UEmb _ 𝕄) (sP (F := F) d i f) := by unfold sP; infer_instance
omit [FloatOps F] in
/-- A landing slot may be put into a cell. -/
instance vP_st (d : Dev nD) (i) (f) : BI.Storable (upEmb : UEmb _ 𝕄) (vP (F := F) d i f) := by unfold vP; infer_instance
omit [FloatOps F] in
/-- A chunk of activations to be written may be put into a cell. -/
instance xA_st (d b : Dev nD) : BI.Storable (upEmb : UEmb _ 𝕄) (xA (F := F) d b) := by unfold xA; infer_instance
omit [FloatOps F] in
/-- A chunk of routes to be written may be put into a cell. -/
instance rA_st (d b : Dev nD) : BI.Storable (upEmb : UEmb _ 𝕄) (rA (F := F) d b) := by unfold rA; infer_instance
omit [FloatOps F] in
/-- A free send buffer may be put into a cell. -/
instance sA_st (d : Dev nD) (i) : BI.Storable (upEmb : UEmb _ 𝕄) (sA (F := F) d i) := by unfold sA; infer_instance
omit [FloatOps F] in
/-- A free landing slot may be put into a cell. -/
instance vA_st (d : Dev nD) (i) : BI.Storable (upEmb : UEmb _ 𝕄) (vA (F := F) d i) := by unfold vA; infer_instance

/-! ## The schedule -/

/-- What a device hands the one before it at the entry: the fifteen chunks of its gathered activations and routes that
    device will fill, and its fifteen landing slots. -/
def land (c : Dev nD) : sProp 𝕄 :=
  iprop(bigSep (Finset.range 15) (fun h => xA (F := F) (nxt c) (back c h)) ∗ bigSep (Finset.range 15) (fun h => rA (F := F) (nxt c) (back c h))
    ∗ bigSep (Finset.range 15) (fun s => vA (F := F) (nxt c) (vI s)))

omit [FloatOps F] in
/-- The places that are to be written may be put into a cell. -/
instance land_st (c : Dev nD) : BI.Storable (upEmb : UEmb _ 𝕄) (land (F := F) c) := by unfold land; infer_instance

/-- What the transfer that credits semaphore `q` of device `c` leaves there. -/
def xferPay (c : Dev nD) (q : ℕ) : sProp 𝕄 :=
  if q < 19 then xP c (back c (q - 4)) qR (XALL m ρ)
  else if q < 34 then xP c (back c (q - 19 + 1)) fullShare (XALL m ρ)
  else if q < 49 then rP c (back c (q - 34)) qR (RALL m ρ)
  else if q < 64 then rP c (back c (q - 49 + 1)) fullShare (RALL m ρ)
  else if q < 79 then sA c (sI (q - 64))
  else vP c (vI (q - 79)) (VBUF m ρ c)

/-- What a transfer brings may be put into a cell. -/
instance xferPay_st (c : Dev nD) (q : ℕ) : BI.Storable (upEmb : UEmb _ 𝕄) (xferPay m ρ c q) := by
  unfold xferPay; (repeat' split) <;> infer_instance

/-- What transfer `q` is worth. -/
def xferAmt (q : ℕ) : ℕ := if q < 34 then NX else if q < 64 then NA else NS

/-- Who pays into a cell: both neighbours at the barrier and at the end, one copy at a transfer. -/
def dutiesOf : SemLoc sig → Finset Bool
  | .reg s => if s = barS ∨ s = finS then Finset.univ else ∅
  | .dma q => if 4 ≤ q.val then {false} else ∅
/-- How much each of them pays. -/
def amountOf : SemLoc sig → ℕ
  | .reg _ => 1
  | .dma q => xferAmt q.val
/-- What each of them brings. -/
def payOf (c : Dev nD) : SemLoc sig → Bool → sProp 𝕄
  | .reg s, d => if s = barS ∧ d = true then land c else iprop(emp)
  | .dma q, _ => xferPay m ρ c q.val

/-- What is brought may be put into a cell. -/
instance payOf_st (c : Dev nD) (x : SemLoc sig) (d : Bool) : BI.Storable (upEmb : UEmb _ 𝕄) (payOf m ρ c x d) := by
  cases x with
  | reg s => unfold payOf; dsimp only; split <;> infer_instance
  | dma q => unfold payOf; infer_instance

/-- One round: a barrier or closing cell takes one unit from either neighbour, a transfer's cell the transfer's credit. -/
def rd : Rounds.Schedule (GSem nD τ sig) Bool 𝕄 where
  duties g r := if r = 0 ∧ g.1.2 = .tc then dutiesOf g.2 else ∅
  unitless _ := False
  amount g _ _ := amountOf g.2
  payload g _ d := payOf m ρ g.1.1 g.2 d
  amount_pos g _ _ _ := by
    cases g.2 with
    | reg s => exact Nat.one_pos
    | dma q =>
      show 0 < xferAmt q.val
      unfold xferAmt
      split
      · exact NX_pos
      · split
        · exact NA_pos
        · exact NS_pos

/-- The rounds' payloads may be put into a cell. -/
instance rd_payload_storable (g : GSem nD τ sig) (r : ℕ) (d : Bool) : BI.Storable (upEmb : UEmb _ 𝕄) ((rd m ρ).payload g r d) := by
  show BI.Storable upEmb (payOf m ρ g.1.1 g.2 d)
  infer_instance

section Sched
variable (c : Dev nD)

/-- The closing handshake's semaphore is not the barrier's. -/
theorem fin_ne_bar : finS ≠ barS := by decide

/-- Both neighbours pay into the barrier. -/
theorem duties_bar : (rd m ρ).duties (barCell c) 0 = Finset.univ := by
  dsimp only [rd, dutiesOf]; rw [if_pos ⟨rfl, rfl⟩]; exact if_pos (Or.inl rfl)
/-- Both neighbours pay into the closing handshake. -/
theorem duties_fin : (rd m ρ).duties (finCell c) 0 = Finset.univ := by
  dsimp only [rd, dutiesOf]; rw [if_pos ⟨rfl, rfl⟩]; exact if_pos (Or.inr rfl)
/-- One copy pays into a transfer's cell. -/
theorem duties_xfer {q : ℕ} (h4 : 4 ≤ q) (h : q < 94) : (rd m ρ).duties (dcell c q) 0 = {false} := by
  dsimp only [rd, dutiesOf]; rw [if_pos ⟨rfl, rfl⟩]; exact if_pos (by rw [dsem_val q h]; exact h4)
/-- After the first round nobody pays. -/
theorem duties_later (g : GSem nD τ sig) : ∀ r, 1 ≤ r → (rd m ρ).duties g r = ∅ :=
  fun r hr => if_neg fun h => by omega

/-- A signal of the barrier is worth one. -/
theorem amount_bar (d : Bool) : (rd m ρ).amount (barCell c) 0 d = 1 := rfl
/-- A signal of the closing handshake is worth one. -/
theorem amount_fin (d : Bool) : (rd m ρ).amount (finCell c) 0 d = 1 := rfl
/-- A transfer is worth its amount. -/
theorem amount_xfer {q : ℕ} (h : q < 94) (d : Bool) : (rd m ρ).amount (dcell c q) 0 d = xferAmt q := by
  show xferAmt (dsem q).val = _
  rw [dsem_val q h]

/-- The barrier waits for two. -/
theorem expect_bar : (rd m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- The closing handshake waits for two. -/
theorem expect_fin : (rd m ρ).expect (finCell c) 0 = 2 := by
  unfold Schedule.expect Schedule.amountOf
  rw [duties_fin, Finset.sum_congr rfl fun d _ => amount_fin m ρ c d, Finset.sum_const, Finset.card_univ, Fintype.card_bool, smul_eq_mul]
/-- A transfer's wait is for its amount. -/
theorem expect_xfer {q : ℕ} (h4 : 4 ≤ q) (h : q < 94) : (rd m ρ).expect (dcell c q) 0 = xferAmt q := by
  unfold Schedule.expect Schedule.amountOf; rw [duties_xfer m ρ c h4 h, Finset.sum_singleton, amount_xfer m ρ c h]

/-- A transfer brings what is written for it. -/
theorem payload_xfer {q : ℕ} (h : q < 94) (d : Bool) : (rd m ρ).payload (dcell c q) 0 d = xferPay m ρ c q := by
  show xferPay m ρ c (dsem q).val = _
  rw [dsem_val q h]
/-- The next device's signal at the barrier brings the places it gives. -/
theorem payload_bar_true : (rd m ρ).payload (barCell c) 0 true = land c := by dsimp only [rd, payOf]; exact if_pos ⟨rfl, rfl⟩
/-- The other signal at the barrier brings nothing. -/
theorem payload_bar_false : (rd m ρ).payload (barCell c) 0 false = iprop(emp) := by dsimp only [rd, payOf]; exact if_neg fun h => Bool.false_ne_true h.2
/-- The closing handshake brings nothing. -/
theorem payload_fin (d : Bool) : (rd m ρ).payload (finCell c) 0 d = iprop(emp) := by dsimp only [rd, payOf]; exact if_neg fun h => fin_ne_bar h.1

/-- All that the barrier brings. -/
theorem rest_bar : bigSep ((rd m ρ).duties (barCell c) 0 \ ∅) (fun d => (rd m ρ).payload (barCell c) 0 d) = iprop(emp ∗ land c) := by
  rw [Finset.sdiff_empty, duties_bar, bigSep_univ_eq_bigSepL [false, true] (by decide) (by decide), bigSepL_cons_cons, bigSepL_singleton,
    payload_bar_false, payload_bar_true]
  rfl
/-- All that a transfer brings. -/
theorem rest_xfer {q : ℕ} (h4 : 4 ≤ q) (h : q < 94) :
    bigSep ((rd m ρ).duties (dcell c q) 0 \ ∅) (fun d => (rd m ρ).payload (dcell c q) 0 d) = xferPay m ρ c q := by
  rw [Finset.sdiff_empty, duties_xfer m ρ c h4 h, bigSep_singleton, payload_xfer m ρ c h]

/-- A finished send of activations gives back the half that was lent. -/
theorem pay_xs {h : ℕ} (hh : h < 15) : xferPay m ρ c (4 + h) = xP c (back c h) qR (XALL m ρ) := by
  unfold xferPay; rw [if_pos (by omega)]; congr 2; omega
/-- A finished receipt of activations brings the chunk one place further back. -/
theorem pay_xr {h : ℕ} (hh : h < 15) : xferPay m ρ c (19 + h) = xP c (back c (h + 1)) fullShare (XALL m ρ) := by
  unfold xferPay; rw [if_neg (by omega), if_pos (by omega)]; congr 2; omega
/-- A finished send of routes gives back the half that was lent. -/
theorem pay_as {h : ℕ} (hh : h < 15) : xferPay m ρ c (34 + h) = rP c (back c h) qR (RALL m ρ) := by
  unfold xferPay; rw [if_neg (by omega), if_neg (by omega), if_pos (by omega)]; congr 2; omega
/-- A finished receipt of routes brings the chunk one place further back. -/
theorem pay_ar {h : ℕ} (hh : h < 15) : xferPay m ρ c (49 + h) = rP c (back c (h + 1)) fullShare (RALL m ρ) := by
  unfold xferPay; rw [if_neg (by omega), if_neg (by omega), if_neg (by omega), if_pos (by omega)]; congr 2; omega
/-- A finished send of a message gives back its buffer. -/
theorem pay_ss {h : ℕ} (hh : h < 15) : xferPay m ρ c (64 + h) = sA c (sI h) := by
  unfold xferPay; rw [if_neg (by omega), if_neg (by omega), if_neg (by omega), if_neg (by omega), if_pos (by omega)]; congr 2; omega
/-- A finished receipt of a message brings its slot, filled. -/
theorem pay_sr {h : ℕ} (hh : h < 15) : xferPay m ρ c (79 + h) = vP c (vI h) (VBUF m ρ c) := by
  unfold xferPay; rw [if_neg (by omega), if_neg (by omega), if_neg (by omega), if_neg (by omega), if_neg (by omega)]; congr 2; omega

end Sched

/-! ## What a device owes; the levels -/

/-- The receives from number `n` on that device `c` owes the device after it, their semaphores from `r` on, `N` each. -/
def owing (r N : ℕ) (c : Dev nD) (n : ℕ) : CellTallies nD τ sig Unit := ∑ h ∈ Finset.Ico n 15, tallyAt (dcell (nxt c) (r + h)) () N
/-- The closing handshake's two signals. -/
def owingFin (c : Dev nD) : CellTallies nD τ sig Unit := tallyAt (finCell (nxt c)) () 1 + tallyAt (finCell (prv c)) () 1
/-- After `a` sends of activations, `b` of routes and `s` of messages. -/
def O (c : Dev nD) (a b s : ℕ) : CellTallies nD τ sig Unit := owing 19 NX c a + (owing 49 NA c b + (owing 79 NS c s + owingFin c))
/-- At the start the two signals of the entry handshake too. -/
def O₁ (c : Dev nD) : CellTallies nD τ sig Unit := O c 0 0 0 + tallyAt (barCell (nxt c)) () 1
/-- All that device `c` owes at the launch. -/
def O₀ (c : Dev nD) : CellTallies nD τ sig Unit := O₁ c + tallyAt (barCell (prv c)) () 1

/-- The debt of a chain, its next copy split off. -/
theorem owing_peel (r N : ℕ) (c : Dev nD) {n : ℕ} (h : n < 15) : owing r N c n = owing r N c (n + 1) + tallyAt (dcell (nxt c) (r + n)) () N := by
  unfold owing; rw [Finset.sum_eq_sum_Ico_succ_bot h, add_comm]
/-- A chain that is over owes nothing. -/
theorem owing_end (r N : ℕ) (c : Dev nD) : owing r N c 15 = 0 := by unfold owing; rw [Finset.Ico_self, Finset.sum_empty]

/-- The debt, with the next copy of activations split off. -/
theorem O_x (c : Dev nD) {a b s : ℕ} (h : a < 15) : O c a b s = O c (a + 1) b s + tallyAt (dcell (nxt c) (19 + a)) () NX := by
  unfold O; rw [owing_peel 19 NX c h]; abel
/-- The debt, with the next copy of routes split off. -/
theorem O_a (c : Dev nD) {a b s : ℕ} (h : b < 15) : O c a b s = O c a (b + 1) s + tallyAt (dcell (nxt c) (49 + b)) () NA := by
  unfold O; rw [owing_peel 49 NA c h]; abel
/-- The debt, with the next message split off. -/
theorem O_s (c : Dev nD) {a b s : ℕ} (h : s < 15) : O c a b s = O c a b (s + 1) + tallyAt (dcell (nxt c) (79 + s)) () NS := by
  unfold O; rw [owing_peel 79 NS c h]; abel
/-- When all chains are over, the closing handshake alone is owed. -/
theorem O_end (c : Dev nD) : O c 15 15 15 = owingFin c := by unfold O; rw [owing_end, owing_end, owing_end, zero_add, zero_add, zero_add]

/-- The one index of each cell of a core. -/
def L (g : GSem nD τ sig) : Finset Unit := if g.1.2 = .tc then {()} else ∅
/-- The level of a semaphore: sends and staging lowest, then the entry handshake, the routes in their order, the activations and the messages in
    the order they interleave, the closing handshake. -/
def lvOf : SemLoc sig → ℕ
  | .reg s => if s = barS then 1 else if s = finS then 100 else 0
  | .dma q => if q.val < 19 then 0 else if q.val < 34 then 20 + 2 * (q.val - 19) else if q.val < 49 then 0 else if q.val < 64 then 2 + (q.val - 49)
      else if q.val < 79 then 0 else 21 + 2 * (q.val - 79)
/-- The level of a cell. -/
def lv (g : GSem nD τ sig) (_ : Unit) : ℕ := lvOf g.2

/-- Cells of other cores have no index. -/
theorem L_of_ne (g : GSem nD τ sig) (h : g.1.2 ≠ .tc) : L g = ∅ := if_neg h
/-- Every cell of a core has its one index. -/
theorem L_tc (c : Dev nD) (sm : SemLoc sig) : L ((c : Thread nD τ), sm) = {()} := if_pos rfl

/-- The barrier's level. -/
theorem lv_bar : lvOf (.reg barS) = 1 := by dsimp only [lvOf]; exact if_pos rfl
/-- The closing handshake's level. -/
theorem lv_fin : lvOf (.reg finS) = 100 := by dsimp only [lvOf]; rw [if_neg fin_ne_bar]; exact if_pos rfl
/-- The level of a send of activations. -/
theorem lv_xs {h : ℕ} (hh : h < 15) : lvOf (.dma (dsem (4 + h))) = 0 := by
  show (if (dsem (4 + h)).val < 19 then 0 else _) = _; rw [dsem_val _ (by omega), if_pos (by omega)]
/-- The level of a receipt of activations. -/
theorem lv_xr {h : ℕ} (hh : h < 15) : lvOf (.dma (dsem (19 + h))) = 20 + 2 * h := by
  unfold lvOf; dsimp only; rw [dsem_val _ (by omega), if_neg (by omega), if_pos (by omega)]; omega
/-- The level of a send of routes. -/
theorem lv_as {h : ℕ} (hh : h < 15) : lvOf (.dma (dsem (34 + h))) = 0 := by
  unfold lvOf; dsimp only; rw [dsem_val _ (by omega), if_neg (by omega), if_neg (by omega), if_pos (by omega)]
/-- The level of a receipt of routes. -/
theorem lv_ar {h : ℕ} (hh : h < 15) : lvOf (.dma (dsem (49 + h))) = 2 + h := by
  unfold lvOf; dsimp only; rw [dsem_val _ (by omega), if_neg (by omega), if_neg (by omega), if_neg (by omega), if_pos (by omega)]; omega
/-- The level of a send of a message. -/
theorem lv_ss {h : ℕ} (hh : h < 15) : lvOf (.dma (dsem (64 + h))) = 0 := by
  unfold lvOf; dsimp only
  rw [dsem_val _ (by omega), if_neg (by omega), if_neg (by omega), if_neg (by omega), if_neg (by omega), if_pos (by omega)]
/-- The level of a receipt of a message. -/
theorem lv_sr {h : ℕ} (hh : h < 15) : lvOf (.dma (dsem (79 + h))) = 21 + 2 * h := by
  unfold lvOf; dsimp only
  rw [dsem_val _ (by omega), if_neg (by omega), if_neg (by omega), if_neg (by omega), if_neg (by omega), if_neg (by omega)]; omega

/-- A debt to one cell is a debt to no other. -/
theorem tally_pos {g g' : GSem nD τ sig} {N : ℕ} {u : Unit} (h : 0 < tallyAt (Ix := Unit) g' () N g u) : g = g' := by
  rw [tallyAt_apply] at h
  by_contra hn
  rw [if_neg fun h' => hn h'.1] at h
  exact Nat.lt_irrefl 0 h

/-- A chain's debt is to one of its cells still ahead. -/
theorem owing_pos {r N : ℕ} {c : Dev nD} {n : ℕ} {g : GSem nD τ sig} {u : Unit} (h : 0 < owing r N c n g u) :
    ∃ k, n ≤ k ∧ k < 15 ∧ g = dcell (nxt c) (r + k) := by
  unfold owing at h
  rw [Finset.sum_apply, Finsupp.finset_sum_apply] at h
  obtain ⟨k, hk, hk'⟩ := Finset.exists_ne_zero_of_sum_ne_zero (Nat.pos_iff_ne_zero.mp h)
  exact ⟨k, (Finset.mem_Ico.mp hk).1, (Finset.mem_Ico.mp hk).2, tally_pos (Nat.pos_iff_ne_zero.mpr hk')⟩

/-- A debt in a sum is in one of the two. -/
theorem add_pos_or {A B : CellTallies nD τ sig Unit} {g : GSem nD τ sig} {u : Unit} (h : 0 < (A + B) g u) : 0 < A g u ∨ 0 < B g u := by
  rw [Pi.add_apply, Finsupp.add_apply] at h; omega

/-- Everything a device still owes lies on a core and above level `v`, as long as `v` is below the next cell of each kind. -/
theorem O_above {c : Dev nD} {a b s v : ℕ} (ha : 15 ≤ a ∨ v < 20 + 2 * a) (hb : 15 ≤ b ∨ v < 2 + b) (hs : 15 ≤ s ∨ v < 21 + 2 * s) (hv : v < 100)
    {g : GSem nD τ sig} {u : Unit} (h : 0 < O c a b s g u) : g.1.2 = .tc ∧ v < lv g u := by
  unfold O at h
  rcases add_pos_or h with h | h
  · obtain ⟨k, h1, h2, rfl⟩ := owing_pos h
    exact ⟨rfl, by show v < lvOf _; rw [lv_xr h2]; omega⟩
  rcases add_pos_or h with h | h
  · obtain ⟨k, h1, h2, rfl⟩ := owing_pos h
    exact ⟨rfl, by show v < lvOf _; rw [lv_ar h2]; omega⟩
  rcases add_pos_or h with h | h
  · obtain ⟨k, h1, h2, rfl⟩ := owing_pos h
    exact ⟨rfl, by show v < lvOf _; rw [lv_sr h2]; omega⟩
  unfold owingFin at h
  rcases add_pos_or h with h | h <;> rw [tally_pos h] <;> exact ⟨rfl, by show v < lvOf _; rw [lv_fin]; exact hv⟩

/-- All that is owed at the launch lies above the lowest level. -/
theorem O₀_above {c : Dev nD} {g : GSem nD τ sig} {u : Unit} (h : 0 < O₀ c g u) : g.1.2 = .tc ∧ 0 < lv g u := by
  unfold O₀ at h
  rcases add_pos_or h with h | h
  · unfold O₁ at h
    rcases add_pos_or h with h | h
    · exact O_above (v := 0) (Or.inr (by decide)) (Or.inr (by decide)) (Or.inr (by decide)) (by decide) h
    · rw [tally_pos h]; exact ⟨rfl, by show 0 < lvOf _; rw [lv_bar]; decide⟩
  · rw [tally_pos h]; exact ⟨rfl, by show 0 < lvOf _; rw [lv_bar]; decide⟩

omit [FloatOps F] in
/-- A device may wait on a cell whose level lies below all that it owes. -/
theorem mayWait_of (c : Dev nD) (sm : SemLoc sig) (v : ℕ) (hsm : lvOf sm ≤ v) (D : CellTallies nD τ sig Unit)
    (hD : ∀ (g : GSem nD τ sig) (u : Unit), 0 < D g u → g.1.2 = .tc ∧ v < lv g u) : (levAts L lv : sProp 𝕄) ⊢ MayWait (c : Thread nD τ) sm () D :=
  MayOwe.of_cut (L := L) (lev := lv) v (fun p hp => by rw [Finset.mem_singleton.mp hp, L_tc]; exact Finset.mem_singleton_self _)
    (fun g u hg => by unfold L; rw [if_pos (hD g u hg).1]; exact Finset.mem_singleton_self _)
    (fun p hp => by rw [Finset.mem_singleton.mp hp]; exact hsm)
    (fun g u hg => (hD g u hg).2)

omit [FloatOps F] in
/-- A wait at level `v`, everything owed above. -/
theorem mayWait (c : Dev nD) (sm : SemLoc sig) {a b s : ℕ} (v : ℕ) (hsm : lvOf sm = v) (ha : 15 ≤ a ∨ v < 20 + 2 * a) (hb : 15 ≤ b ∨ v < 2 + b)
    (hs : 15 ≤ s ∨ v < 21 + 2 * s) (hv : v < 100) : (levAts L lv : sProp 𝕄) ⊢ MayWait (c : Thread nD τ) sm () (O c a b s) :=
  mayWait_of c sm v hsm.le _ fun g u h => O_above ha hb hs hv h

omit [FloatOps F] in
/-- A device may wait for its staging copies. -/
theorem mayWait_stage (c : Dev nD) (q : DmaSem sig) (hq : q.val < 4) (D : CellTallies nD τ sig Unit) (hD : D = O₀ c ∨ D = 0) :
    (levAts L lv : sProp 𝕄) ⊢ MayWait (c : Thread nD τ) (.dma q) () D := by
  rcases hD with rfl | rfl
  · exact mayWait_of c _ 0 (by show (if q.val < 19 then 0 else _) ≤ 0; rw [if_pos (by omega)]) _ fun g u h => O₀_above h
  · rw [MayWait_zero]; iintro -; iempintro

end Cert.RingMoe
end
-- ==== Proof.State.lean ====
/-
What a device holds between two operations of the kernel.
-/
module

public import proofs.«01_k».proof.Proof.Protocol

@[expose] public section

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- All cells' invariants under the names `K`, that all are at round 0, and the levels. -/
def Rec (K : Dev nD × Fin 92 → ℕ) : sProp 𝕄 :=
  iprop((bigSep Finset.univ fun ck : Dev nD × Fin 92 => cellInv ER (rd m ρ) (K ck) (kcell ck))
    ∗ (bigSep Finset.univ fun ck : Dev nD × Fin 92 => reached ER (kcell ck) 0) ∗ levAts L lv)

/-- The standing records may be used again and again. -/
instance Rec_persistent (K : Dev nD × Fin 92 → ℕ) : BI.Persistent (Rec m ρ K) := by unfold Rec; infer_instance

/-- The index of transfer semaphore `q` among a device's cells. -/
def kq (q : ℕ) : Fin 92 := ⟨(q - 2) % 92, Nat.mod_lt _ (by decide)⟩

/-- A transfer's cell by its number. -/
theorem kcell_kq (d : Dev nD) {q : ℕ} (h4 : 4 ≤ q) (h : q < 94) : kcell (d, kq q) = dcell d q := by
  show ((d : Thread nD τ), csem (kq q)) = _
  have : (kq q).val = q - 2 := Nat.mod_eq_of_lt (by omega)
  unfold csem
  rw [if_neg (by omega), if_neg (by omega), this, show q - 2 + 2 = q by omega]
/-- The barrier's cell is number nought. -/
theorem kcell_bar (d : Dev nD) : kcell (d, 0) = barCell d := rfl
/-- The closing handshake's cell is number one. -/
theorem kcell_fin (d : Dev nD) : kcell (d, 1) = finCell d := rfl

section Facts
variable (K : Dev nD × Fin 92 → ℕ)

/-- The invariant of one cell among those of all. -/
theorem inv_at (ck : Dev nD × Fin 92) :
    (bigSep Finset.univ fun ck : Dev nD × Fin 92 => (cellInv ER (rd m ρ) (K ck) (kcell ck) : sProp 𝕄)) ⊢ cellInv ER (rd m ρ) (K ck) (kcell ck) :=
  bigSep_elim (Finset.mem_univ ck)
omit [FloatOps F] in
/-- One cell's first round among those of all. -/
theorem reached_at (ck : Dev nD × Fin 92) :
    (bigSep Finset.univ fun ck : Dev nD × Fin 92 => (reached ER (kcell ck) 0 : sProp 𝕄)) ⊢ reached ER (kcell ck) 0 :=
  bigSep_elim (Finset.mem_univ ck)
/-- The records hold every cell's invariant. -/
theorem rec_inv (ck : Dev nD × Fin 92) : Rec m ρ K ⊢ cellInv ER (rd m ρ) (K ck) (kcell ck) := by
  unfold Rec; iintro ⟨H, -⟩; iapply (inv_at m ρ K ck); iexact H
/-- The records say that every cell's first round is open. -/
theorem rec_reached (ck : Dev nD × Fin 92) : Rec m ρ K ⊢ reached ER (kcell ck) 0 := by
  unfold Rec; iintro ⟨-, H, -⟩; iapply (reached_at (F := F) ck); iexact H
/-- The records hold the levels. -/
theorem rec_lev : Rec m ρ K ⊢ levAts L lv := by unfold Rec; iintro ⟨-, -, H⟩; iexact H

/-- The records hold the invariant of a transfer's cell. -/
theorem inv_q (d : Dev nD) {q : ℕ} (h4 : 4 ≤ q) (h : q < 94) : Rec m ρ K ⊢ cellInv ER (rd m ρ) (K (d, kq q)) (dcell d q) := by
  rw [← kcell_kq d h4 h]; exact rec_inv m ρ K _
/-- The records say that a transfer's first round is open. -/
theorem reached_q (d : Dev nD) {q : ℕ} (h4 : 4 ≤ q) (h : q < 94) : Rec m ρ K ⊢ reached ER (dcell d q) 0 := by
  rw [← kcell_kq d h4 h]; exact rec_reached m ρ K _
/-- The records hold the barrier's invariant. -/
theorem inv_bar (d : Dev nD) : Rec m ρ K ⊢ cellInv ER (rd m ρ) (K (d, 0)) (barCell d) := by
  rw [← kcell_bar d]; exact rec_inv m ρ K _
/-- The records say that the barrier's round is open. -/
theorem reached_bar (d : Dev nD) : Rec m ρ K ⊢ reached ER (barCell d) 0 := by
  rw [← kcell_bar d]; exact rec_reached m ρ K _
/-- The records hold the closing handshake's invariant. -/
theorem inv_fin (d : Dev nD) : Rec m ρ K ⊢ cellInv ER (rd m ρ) (K (d, 1)) (finCell d) := by
  rw [← kcell_fin d]; exact rec_inv m ρ K _
/-- The records say that the closing handshake's round is open. -/
theorem reached_fin (d : Dev nD) : Rec m ρ K ⊢ reached ER (finCell d) 0 := by
  rw [← kcell_fin d]; exact rec_reached m ρ K _

end Facts

/-! ## One channel of transfers -/

/-- A channel of fifteen transfers to the next device: send semaphores from `sb` on, receive semaphores from `rb` on, `N` each;
    `lnd h` is where transfer `h` lands. After `x` sends, `y` receives and `z` waits for own sends, the device holds the
    tokens and landing places of the sends to come, the positions and credit of the receives and waits to come, and the
    final positions of those done; `lf p` for every position received, `rt p` for those not lent to a send. -/
def Ch (sb rb N : ℕ) (c : Dev nD) (lnd lf rt : ℕ → sProp 𝕄) (x y z : ℕ) : sProp 𝕄 :=
  iprop((bigSep (Finset.Ico x 15) fun h => iprop(dutyTok ER (dcell c (sb + h)) 0 false ∗ dutyTok ER (dcell (nxt c) (rb + h)) 0 false ∗ lnd h))
    ∗ (bigSep (Finset.Ico y 15) fun h => iprop(atPos ER (dcell c (rb + h)) 0 ∅ 0 ∗ cred (tallyAt (dcell c (rb + h)) () N)))
    ∗ (bigSep (Finset.range y) fun h => atPos ER (dcell c (rb + h)) (0 + 1) ∅ 0)
    ∗ (bigSep (Finset.Ico z 15) fun h => atPos ER (dcell c (sb + h)) 0 ∅ 0)
    ∗ (bigSep (Finset.Ico z x) fun h => cred (tallyAt (dcell c (sb + h)) () N))
    ∗ (bigSep (Finset.range z) fun h => atPos ER (dcell c (sb + h)) (0 + 1) ∅ 0)
    ∗ (bigSep (Finset.range (y + 1)) lf)
    ∗ (bigSep (Finset.Ico x (y + 1)) rt) ∗ (bigSep (Finset.range z) rt))

section Chan
variable (sb rb N : ℕ) (c : Dev nD) (lnd lf rt : ℕ → sProp (MT nD τ sig Unit (Elt F) ℕ UU ℕ)) {x y z : ℕ}

omit [FloatOps F] in
/-- Taking out the next send, and putting back its credit. -/
theorem ch_send (hx : x < 15) (hy : x ≤ y) (hz : z ≤ x) :
    Ch sb rb N c lnd lf rt x y z ⊢ iprop((dutyTok ER (dcell c (sb + x)) 0 false ∗ dutyTok ER (dcell (nxt c) (rb + x)) 0 false ∗ lnd x ∗ rt x)
      ∗ (cred (tallyAt (dcell c (sb + x)) () N) -∗ Ch sb rb N c lnd lf rt (x + 1) y z)) := by
  unfold Ch
  rw [bigSep_Ico_succ_bot hx, bigSep_Ico_succ_bot (show x < y + 1 by omega), bigSep_Ico_succ_top hz]
  iintro ⟨⟨⟨H1, H2, H3⟩, Ha⟩, Hb, Hc, Hd, He, Hf, Hg, ⟨H4, Hh⟩, Hi⟩
  isplitl [H1 H2 H3 H4]
  · isplitl [H1]; · iexact H1
    isplitl [H2]; · iexact H2
    isplitl [H3]; · iexact H3
    iexact H4
  iintro Hcr
  isplitl [Ha]; · iexact Ha
  isplitl [Hb]; · iexact Hb
  isplitl [Hc]; · iexact Hc
  isplitl [Hd]; · iexact Hd
  isplitl [He Hcr]
  · isplitl [Hcr]; · iexact Hcr
    iexact He
  isplitl [Hf]; · iexact Hf
  isplitl [Hg]; · iexact Hg
  isplitl [Hh]; · iexact Hh
  iexact Hi

omit [FloatOps F] in
/-- Taking out the next receive, and putting back what came. -/
theorem ch_recv (hy : y < 15) (hx : x ≤ y + 1) :
    Ch sb rb N c lnd lf rt x y z ⊢ iprop((atPos ER (dcell c (rb + y)) 0 ∅ 0 ∗ cred (tallyAt (dcell c (rb + y)) () N))
      ∗ ((atPos ER (dcell c (rb + y)) (0 + 1) ∅ 0 ∗ lf (y + 1) ∗ rt (y + 1)) -∗ Ch sb rb N c lnd lf rt x (y + 1) z)) := by
  unfold Ch
  rw [bigSep_Ico_succ_bot hy, bigSep_range_succ y (fun h => atPos ER (dcell c (rb + h)) (0 + 1) ∅ 0), bigSep_range_succ (y + 1) lf, bigSep_Ico_succ_top hx]
  iintro ⟨Ha, ⟨⟨H1, H2⟩, Hb⟩, Hc, Hd, He, Hf, Hg, Hh, Hi⟩
  isplitl [H1 H2]
  · isplitl [H1]; · iexact H1
    iexact H2
  iintro ⟨H1, H2, H3⟩
  isplitl [Ha]; · iexact Ha
  isplitl [Hb]; · iexact Hb
  isplitl [Hc H1]
  · isplitl [H1]; · iexact H1
    iexact Hc
  isplitl [Hd]; · iexact Hd
  isplitl [He]; · iexact He
  isplitl [Hf]; · iexact Hf
  isplitl [Hg H2]
  · isplitl [H2]; · iexact H2
    iexact Hg
  isplitl [Hh H3]
  · isplitl [H3]; · iexact H3
    iexact Hh
  iexact Hi

omit [FloatOps F] in
/-- Taking out the next wait for an own send, and putting back what it returns. -/
theorem ch_wait (hz : z < x) (hx : x ≤ 15) :
    Ch sb rb N c lnd lf rt x y z ⊢ iprop((atPos ER (dcell c (sb + z)) 0 ∅ 0 ∗ cred (tallyAt (dcell c (sb + z)) () N))
      ∗ ((atPos ER (dcell c (sb + z)) (0 + 1) ∅ 0 ∗ rt z) -∗ Ch sb rb N c lnd lf rt x y (z + 1))) := by
  unfold Ch
  rw [bigSep_Ico_succ_bot (show z < 15 by omega), bigSep_Ico_succ_bot hz, bigSep_range_succ z, bigSep_range_succ z]
  iintro ⟨Ha, Hb, Hc, ⟨H1, Hd⟩, ⟨H2, He⟩, Hf, Hg, Hh, Hi⟩
  isplitl [H1 H2]
  · isplitl [H1]; · iexact H1
    iexact H2
  iintro ⟨H1, H2⟩
  isplitl [Ha]; · iexact Ha
  isplitl [Hb]; · iexact Hb
  isplitl [Hc]; · iexact Hc
  isplitl [Hd]; · iexact Hd
  isplitl [He]; · iexact He
  isplitl [Hf H1]
  · isplitl [H1]; · iexact H1
    iexact Hf
  isplitl [Hg]; · iexact Hg
  isplitl [Hh]; · iexact Hh
  isplitl [H2]; · iexact H2
  iexact Hi

omit [FloatOps F] in
/-- One member of a separated family, taken out to be put back. -/
theorem bigSep_borrow {I : Type} [DecidableEq I] {s : Finset I} {i : I} (h : i ∈ s) (Φ : I → sProp 𝕄) :
    bigSep s Φ ⊢ iprop(Φ i ∗ (Φ i -∗ bigSep s Φ)) := by
  have e : bigSep s Φ = iprop(Φ i ∗ bigSep (s.erase i) Φ) := bigSep_erase h
  rw [e]
  iintro ⟨H1, H2⟩
  isplitl [H1]; · iexact H1
  iintro H1
  isplitl [H1] <;> iassumption

omit [FloatOps F] in
/-- Borrowing what has been received at a position. -/
theorem ch_load {p : ℕ} (hp : p ≤ y) : Ch sb rb N c lnd lf rt x y z ⊢ iprop(lf p ∗ (lf p -∗ Ch sb rb N c lnd lf rt x y z)) := by
  unfold Ch
  iintro ⟨Ha, Hb, Hc, Hd, He, Hf, Hg, Hh⟩
  ihave Hg := (bigSep_borrow (Finset.mem_range.mpr (show p < y + 1 by omega)) lf) $$ Hg
  icases Hg with ⟨Hp, Hw⟩
  isplitl [Hp]; · iexact Hp
  iintro Hp
  isplitl [Ha]; · iexact Ha
  isplitl [Hb]; · iexact Hb
  isplitl [Hc]; · iexact Hc
  isplitl [Hd]; · iexact Hd
  isplitl [He]; · iexact He
  isplitl [Hf]; · iexact Hf
  isplitl [Hp Hw]; · iapply Hw $$ Hp
  iexact Hh

end Chan

/-! ## The state of a device between two operations -/

/-- A device's debts. -/
def Owe (c : Dev nD) (a b s : ℕ) : sProp 𝕄 := iprop(∃ W, owes (c : Thread nD τ) (O c a b s) W)

/-- The channel of the activations, of the routes, of the messages. -/
def X (c : Dev nD) : ℕ → ℕ → ℕ → sProp 𝕄 :=
  Ch 4 19 NX c (fun h => xA (nxt c) (back c h)) (fun p => xP c (back c p) qL (XALL m ρ)) (fun p => xP c (back c p) qR (XALL m ρ))
/-- The chain of copies of routes. -/
def A (c : Dev nD) : ℕ → ℕ → ℕ → sProp 𝕄 :=
  Ch 34 49 NA c (fun h => rA (nxt c) (back c h)) (fun p => rP c (back c p) qL (RALL m ρ)) (fun p => rP c (back c p) qR (RALL m ρ))
/-- The landing slot of a message that has arrived. -/
def vGot (c : Dev nD) : ℕ → sProp 𝕄
  | 0 => iprop(emp)
  | s + 1 => vP c (vI s) (VBUF m ρ c)
/-- The chain of messages. -/
def V (c : Dev nD) : ℕ → ℕ → ℕ → sProp 𝕄 :=
  Ch 64 79 NS c (fun h => vA (nxt c) (vI h)) (vGot m ρ c) (fun _ => iprop(emp))

/-- The message slots: those of the messages from `s` to `w + 1` are at home, `s`'s holding message `s` if `r`. -/
def Sl (c : Dev nD) (s w : ℕ) (r : Bool) : sProp 𝕄 :=
  if r then iprop(sP c (sI s) (SBUF m ρ c s) ∗ bigSep (Finset.Ico (s + 1) (w + 2)) fun k => sA c (sI k))
  else bigSep (Finset.Ico s (w + 2)) fun k => sA c (sI k)

/-- The table of counts, its first `b` rows written. -/
def Bs (c : Dev nD) (b : ℕ) : sProp 𝕄 :=
  iprop(∃ f : (cc0_scratch2 : Ref sig .tc).ty.Contents (Elt F), ⌜∀ i, (i 0).val < b → f i = BALL m ρ c i⌝
    ∗ ((c : Thread nD τ).loc cc0_scratch2 ↦{fullShare} f))
/-- The device's own contribution, written if `r`; its result, written if `r`. -/
def Cs (c : Dev nD) (r : Bool) : sProp 𝕄 :=
  iprop(∃ f : (cc0_scratch3 : Ref sig .tc).ty.Contents (Elt F), ⌜r = true → f = own m ρ c⌝ ∗ ((c : Thread nD τ).loc cc0_scratch3 ↦{fullShare} f))
/-- The result's staging buffer, right once stored. -/
def Os (c : Dev nD) (r : Bool) : sProp 𝕄 :=
  iprop(∃ f : (cc0_stg3_0 : Ref sig .tc).ty.Contents (Elt F), ⌜r = true → f = outAt m ρ c⌝ ∗ ((c : Thread nD τ).loc cc0_stg3_0 ↦{fullShare} f))
/-- The staged weights. -/
def Ws (c : Dev nD) : sProp 𝕄 := ((c : Thread nD τ).loc cc0_stg2_0 ↦{fullShare} wstg m ρ c)

/-- The state between two operations after the entry handshake, whatever else (`Z`) the device holds. -/
def St (K : Dev nD × Fin 92 → ℕ) (Z : sProp 𝕄) (c : Dev nD) (xs xr xw ac ar aw ss sr sw : ℕ) (r : Bool) (b : ℕ) (r' r'' : Bool) : sProp 𝕄 :=
  iprop(Rec m ρ K ∗ Owe c xs ac ss ∗ X m ρ c xs xr xw ∗ A m ρ c ac ar aw ∗ V m ρ c ss sr sw ∗ Sl m ρ c ss sw r ∗ Bs m ρ c b ∗ Cs m ρ c r' ∗ Os m ρ c r'' ∗ Ws m ρ c ∗ Z)

end Cert.RingMoe
end
-- ==== Proof.Sends.lean ====
/-
The sends of the kernel, from the state before to the state after.
-/
module

public import proofs.«01_k».proof.Proof.State

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

section Ops
variable (K : Dev nD × Fin 92 → ℕ) (Z : sProp (MT nD τ sig Unit (Elt F) ℕ UU ℕ)) (c : Dev nD) {xs xr xw ac ar aw ss sr sw : ℕ} {r : Bool} {b : ℕ} {r' r'' : Bool}
variable {α : Type} {Q : α → sProp (MT nD τ sig Unit (Elt F) ℕ UU ℕ)}

/-- The send buffers while message `s` is being prepared. -/
theorem Sl_true (s w : ℕ) : Sl m ρ c s w true = iprop(sP c (sI s) (SBUF m ρ c s) ∗ bigSep (Finset.Ico (s + 1) (w + 2)) fun k => sA c (sI k)) := if_pos rfl
/-- The send buffers that are free between messages. -/
theorem Sl_false (s w : ℕ) : Sl m ρ c s w false = bigSep (Finset.Ico s (w + 2)) fun k => sA c (sI k) := if_neg Bool.false_ne_true
/-- A chunk of activations to be written has some contents. -/
theorem opens_xA (d e : Dev nD) : (xA d e : sProp 𝕄) ⊢ iprop(∃ f, xP (F := F) d e fullShare f) := Entails.refl _
/-- A chunk of routes to be written has some contents. -/
theorem opens_rA (d e : Dev nD) : (rA d e : sProp 𝕄) ⊢ iprop(∃ f, rP (F := F) d e fullShare f) := Entails.refl _
/-- A free send buffer has some contents. -/
theorem opens_sA (d : Dev nD) (i : Fin 2) : (sA d i : sProp 𝕄) ⊢ iprop(∃ f, sP (F := F) d i f) := Entails.refl _
/-- A free landing slot has some contents. -/
theorem opens_vA (d : Dev nD) (i : Fin 15) : (vA d i : sProp 𝕄) ⊢ iprop(∃ f, vP (F := F) d i f) := Entails.refl _

/-- A chunk of activations as a points-to. -/
theorem xP_pts (d e : Dev nD) (q f) : (xP (F := F) d e q f : sProp 𝕄) ⊢ iprop((xC e).view.loc (d : Thread nD τ) ↦[(xC e).view.set]{q} f) := Entails.refl _
/-- A chunk of routes as a points-to. -/
theorem rP_pts (d e : Dev nD) (q f) : (rP (F := F) d e q f : sProp 𝕄) ⊢ iprop((rC e).view.loc (d : Thread nD τ) ↦[(rC e).view.set]{q} f) := Entails.refl _
/-- A send buffer as a points-to. -/
theorem sP_pts (d : Dev nD) (i : Fin 2) (f) : (sP (F := F) d i f : sProp 𝕄) ⊢ iprop((sC i).view.loc (d : Thread nD τ) ↦[(sC i).view.set]{fullShare} f) := Entails.refl _
/-- A landing slot as a points-to. -/
theorem vP_pts (d : Dev nD) (i : Fin 15) (f) : (vP (F := F) d i f : sProp 𝕄) ⊢ iprop((vC i).view.loc (d : Thread nD τ) ↦[(vC i).view.set]{fullShare} f) := Entails.refl _
/-- A chunk of activations, its share halved. -/
theorem xP_halves (d e : Dev nD) (f) : (xP (F := F) d e fullShare f : sProp 𝕄) ⊢ iprop(xP d e qL f ∗ xP d e qR f) := by
  unfold xP; exact (pointsTo_share (PosShare.mem_left_op_right fullShare)).1
/-- A chunk of routes, its share halved. -/
theorem rP_halves (d e : Dev nD) (f) : (rP (F := F) d e fullShare f : sProp 𝕄) ⊢ iprop(rP d e qL f ∗ rP d e qR f) := by
  unfold rP; exact (pointsTo_share (PosShare.mem_left_op_right fullShare)).1
/-- The two halves of a chunk of activations, joined. -/
theorem xP_whole (d e : Dev nD) (f) : iprop(xP d e qL f ∗ xP d e qR f) ⊢ (xP (F := F) d e fullShare f : sProp 𝕄) := by
  unfold xP; exact (pointsTo_share (PosShare.mem_left_op_right fullShare)).2
/-- The two halves of a chunk of routes, joined. -/
theorem rP_whole (d e : Dev nD) (f) : iprop(rP d e qL f ∗ rP d e qR f) ⊢ (rP (F := F) d e fullShare f : sProp 𝕄) := by
  unfold rP; exact (pointsTo_share (PosShare.mem_left_op_right fullShare)).2

/-! ### Sends -/

/-- Sending the next chunk of activations on. -/
theorem op_xsend (h : xs < 15) (h1 : xs ≤ xr) (h2 : xw ≤ xs) {n : Dev nD} (hn : n = nxt c) {off off' : Fin 2 → Nat}
    {inb : ∀ a, off a + S512x256.size a ≤ S8192x256.size a} {inb' : ∀ a, off' a + S512x256.size a ≤ S8192x256.size a}
    (ho : off = ![512 * (back c xs).val, 0]) (ho' : off' = ![512 * (back c xs).val, 0]) {sS sV : DmaSem sig} (hs : sS = dsem (4 + xs)) (hv : sV = dsem (19 + xs))
    {hst : ∀ a, (Rect.unit (s := S8192x256) off S512x256.size inb).stride a = 1} {hst' : ∀ a, (Rect.unit (s := S8192x256) off' S512x256.size inb').stride a = 1}
    {hsc : (xaM.slice (Rect.unit (s := S8192x256) off' S512x256.size inb') hst' : Memref sig (Dev.tc n : Thread nD τ).2.kind .vmem _ _).view.ref.isScScratch = false}
    {hsrc : (xaM.slice (Rect.unit (s := S8192x256) off S512x256.size inb) hst).view.WordExact} {hdst : (xaM.slice (Rect.unit (s := S8192x256) off' S512x256.size inb') hst').view.WordExact}
    {hsem : DmaTarget.Typed .vmem (.dma sV) (.remote (Dev.tc n : Thread nD τ) (xaM.slice (Rect.unit (s := S8192x256) off' S512x256.size inb') hst') (.dma sS) hsc)}
    {k : PUnit → Prog (TpuEff nD τ sig (Elt F) Λ₀ .tc) α}
    (hk : St m ρ K Z c (xs + 1) xr xw ac ar aw ss sr sw r b r' r'' ⊢ WP c (k ⟨⟩) Q) :
    St m ρ K Z c xs xr xw ac ar aw ss sr sw r b r' r'' ⊢ WP c (.op (.enqueueDma (xaM.slice (Rect.unit (s := S8192x256) off S512x256.size inb) hst)
      (.remote (Dev.tc n : Thread nD τ) (xaM.slice (Rect.unit (s := S8192x256) off' S512x256.size inb') hst') (.dma sS) hsc) (.dma sV) hsrc hdst hsem) k) Q := by
  subst hn; subst hs; subst hv; subst ho; subst ho'
  unfold St Owe
  iintro ⟨#HR, ⟨%W, HO⟩, HX, HA, HV, HS, HB, HC, HT, HW, HZ⟩
  unfold X
  ihave HX := (ch_send 4 19 NX c _ _ _ h h1 h2) $$ HX
  icases HX with ⟨⟨Ht1, Ht2, Hl, Hr⟩, HX⟩
  ihave Hl := (opens_xA (F := F) _ _) $$ Hl
  icases Hl with ⟨%fn, Hl⟩
  ihave Hl := (xP_pts (F := F) _ _ _ _) $$ Hl
  ihave Hr := (xP_pts (F := F) _ _ _ _) $$ Hr
  iapply (Rounds.wp_send_pointsTo 𝒱₀ ER (rd m ρ) (c : Thread nD τ) none (κ₁ := K (c, kq (4 + xs))) (κ₂ := K (nxt c, kq (19 + xs)))
    (c' := (nxt c : Thread nD τ)) (src := xC (back c xs)) (dst := xC (back c xs)) (r₁ := 0) (r₂ := 0) (d₁ := false) (d₂ := false) (fd := fn)
    (by rw [duties_xfer m ρ c (by omega) (by omega)]; exact Finset.mem_singleton_self _)
    (by rw [duties_xfer m ρ (nxt c) (by omega) (by omega)]; exact Finset.mem_singleton_self _)
    () () NX rfl ((amount_xfer m ρ c (by omega) false).trans (by unfold xferAmt; rw [if_pos (by omega)]))
    ((amount_xfer m ρ (nxt c) (by omega) false).trans (by unfold xferAmt; rw [if_pos (by omega)])) _ (O_x c h) (W := W)
    (by rw [payload_xfer m ρ c (by omega), pay_xs m ρ c h]; exact Entails.refl _)
    (by rw [payload_xfer m ρ (nxt c) (by omega), pay_xr m ρ (nxt c) h, back_nxt]; unfold xP
        exact Entails.of_eq (pointsTo_congr (write_eq_on (xC (back c xs)) _ _ _ rfl)))) $$ [Hr Hl HO Ht1 Ht2]
  · isplitr; · iapply (inv_q m ρ K c (by omega) (by omega)); iexact HR
    isplitr; · iapply (inv_q m ρ K (nxt c) (by omega) (by omega)); iexact HR
    isplitl [Hr]; · iexact Hr
    isplitl [Hl]; · iexact Hl
    isplitl [HO]; · iexact HO
    isplitl [Ht1]; · iexact Ht1
    isplitr; · iapply (reached_q m ρ K c (by omega) (by omega)); iexact HR
    isplitl [Ht2]; · iexact Ht2
    iapply (reached_q m ρ K (nxt c) (by omega) (by omega)); iexact HR
  iintro ⟨Hc, HO⟩
  ihave HX := HX $$ Hc
  iapply hk
  unfold St Owe X
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Sending the next chunk of routes on. -/
theorem op_asend (h : ac < 15) (h1 : ac ≤ ar) (h2 : aw ≤ ac) {n : Dev nD} (hn : n = nxt c) {off off' : Fin 2 → Nat}
    {inb : ∀ a, off a + S512x1.size a ≤ S8192x1.size a} {inb' : ∀ a, off' a + S512x1.size a ≤ S8192x1.size a}
    (ho : off = ![512 * (back c ac).val, 0]) (ho' : off' = ![512 * (back c ac).val, 0]) {sS sV : DmaSem sig} (hs : sS = dsem (34 + ac)) (hv : sV = dsem (49 + ac))
    {hst : ∀ a, (Rect.unit (s := S8192x1) off S512x1.size inb).stride a = 1} {hst' : ∀ a, (Rect.unit (s := S8192x1) off' S512x1.size inb').stride a = 1}
    {hsc : (raM.slice (Rect.unit (s := S8192x1) off' S512x1.size inb') hst' : Memref sig (Dev.tc n : Thread nD τ).2.kind .vmem _ _).view.ref.isScScratch = false}
    {hsrc : (raM.slice (Rect.unit (s := S8192x1) off S512x1.size inb) hst).view.WordExact} {hdst : (raM.slice (Rect.unit (s := S8192x1) off' S512x1.size inb') hst').view.WordExact}
    {hsem : DmaTarget.Typed .vmem (.dma sV) (.remote (Dev.tc n : Thread nD τ) (raM.slice (Rect.unit (s := S8192x1) off' S512x1.size inb') hst') (.dma sS) hsc)}
    {k : PUnit → Prog (TpuEff nD τ sig (Elt F) Λ₀ .tc) α}
    (hk : St m ρ K Z c xs xr xw (ac + 1) ar aw ss sr sw r b r' r'' ⊢ WP c (k ⟨⟩) Q) :
    St m ρ K Z c xs xr xw ac ar aw ss sr sw r b r' r'' ⊢ WP c (.op (.enqueueDma (raM.slice (Rect.unit (s := S8192x1) off S512x1.size inb) hst)
      (.remote (Dev.tc n : Thread nD τ) (raM.slice (Rect.unit (s := S8192x1) off' S512x1.size inb') hst') (.dma sS) hsc) (.dma sV) hsrc hdst hsem) k) Q := by
  subst hn; subst hs; subst hv; subst ho; subst ho'
  unfold St Owe
  iintro ⟨#HR, ⟨%W, HO⟩, HX, HA, HV, HS, HB, HC, HT, HW, HZ⟩
  unfold A
  ihave HA := (ch_send 34 49 NA c _ _ _ h h1 h2) $$ HA
  icases HA with ⟨⟨Ht1, Ht2, Hl, Hr⟩, HA⟩
  ihave Hl := (opens_rA (F := F) _ _) $$ Hl
  icases Hl with ⟨%fn, Hl⟩
  ihave Hl := (rP_pts (F := F) _ _ _ _) $$ Hl
  ihave Hr := (rP_pts (F := F) _ _ _ _) $$ Hr
  iapply (Rounds.wp_send_pointsTo 𝒱₀ ER (rd m ρ) (c : Thread nD τ) none (κ₁ := K (c, kq (34 + ac))) (κ₂ := K (nxt c, kq (49 + ac)))
    (c' := (nxt c : Thread nD τ)) (src := rC (back c ac)) (dst := rC (back c ac)) (r₁ := 0) (r₂ := 0) (d₁ := false) (d₂ := false) (fd := fn)
    (by rw [duties_xfer m ρ c (by omega) (by omega)]; exact Finset.mem_singleton_self _)
    (by rw [duties_xfer m ρ (nxt c) (by omega) (by omega)]; exact Finset.mem_singleton_self _)
    () () NA rfl ((amount_xfer m ρ c (by omega) false).trans (by unfold xferAmt; rw [if_neg (by omega), if_pos (by omega)]))
    ((amount_xfer m ρ (nxt c) (by omega) false).trans (by unfold xferAmt; rw [if_neg (by omega), if_pos (by omega)])) _ (O_a c h) (W := W)
    (by rw [payload_xfer m ρ c (by omega), pay_as m ρ c h]; exact Entails.refl _)
    (by rw [payload_xfer m ρ (nxt c) (by omega), pay_ar m ρ (nxt c) h, back_nxt]; unfold rP
        exact Entails.of_eq (pointsTo_congr (write_eq_on (rC (back c ac)) _ _ _ rfl)))) $$ [Hr Hl HO Ht1 Ht2]
  · isplitr; · iapply (inv_q m ρ K c (by omega) (by omega)); iexact HR
    isplitr; · iapply (inv_q m ρ K (nxt c) (by omega) (by omega)); iexact HR
    isplitl [Hr]; · iexact Hr
    isplitl [Hl]; · iexact Hl
    isplitl [HO]; · iexact HO
    isplitl [Ht1]; · iexact Ht1
    isplitr; · iapply (reached_q m ρ K c (by omega) (by omega)); iexact HR
    isplitl [Ht2]; · iexact Ht2
    iapply (reached_q m ρ K (nxt c) (by omega) (by omega)); iexact HR
  iintro ⟨Hc, HO⟩
  ihave HA := HA $$ Hc
  iapply hk
  unfold St Owe A
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Sending the message in the next slot. -/
theorem op_ssend (h : ss < 15) (h1 : ss ≤ sr) (h2 : sw ≤ ss) {n : Dev nD} (hn : n = nxt c) {off off' : Fin 3 → Nat}
    {inb : ∀ a, off a + S1x512x512.size a ≤ S2x512x512.size a} {inb' : ∀ a, off' a + S1x512x512.size a ≤ S15x512x512.size a}
    (ho : off = ![(sI ss).val, 0, 0]) (ho' : off' = ![(vI ss).val, 0, 0]) {sS sV : DmaSem sig} (hs : sS = dsem (64 + ss)) (hv : sV = dsem (79 + ss))
    {hst : ∀ a, (Rect.unit (s := S2x512x512) off S1x512x512.size inb).stride a = 1} {hst' : ∀ a, (Rect.unit (s := S15x512x512) off' S1x512x512.size inb').stride a = 1}
    {hq hq' : Shape.Squeezes S1x512x512 S512x512}
    {hsc : ((vM.slice (Rect.unit (s := S15x512x512) off' S1x512x512.size inb') hst').squeeze S512x512 hq' : Memref sig (Dev.tc n : Thread nD τ).2.kind .vmem _ _).view.ref.isScScratch = false}
    {hsrc : ((sM.slice (Rect.unit (s := S2x512x512) off S1x512x512.size inb) hst).squeeze S512x512 hq).view.WordExact}
    {hdst : ((vM.slice (Rect.unit (s := S15x512x512) off' S1x512x512.size inb') hst').squeeze S512x512 hq').view.WordExact}
    {hsem : DmaTarget.Typed .vmem (.dma sV) (.remote (Dev.tc n : Thread nD τ) ((vM.slice (Rect.unit (s := S15x512x512) off' S1x512x512.size inb') hst').squeeze S512x512 hq') (.dma sS) hsc)}
    {k : PUnit → Prog (TpuEff nD τ sig (Elt F) Λ₀ .tc) α}
    (hk : St m ρ K Z c xs xr xw ac ar aw (ss + 1) sr sw false b r' r'' ⊢ WP c (k ⟨⟩) Q) :
    St m ρ K Z c xs xr xw ac ar aw ss sr sw true b r' r'' ⊢ WP c (.op (.enqueueDma ((sM.slice (Rect.unit (s := S2x512x512) off S1x512x512.size inb) hst).squeeze S512x512 hq)
      (.remote (Dev.tc n : Thread nD τ) ((vM.slice (Rect.unit (s := S15x512x512) off' S1x512x512.size inb') hst').squeeze S512x512 hq') (.dma sS) hsc) (.dma sV) hsrc hdst hsem) k) Q := by
  subst hn; subst hs; subst hv; subst ho; subst ho'
  unfold St Owe
  iintro ⟨#HR, ⟨%W, HO⟩, HX, HA, HV, HS, HB, HC, HT, HW, HZ⟩
  unfold V
  ihave HS := (Entails.of_eq (Sl_true m ρ c _ _)) $$ HS
  icases HS with ⟨Hr, HS⟩
  ihave HV := (ch_send 64 79 NS c _ _ _ h h1 h2) $$ HV
  icases HV with ⟨⟨Ht1, Ht2, Hl, -⟩, HV⟩
  ihave Hl := (opens_vA (F := F) _ _) $$ Hl
  icases Hl with ⟨%fn, Hl⟩
  ihave Hl := (vP_pts (F := F) _ _ _) $$ Hl
  ihave Hr := (sP_pts (F := F) _ _ _) $$ Hr
  iapply (Rounds.wp_send_pointsTo 𝒱₀ ER (rd m ρ) (c : Thread nD τ) none (κ₁ := K (c, kq (64 + ss))) (κ₂ := K (nxt c, kq (79 + ss)))
    (c' := (nxt c : Thread nD τ)) (fs := SBUF m ρ c ss) (src := sC (sI ss)) (dst := vC (vI ss)) (r₁ := 0) (r₂ := 0) (d₁ := false) (d₂ := false) (fd := fn)
    (by rw [duties_xfer m ρ c (by omega) (by omega)]; exact Finset.mem_singleton_self _)
    (by rw [duties_xfer m ρ (nxt c) (by omega) (by omega)]; exact Finset.mem_singleton_self _)
    () () NS rfl ((amount_xfer m ρ c (by omega) false).trans (by unfold xferAmt; rw [if_neg (by omega), if_neg (by omega)]))
    ((amount_xfer m ρ (nxt c) (by omega) false).trans (by unfold xferAmt; rw [if_neg (by omega), if_neg (by omega)])) _ (O_s c h) (W := W)
    (by rw [payload_xfer m ρ c (by omega), pay_ss m ρ c h]; unfold sA sP; iintro H; iexists _; iexact H)
    (by rw [payload_xfer m ρ (nxt c) (by omega), pay_sr m ρ (nxt c) h]; unfold vP
        exact Entails.of_eq (pointsTo_congr (write_eq_on (vC (vI ss)) _ _ _ ((VBUF_landed m ρ c (sI ss) (vI ss)).trans
          (by rw [show (vI ss).val = ss from Nat.mod_eq_of_lt h])))))) $$ [Hr Hl HO Ht1 Ht2]
  · isplitr; · iapply (inv_q m ρ K c (by omega) (by omega)); iexact HR
    isplitr; · iapply (inv_q m ρ K (nxt c) (by omega) (by omega)); iexact HR
    isplitl [Hr]; · iexact Hr
    isplitl [Hl]; · iexact Hl
    isplitl [HO]; · iexact HO
    isplitl [Ht1]; · iexact Ht1
    isplitr; · iapply (reached_q m ρ K c (by omega) (by omega)); iexact HR
    isplitl [Ht2]; · iexact Ht2
    iapply (reached_q m ρ K (nxt c) (by omega) (by omega)); iexact HR
  iintro ⟨Hc, HO⟩
  ihave HV := HV $$ Hc
  iapply hk
  unfold St Owe V
  isplitr; · iexact HR
  isplitl [HO]; · iexists _; iexact HO
  isplitl [HX]; · iexact HX
  isplitl [HA]; · iexact HA
  isplitl [HV]; · iexact HV
  isplitl [HS]
  · iapply (Entails.of_eq (Sl_false m ρ c _ _).symm); iexact HS
  isplitl [HB]; · iexact HB
  isplitl [HC]; · iexact HC
  isplitl [HT]; · iexact HT
  isplitl [HW]; · iexact HW
  iexact HZ

end Ops

end Cert.RingMoe
end
-- ==== Proof.Pieces.lean ====
/-
Cutting a device's buffers into the pieces the transfers move, and joining them again; the cells of a device kind by kind.
-/
module

public import proofs.«01_k».proof.Proof.Sends

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

section Cut
omit [FloatOps F]

/-- An entry of the gathered activations belongs to the chunk of its row. -/
theorem mem_xC (b : Dev nD) (i : S8192x256.Idx) : i ∈ (xC b).view.set ↔ (i 0).val / 512 = b.val := by
  show i ∈ ((View.whole cc0_scratch0).slice (xR b)).set ↔ _
  rw [View.set_slice_whole, Rect.mem_set_unit]
  have h1 : (i 1).val < 256 := (i 1).isLt
  constructor
  · intro h
    have := h 0
    have h' : 512 * b.val ≤ (i 0).val ∧ (i 0).val < 512 * b.val + 512 := this
    omega
  · intro h a
    match a with
    | ⟨0, _⟩ => show 512 * b.val ≤ (i 0).val ∧ (i 0).val < 512 * b.val + 512; omega
    | ⟨1, _⟩ => show 0 ≤ (i 1).val ∧ (i 1).val < 0 + 256; omega

/-- An entry of the gathered routes belongs to the chunk of its row. -/
theorem mem_rC (b : Dev nD) (i : S8192x1.Idx) : i ∈ (rC b).view.set ↔ (i 0).val / 512 = b.val := by
  show i ∈ ((View.whole cc0_scratch1).slice (rR b)).set ↔ _
  rw [View.set_slice_whole, Rect.mem_set_unit]
  have h1 : (i 1).val < 1 := (i 1).isLt
  constructor
  · intro h
    have h' : 512 * b.val ≤ (i 0).val ∧ (i 0).val < 512 * b.val + 512 := h 0
    omega
  · intro h a
    match a with
    | ⟨0, _⟩ => show 512 * b.val ≤ (i 0).val ∧ (i 0).val < 512 * b.val + 512; omega
    | ⟨1, _⟩ => show 0 ≤ (i 1).val ∧ (i 1).val < 0 + 1; omega

/-- An entry of the landing slots belongs to the slot of its page. -/
theorem mem_vC (b : Fin 15) (i : S15x512x512.Idx) : i ∈ (vC b).view.set ↔ (i 0).val = b.val := by
  rw [show (vC b).view.set = ((View.whole cc0_scratch5).slice (vR b)).set from View.set_reshape _ _, View.set_slice_whole, Rect.mem_set_unit]
  have h1 : (i 1).val < 512 := (i 1).isLt
  have h2 : (i 2).val < 512 := (i 2).isLt
  constructor
  · intro h
    have h' : b.val ≤ (i 0).val ∧ (i 0).val < b.val + 1 := h 0
    omega
  · intro h a
    match a with
    | ⟨0, _⟩ => show b.val ≤ (i 0).val ∧ (i 0).val < b.val + 1; omega
    | ⟨1, _⟩ => show 0 ≤ (i 1).val ∧ (i 1).val < 0 + 512; omega
    | ⟨2, _⟩ => show 0 ≤ (i 2).val ∧ (i 2).val < 0 + 512; omega

/-- An entry of the send buffers belongs to the buffer of its page. -/
theorem mem_sC (b : Fin 2) (i : S2x512x512.Idx) : i ∈ (sC b).view.set ↔ (i 0).val = b.val := by
  rw [show (sC b).view.set = ((View.whole cc0_scratch4).slice (sR b)).set from View.set_reshape _ _, View.set_slice_whole, Rect.mem_set_unit]
  have h1 : (i 1).val < 512 := (i 1).isLt
  have h2 : (i 2).val < 512 := (i 2).isLt
  constructor
  · intro h
    have h' : b.val ≤ (i 0).val ∧ (i 0).val < b.val + 1 := h 0
    omega
  · intro h a
    match a with
    | ⟨0, _⟩ => show b.val ≤ (i 0).val ∧ (i 0).val < b.val + 1; omega
    | ⟨1, _⟩ => show 0 ≤ (i 1).val ∧ (i 1).val < 0 + 512; omega
    | ⟨2, _⟩ => show 0 ≤ (i 2).val ∧ (i 2).val < 0 + 512; omega

/-- The gathered activations of device `d` are its sixteen chunks, in the order `c` counts them. -/
theorem x_cut (d c : Dev nD) (q : PosShare TreeShare) (f : (cc0_scratch0 : Ref sig .tc).ty.Contents (Elt F)) :
    (((d : Thread nD τ).loc cc0_scratch0) ↦{q} f : sProp 𝕄) = bigSep (Finset.range 16) fun p => xP d (back c p) q f := by
  have hU : (Finset.univ : Finset S8192x256.Idx) = (Finset.range 16).biUnion fun p => ((xC (back c p)).view.set : Finset S8192x256.Idx) := by
    symm; rw [Finset.eq_univ_iff_forall]
    intro i
    have hi : (i 0).val < 8192 := (i 0).isLt
    obtain ⟨p, hp, he⟩ := back_surj c ⟨(i 0).val / 512, (show (i 0).val / 512 < 16 by omega)⟩
    exact Finset.mem_biUnion.mpr ⟨p, Finset.mem_range.mpr hp, (mem_xC _ i).mpr (congrArg Fin.val he).symm⟩
  have hd : ∀ p ∈ Finset.range 16, ∀ p' ∈ Finset.range 16, p ≠ p' → Disjoint ((xC (back c p)).view.set : Finset S8192x256.Idx) (xC (back c p')).view.set := by
    intro p hp p' hp' hne
    rw [Finset.disjoint_left]
    intro i h1 h2
    exact hne (back_inj c (Finset.mem_range.mp hp) (Finset.mem_range.mp hp') (Fin.ext (((mem_xC _ i).mp h1).symm.trans ((mem_xC _ i).mp h2))))
  have h := pointsTo_biUnion (Ix := Unit) (Name := ℕ) (U := UU) (Lvl := ℕ) (Val := Elt F) (ℓ := (d : Thread nD τ).loc cc0_scratch0) (q := q) (f := f) (Finset.range 16)
    (fun p => ((xC (back c p)).view.set : Finset S8192x256.Idx)) hd
  exact (congrArg (fun S : Finset S8192x256.Idx => (((d : Thread nD τ).loc cc0_scratch0) ↦[S]{q} f : sProp 𝕄)) hU).trans h

/-- The gathered routes likewise. -/
theorem r_cut (d c : Dev nD) (q : PosShare TreeShare) (f : (cc0_scratch1 : Ref sig .tc).ty.Contents (Elt F)) :
    (((d : Thread nD τ).loc cc0_scratch1) ↦{q} f : sProp 𝕄) = bigSep (Finset.range 16) fun p => rP d (back c p) q f := by
  have hU : (Finset.univ : Finset S8192x1.Idx) = (Finset.range 16).biUnion fun p => ((rC (back c p)).view.set : Finset S8192x1.Idx) := by
    symm; rw [Finset.eq_univ_iff_forall]
    intro i
    have hi : (i 0).val < 8192 := (i 0).isLt
    obtain ⟨p, hp, he⟩ := back_surj c ⟨(i 0).val / 512, (show (i 0).val / 512 < 16 by omega)⟩
    exact Finset.mem_biUnion.mpr ⟨p, Finset.mem_range.mpr hp, (mem_rC _ i).mpr (congrArg Fin.val he).symm⟩
  have hd : ∀ p ∈ Finset.range 16, ∀ p' ∈ Finset.range 16, p ≠ p' → Disjoint ((rC (back c p)).view.set : Finset S8192x1.Idx) (rC (back c p')).view.set := by
    intro p hp p' hp' hne
    rw [Finset.disjoint_left]
    intro i h1 h2
    exact hne (back_inj c (Finset.mem_range.mp hp) (Finset.mem_range.mp hp') (Fin.ext (((mem_rC _ i).mp h1).symm.trans ((mem_rC _ i).mp h2))))
  have h := pointsTo_biUnion (Ix := Unit) (Name := ℕ) (U := UU) (Lvl := ℕ) (Val := Elt F) (ℓ := (d : Thread nD τ).loc cc0_scratch1) (q := q) (f := f) (Finset.range 16)
    (fun p => ((rC (back c p)).view.set : Finset S8192x1.Idx)) hd
  exact (congrArg (fun S : Finset S8192x1.Idx => (((d : Thread nD τ).loc cc0_scratch1) ↦[S]{q} f : sProp 𝕄)) hU).trans h

/-- The fifteen landing slots. -/
theorem v_cut (d : Dev nD) (f : (cc0_scratch5 : Ref sig .tc).ty.Contents (Elt F)) :
    (((d : Thread nD τ).loc cc0_scratch5) ↦{fullShare} f : sProp 𝕄) = bigSep (Finset.range 15) fun s => vP d (vI s) f := by
  have hU : (Finset.univ : Finset S15x512x512.Idx) = (Finset.range 15).biUnion fun s => ((vC (vI s)).view.set : Finset S15x512x512.Idx) := by
    symm; rw [Finset.eq_univ_iff_forall]
    intro i
    have hi : (i 0).val < 15 := (i 0).isLt
    exact Finset.mem_biUnion.mpr ⟨(i 0).val, Finset.mem_range.mpr hi, (mem_vC _ i).mpr (Nat.mod_eq_of_lt hi).symm⟩
  have hd : ∀ p ∈ Finset.range 15, ∀ p' ∈ Finset.range 15, p ≠ p' → Disjoint ((vC (vI p)).view.set : Finset S15x512x512.Idx) (vC (vI p')).view.set := by
    intro p hp p' hp' hne
    rw [Finset.disjoint_left]
    intro i h1 h2
    have e : p % 15 = p' % 15 := ((mem_vC _ i).mp h1).symm.trans ((mem_vC _ i).mp h2)
    have := Finset.mem_range.mp hp; have := Finset.mem_range.mp hp'
    omega
  have h := pointsTo_biUnion (Ix := Unit) (Name := ℕ) (U := UU) (Lvl := ℕ) (Val := Elt F) (ℓ := (d : Thread nD τ).loc cc0_scratch5) (q := fullShare) (f := f) (Finset.range 15)
    (fun s => ((vC (vI s)).view.set : Finset S15x512x512.Idx)) hd
  exact (congrArg (fun S : Finset S15x512x512.Idx => (((d : Thread nD τ).loc cc0_scratch5) ↦[S]{fullShare} f : sProp 𝕄)) hU).trans h

/-- The two send buffers cover the pair. -/
theorem s_univ : (Finset.univ : Finset S2x512x512.Idx) = ((sC 0).view.set : Finset S2x512x512.Idx) ∪ (sC 1).view.set := by
  symm; rw [Finset.eq_univ_iff_forall]
  intro i
  have hi : (i 0).val < 2 := (i 0).isLt
  rw [Finset.mem_union]
  by_cases h0 : (i 0).val = 0
  · exact Or.inl ((mem_sC 0 i).mpr h0)
  · exact Or.inr ((mem_sC 1 i).mpr (by show (i 0).val = 1; omega))

/-- The two send buffers do not overlap. -/
theorem s_disj : Disjoint ((sC 0).view.set : Finset S2x512x512.Idx) (sC 1).view.set := by
  rw [Finset.disjoint_left]
  intro i h1 h2
  have e : (0 : ℕ) = 1 := ((mem_sC 0 i).mp h1).symm.trans ((mem_sC 1 i).mp h2)
  exact absurd e (by decide)

/-- The two message slots. -/
theorem s_cut (d : Dev nD) (f : (cc0_scratch4 : Ref sig .tc).ty.Contents (Elt F)) :
    (((d : Thread nD τ).loc cc0_scratch4) ↦{fullShare} f : sProp 𝕄) ⊢ iprop(sA d 0 ∗ sA d 1) := by
  have h := (pointsTo_union (Ix := Unit) (Name := ℕ) (U := UU) (Lvl := ℕ) (Val := Elt F) (ℓ := (d : Thread nD τ).loc cc0_scratch4) (q := fullShare) (f := f) s_disj).1
  refine (Entails.of_eq (congrArg (fun S : Finset S2x512x512.Idx => (((d : Thread nD τ).loc cc0_scratch4) ↦[S]{fullShare} f : sProp 𝕄)) s_univ)).trans (h.trans ?_)
  unfold sA sP
  iintro ⟨H1, H2⟩
  isplitl [H1]
  · iexists f; iexact H1
  · iexists f; iexact H2

/-- The two send buffers make the whole buffer. -/
theorem s_join (d : Dev nD) : iprop(sA (F := F) d 0 ∗ sA d 1) ⊢ iprop(∃ f : Buf (Elt F) ((d : Thread nD τ).loc cc0_scratch4), ((d : Thread nD τ).loc cc0_scratch4) ↦{fullShare} f) := by
  unfold sA sP
  iintro ⟨⟨%f, H1⟩, %g, H2⟩
  ihave H := (pointsTo_join (Ix := Unit) (Name := ℕ) (U := UU) (Lvl := ℕ) (Val := Elt F) (ℓ := (d : Thread nD τ).loc cc0_scratch4) (q := fullShare) (f := f) (g := g) s_disj) $$ [H1 H2]
  · isplitl [H1]; · iexact H1
    iexact H2
  iexists _
  iapply (Entails.of_eq (congrArg (fun S : Finset S2x512x512.Idx => (((d : Thread nD τ).loc cc0_scratch4) ↦[S]{fullShare} _ : sProp 𝕄)) s_univ.symm)) $$ H

/-- A separated family over an interval, cut in two. -/
theorem Ico_meet {a b c : ℕ} (hab : a ≤ b) (hbc : b ≤ c) (A : ℕ → sProp 𝕄) :
    bigSep (Finset.Ico a c) A = iprop(bigSep (Finset.Ico a b) A ∗ bigSep (Finset.Ico b c) A) := by
  rw [← Finset.Ico_union_Ico_eq_Ico hab hbc]
  exact bigSep_union (Finset.Ico_disjoint_Ico_consecutive a b c)

/-- Something held of every cell of a device, kind by kind. -/
theorem cells_eq (Ψ : SemLoc sig → sProp 𝕄) : (bigSep Finset.univ fun k : Fin 92 => Ψ (csem k))
    = iprop(Ψ (.reg barS) ∗ Ψ (.reg finS) ∗ (bigSep (Finset.range 15) fun h => Ψ (.dma (dsem (4 + h)))) ∗ (bigSep (Finset.range 15) fun h => Ψ (.dma (dsem (19 + h))))
      ∗ (bigSep (Finset.range 15) fun h => Ψ (.dma (dsem (34 + h)))) ∗ (bigSep (Finset.range 15) fun h => Ψ (.dma (dsem (49 + h))))
      ∗ (bigSep (Finset.range 15) fun h => Ψ (.dma (dsem (64 + h)))) ∗ (bigSep (Finset.range 15) fun h => Ψ (.dma (dsem (79 + h))))) := by
  have e1 : (bigSep Finset.univ fun k : Fin 92 => Ψ (csem k))
      = bigSep (Finset.Ico 0 92) fun n => Ψ (if n = 0 then .reg barS else if n = 1 then .reg finS else .dma (dsem (n + 2))) := by
    rw [show Finset.Ico 0 92 = (Finset.univ : Finset (Fin 92)).map Fin.valEmbedding by rw [Fin.map_valEmbedding_univ, Nat.Iio_eq_range, Finset.range_eq_Ico], bigSep_map]
    rfl
  have g (a q : ℕ) (hq : a + 2 = q) (h2 : 2 ≤ a) : (bigSep (Finset.Ico a (a + 15)) fun n => Ψ (if n = 0 then .reg barS else if n = 1 then .reg finS else .dma (dsem (n + 2))))
      = bigSep (Finset.range 15) fun h => Ψ (.dma (dsem (q + h))) := by
    rw [show Finset.Ico a (a + 15) = (Finset.range 15).map (addRightEmbedding a) by
      rw [Finset.range_eq_Ico, Finset.map_add_right_Ico, Nat.zero_add, Nat.add_comm 15 a], bigSep_map]
    refine bigSep_congr fun k _ => ?_
    show Ψ (if k + a = 0 then _ else if k + a = 1 then _ else .dma (dsem (k + a + 2))) = _
    rw [if_neg (by omega), if_neg (by omega), show k + a + 2 = q + k by omega]
  rw [e1, bigSep_Ico_succ_bot (by decide), bigSep_Ico_succ_bot (by decide), show 0 + 1 + 1 = 2 from rfl, Ico_meet (show 2 ≤ 17 by decide) (show 17 ≤ 92 by decide),
    Ico_meet (show 17 ≤ 32 by decide) (show 32 ≤ 92 by decide), Ico_meet (show 32 ≤ 47 by decide) (show 47 ≤ 92 by decide),
    Ico_meet (show 47 ≤ 62 by decide) (show 62 ≤ 92 by decide), Ico_meet (show 62 ≤ 77 by decide) (show 77 ≤ 92 by decide),
    g 2 4 rfl (by decide), g 17 19 rfl (by decide), g 32 34 rfl (by decide), g 47 49 rfl (by decide), g 62 64 rfl (by decide), g 77 79 rfl (by decide)]
  rfl

end Cut

end Cert.RingMoe
end
-- ==== Proof.Waits.lean ====
/-
The waits of the kernel, from the state before to the state after.
-/
module

public import proofs.«01_k».proof.Proof.Sends

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-- The first transfers are of activations. -/
theorem xferAmt_x {q : ℕ} (h : q < 34) : xferAmt q = NX := if_pos h
/-- The next are of routes. -/
theorem xferAmt_a {q : ℕ} (h : 34 ≤ q) (h' : q < 64) : xferAmt q = NA := (if_neg (by omega)).trans (if_pos h')
/-- The last are of messages. -/
theorem xferAmt_s {q : ℕ} (h : 64 ≤ q) : xferAmt q = NS := (if_neg (by omega)).trans (if_neg (by omega))
/-- A landed message's slot. -/
theorem vP_got (c : Dev nD) (s : ℕ) : vP c (vI s) (VBUF m ρ c) ⊢ vGot m ρ c (s + 1) := Entails.refl _

section Ops
variable (K : Dev nD × Fin 92 → ℕ) (Z : sProp (MT nD τ sig Unit (Elt F) ℕ UU ℕ)) (c : Dev nD) {xs xr xw ac ar aw ss sr sw : ℕ} {r : Bool} {b : ℕ} {r' r'' : Bool}
variable {α : Type} {Q : α → sProp (MT nD τ sig Unit (Elt F) ℕ UU ℕ)}

/-- Waiting for the next chunk of activations. -/
theorem op_xrecv (h : xr < 15) (h1 : xs ≤ xr + 1) (ha : 15 ≤ xs ∨ 20 + 2 * xr < 20 + 2 * xs) (hb : 15 ≤ ac ∨ 20 + 2 * xr < 2 + ac) (hs' : 15 ≤ ss ∨ 20 + 2 * xr < 21 + 2 * ss) {sV : DmaSem sig} (hs : sV = dsem (19 + xr)) {sp sp' : Space} {s s' : Shape} {e e' : EltTy} {src : Memref sig .tc sp' s' e'} {dst : Memref sig .tc sp s e}
    {hsrc : src.view.WordExact} {hdst : dst.view.WordExact} (hN : dst.view.dmaCredit = NX)
    {k : PUnit → Prog (TpuEff nD τ sig (Elt F) Λ₀ .tc) α}
    (hk : St m ρ K Z c xs (xr + 1) xw ac ar aw ss sr sw r b r' r'' ⊢ WP c (k ⟨⟩) Q) :
    St m ρ K Z c xs xr xw ac ar aw ss sr sw r b r' r'' ⊢ WP c (.op (.waitDma2 sV src dst hsrc hdst) k) Q := by
  have hv : 20 + 2 * xr < 100 := by clear hN; omega
  subst hs
  unfold St Owe
  iintro ⟨#HR, ⟨%W, HO⟩, HX, HA, HV, HS, HB, HC, HT, HW, HZ⟩
  ihave #Hlev := (rec_lev m ρ K) $$ HR
  unfold X
  ihave HX := (ch_recv 4 19 NX c _ _ _ h h1) $$ HX
  icases HX with ⟨⟨Hat, Hcr⟩, HX⟩
  iapply (Rounds.wp_wait_rest_token 𝒱₀ ER (rd m ρ) (c : Thread nD τ) none (κ := K (c, kq (19 + xr)))
      (wpE_waitDma2_eq 𝒱₀ (c : Thread nD τ) none Set.univ) (Set.mem_univ _) () (O := O c xs ac ss) (W := W) (R := 0) (m := 0) (T := ∅)
      ((Nat.zero_add _).trans (hN.trans (by clear hN; rw [expect_xfer m ρ c (by omega) (by omega), xferAmt_x (by omega)])))) $$ [Hcr HO Hat]
  · isplitr; · iapply (inv_q m ρ K c (by omega) (by omega)); iexact HR
    isplitl [Hcr]; · rw [hN]; iexact Hcr
    isplitl [HO]; · iexact HO
    isplitr
    · iapply (mayWait (F := F) c (.dma (dsem (19 + xr))) (20 + 2 * xr) (lv_xr (by omega)) ha hb hs' hv); iexact Hlev
    iexact Hat
  iintro ⟨HO, Hat, -, Hpay⟩
  ihave Hp := (Entails.of_eq ((rest_xfer m ρ c (by omega) (by omega)).trans (pay_xr m ρ c (by omega)))) $$ Hpay
  ihave Hp := (xP_halves (F := F) _ _ _) $$ Hp
  icases Hp with ⟨Hp1, Hp2⟩
  ihave HX := HX $$ [Hat Hp1 Hp2]
  · isplitl [Hat]; · iexact Hat
    isplitl [Hp1]; · iexact Hp1
    iexact Hp2
  iapply hk
  unfold St Owe X
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Waiting for the next chunk of routes. -/
theorem op_arecv (h : ar < 15) (h1 : ac ≤ ar + 1) (ha : 15 ≤ xs ∨ 2 + ar < 20 + 2 * xs) (hb : 15 ≤ ac ∨ 2 + ar < 2 + ac) (hs' : 15 ≤ ss ∨ 2 + ar < 21 + 2 * ss) {sV : DmaSem sig} (hs : sV = dsem (49 + ar)) {sp sp' : Space} {s s' : Shape} {e e' : EltTy} {src : Memref sig .tc sp' s' e'} {dst : Memref sig .tc sp s e}
    {hsrc : src.view.WordExact} {hdst : dst.view.WordExact} (hN : dst.view.dmaCredit = NA)
    {k : PUnit → Prog (TpuEff nD τ sig (Elt F) Λ₀ .tc) α}
    (hk : St m ρ K Z c xs xr xw ac (ar + 1) aw ss sr sw r b r' r'' ⊢ WP c (k ⟨⟩) Q) :
    St m ρ K Z c xs xr xw ac ar aw ss sr sw r b r' r'' ⊢ WP c (.op (.waitDma2 sV src dst hsrc hdst) k) Q := by
  have hv : 2 + ar < 100 := by clear hN; omega
  subst hs
  unfold St Owe
  iintro ⟨#HR, ⟨%W, HO⟩, HX, HA, HV, HS, HB, HC, HT, HW, HZ⟩
  ihave #Hlev := (rec_lev m ρ K) $$ HR
  unfold A
  ihave HA := (ch_recv 34 49 NA c _ _ _ h h1) $$ HA
  icases HA with ⟨⟨Hat, Hcr⟩, HA⟩
  iapply (Rounds.wp_wait_rest_token 𝒱₀ ER (rd m ρ) (c : Thread nD τ) none (κ := K (c, kq (49 + ar)))
      (wpE_waitDma2_eq 𝒱₀ (c : Thread nD τ) none Set.univ) (Set.mem_univ _) () (O := O c xs ac ss) (W := W) (R := 0) (m := 0) (T := ∅)
      ((Nat.zero_add _).trans (hN.trans (by clear hN; rw [expect_xfer m ρ c (by omega) (by omega), xferAmt_a (by omega) (by omega)])))) $$ [Hcr HO Hat]
  · isplitr; · iapply (inv_q m ρ K c (by omega) (by omega)); iexact HR
    isplitl [Hcr]; · rw [hN]; iexact Hcr
    isplitl [HO]; · iexact HO
    isplitr
    · iapply (mayWait (F := F) c (.dma (dsem (49 + ar))) (2 + ar) (lv_ar (by omega)) ha hb hs' hv); iexact Hlev
    iexact Hat
  iintro ⟨HO, Hat, -, Hpay⟩
  ihave Hp := (Entails.of_eq ((rest_xfer m ρ c (by omega) (by omega)).trans (pay_ar m ρ c (by omega)))) $$ Hpay
  ihave Hp := (rP_halves (F := F) _ _ _) $$ Hp
  icases Hp with ⟨Hp1, Hp2⟩
  ihave HA := HA $$ [Hat Hp1 Hp2]
  · isplitl [Hat]; · iexact Hat
    isplitl [Hp1]; · iexact Hp1
    iexact Hp2
  iapply hk
  unfold St Owe A
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Waiting for the next message. -/
theorem op_srecv (h : sr < 15) (h1 : ss ≤ sr + 1) (ha : 15 ≤ xs ∨ 21 + 2 * sr < 20 + 2 * xs) (hb : 15 ≤ ac ∨ 21 + 2 * sr < 2 + ac) (hs' : 15 ≤ ss ∨ 21 + 2 * sr < 21 + 2 * ss) {sV : DmaSem sig} (hs : sV = dsem (79 + sr)) {sp sp' : Space} {s s' : Shape} {e e' : EltTy} {src : Memref sig .tc sp' s' e'} {dst : Memref sig .tc sp s e}
    {hsrc : src.view.WordExact} {hdst : dst.view.WordExact} (hN : dst.view.dmaCredit = NS)
    {k : PUnit → Prog (TpuEff nD τ sig (Elt F) Λ₀ .tc) α}
    (hk : St m ρ K Z c xs xr xw ac ar aw ss (sr + 1) sw r b r' r'' ⊢ WP c (k ⟨⟩) Q) :
    St m ρ K Z c xs xr xw ac ar aw ss sr sw r b r' r'' ⊢ WP c (.op (.waitDma2 sV src dst hsrc hdst) k) Q := by
  have hv : 21 + 2 * sr < 100 := by clear hN; omega
  subst hs
  unfold St Owe
  iintro ⟨#HR, ⟨%W, HO⟩, HX, HA, HV, HS, HB, HC, HT, HW, HZ⟩
  ihave #Hlev := (rec_lev m ρ K) $$ HR
  unfold V
  ihave HV := (ch_recv 64 79 NS c _ _ _ h h1) $$ HV
  icases HV with ⟨⟨Hat, Hcr⟩, HV⟩
  iapply (Rounds.wp_wait_rest_token 𝒱₀ ER (rd m ρ) (c : Thread nD τ) none (κ := K (c, kq (79 + sr)))
      (wpE_waitDma2_eq 𝒱₀ (c : Thread nD τ) none Set.univ) (Set.mem_univ _) () (O := O c xs ac ss) (W := W) (R := 0) (m := 0) (T := ∅)
      ((Nat.zero_add _).trans (hN.trans (by clear hN; rw [expect_xfer m ρ c (by omega) (by omega), xferAmt_s (by omega)])))) $$ [Hcr HO Hat]
  · isplitr; · iapply (inv_q m ρ K c (by omega) (by omega)); iexact HR
    isplitl [Hcr]; · rw [hN]; iexact Hcr
    isplitl [HO]; · iexact HO
    isplitr
    · iapply (mayWait (F := F) c (.dma (dsem (79 + sr))) (21 + 2 * sr) (lv_sr (by omega)) ha hb hs' hv); iexact Hlev
    iexact Hat
  iintro ⟨HO, Hat, -, Hpay⟩
  ihave Hp := (Entails.of_eq ((rest_xfer m ρ c (by omega) (by omega)).trans (pay_sr m ρ c (by omega)))) $$ Hpay
  ihave HV := HV $$ [Hat Hp]
  · isplitl [Hat]; · iexact Hat
    isplitl [Hp]; · iapply (vP_got m ρ c sr); iexact Hp
    iempintro
  iapply hk
  unfold St Owe V
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Waiting for the next own send of activations. -/
theorem op_xwait (h : xw < xs) (h1 : xs ≤ 15) (ha : 15 ≤ xs ∨ 0 < 20 + 2 * xs) (hb : 15 ≤ ac ∨ 0 < 2 + ac) (hs' : 15 ≤ ss ∨ 0 < 21 + 2 * ss) {sV : DmaSem sig} (hs : sV = dsem (4 + xw)) {sp sp' : Space} {s s' : Shape} {e e' : EltTy} {src : Memref sig .tc sp' s' e'} {dst : Memref sig .tc sp s e}
    {hsrc : src.view.WordExact} {hdst : dst.view.WordExact} (hN : dst.view.dmaCredit = NX)
    {k : PUnit → Prog (TpuEff nD τ sig (Elt F) Λ₀ .tc) α}
    (hk : St m ρ K Z c xs xr (xw + 1) ac ar aw ss sr sw r b r' r'' ⊢ WP c (k ⟨⟩) Q) :
    St m ρ K Z c xs xr xw ac ar aw ss sr sw r b r' r'' ⊢ WP c (.op (.waitDma2 sV src dst hsrc hdst) k) Q := by
  have hv : 0 < 100 := by clear hN; omega
  subst hs
  unfold St Owe
  iintro ⟨#HR, ⟨%W, HO⟩, HX, HA, HV, HS, HB, HC, HT, HW, HZ⟩
  ihave #Hlev := (rec_lev m ρ K) $$ HR
  unfold X
  ihave HX := (ch_wait 4 19 NX c _ _ _ h h1) $$ HX
  icases HX with ⟨⟨Hat, Hcr⟩, HX⟩
  iapply (Rounds.wp_wait_rest_token 𝒱₀ ER (rd m ρ) (c : Thread nD τ) none (κ := K (c, kq (4 + xw)))
      (wpE_waitDma2_eq 𝒱₀ (c : Thread nD τ) none Set.univ) (Set.mem_univ _) () (O := O c xs ac ss) (W := W) (R := 0) (m := 0) (T := ∅)
      ((Nat.zero_add _).trans (hN.trans (by clear hN; rw [expect_xfer m ρ c (by omega) (by omega), xferAmt_x (by omega)])))) $$ [Hcr HO Hat]
  · isplitr; · iapply (inv_q m ρ K c (by omega) (by omega)); iexact HR
    isplitl [Hcr]; · rw [hN]; iexact Hcr
    isplitl [HO]; · iexact HO
    isplitr
    · iapply (mayWait (F := F) c (.dma (dsem (4 + xw))) (0) (lv_xs (by omega)) ha hb hs' hv); iexact Hlev
    iexact Hat
  iintro ⟨HO, Hat, -, Hpay⟩
  ihave Hp := (Entails.of_eq ((rest_xfer m ρ c (by omega) (by omega)).trans (pay_xs m ρ c (by omega)))) $$ Hpay
  ihave HX := HX $$ [Hat Hp]
  · isplitl [Hat]; · iexact Hat
    iexact Hp
  iapply hk
  unfold St Owe X
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Waiting for the next own send of routes. -/
theorem op_await (h : aw < ac) (h1 : ac ≤ 15) (ha : 15 ≤ xs ∨ 0 < 20 + 2 * xs) (hb : 15 ≤ ac ∨ 0 < 2 + ac) (hs' : 15 ≤ ss ∨ 0 < 21 + 2 * ss) {sV : DmaSem sig} (hs : sV = dsem (34 + aw)) {sp sp' : Space} {s s' : Shape} {e e' : EltTy} {src : Memref sig .tc sp' s' e'} {dst : Memref sig .tc sp s e}
    {hsrc : src.view.WordExact} {hdst : dst.view.WordExact} (hN : dst.view.dmaCredit = NA)
    {k : PUnit → Prog (TpuEff nD τ sig (Elt F) Λ₀ .tc) α}
    (hk : St m ρ K Z c xs xr xw ac ar (aw + 1) ss sr sw r b r' r'' ⊢ WP c (k ⟨⟩) Q) :
    St m ρ K Z c xs xr xw ac ar aw ss sr sw r b r' r'' ⊢ WP c (.op (.waitDma2 sV src dst hsrc hdst) k) Q := by
  have hv : 0 < 100 := by clear hN; omega
  subst hs
  unfold St Owe
  iintro ⟨#HR, ⟨%W, HO⟩, HX, HA, HV, HS, HB, HC, HT, HW, HZ⟩
  ihave #Hlev := (rec_lev m ρ K) $$ HR
  unfold A
  ihave HA := (ch_wait 34 49 NA c _ _ _ h h1) $$ HA
  icases HA with ⟨⟨Hat, Hcr⟩, HA⟩
  iapply (Rounds.wp_wait_rest_token 𝒱₀ ER (rd m ρ) (c : Thread nD τ) none (κ := K (c, kq (34 + aw)))
      (wpE_waitDma2_eq 𝒱₀ (c : Thread nD τ) none Set.univ) (Set.mem_univ _) () (O := O c xs ac ss) (W := W) (R := 0) (m := 0) (T := ∅)
      ((Nat.zero_add _).trans (hN.trans (by clear hN; rw [expect_xfer m ρ c (by omega) (by omega), xferAmt_a (by omega) (by omega)])))) $$ [Hcr HO Hat]
  · isplitr; · iapply (inv_q m ρ K c (by omega) (by omega)); iexact HR
    isplitl [Hcr]; · rw [hN]; iexact Hcr
    isplitl [HO]; · iexact HO
    isplitr
    · iapply (mayWait (F := F) c (.dma (dsem (34 + aw))) (0) (lv_as (by omega)) ha hb hs' hv); iexact Hlev
    iexact Hat
  iintro ⟨HO, Hat, -, Hpay⟩
  ihave Hp := (Entails.of_eq ((rest_xfer m ρ c (by omega) (by omega)).trans (pay_as m ρ c (by omega)))) $$ Hpay
  ihave HA := HA $$ [Hat Hp]
  · isplitl [Hat]; · iexact Hat
    iexact Hp
  iapply hk
  unfold St Owe A
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Waiting for the next own message to have left: its slot is free again. -/
theorem op_swait (h : sw < ss) (h1 : ss ≤ 15) (h2 : ss ≤ sw + 2) (ha : 15 ≤ xs ∨ 0 < 20 + 2 * xs) (hb : 15 ≤ ac ∨ 0 < 2 + ac) (hs' : 15 ≤ ss ∨ 0 < 21 + 2 * ss) {sV : DmaSem sig} (hs : sV = dsem (64 + sw)) {sp sp' : Space} {s s' : Shape} {e e' : EltTy} {src : Memref sig .tc sp' s' e'} {dst : Memref sig .tc sp s e}
    {hsrc : src.view.WordExact} {hdst : dst.view.WordExact} (hN : dst.view.dmaCredit = NS)
    {k : PUnit → Prog (TpuEff nD τ sig (Elt F) Λ₀ .tc) α}
    (hk : St m ρ K Z c xs xr xw ac ar aw ss sr (sw + 1) false b r' r'' ⊢ WP c (k ⟨⟩) Q) :
    St m ρ K Z c xs xr xw ac ar aw ss sr sw false b r' r'' ⊢ WP c (.op (.waitDma2 sV src dst hsrc hdst) k) Q := by
  have hv : 0 < 100 := by clear hN; omega
  subst hs
  unfold St Owe
  iintro ⟨#HR, ⟨%W, HO⟩, HX, HA, HV, HS, HB, HC, HT, HW, HZ⟩
  ihave #Hlev := (rec_lev m ρ K) $$ HR
  unfold V
  ihave HV := (ch_wait 64 79 NS c _ _ _ h h1) $$ HV
  icases HV with ⟨⟨Hat, Hcr⟩, HV⟩
  iapply (Rounds.wp_wait_rest_token 𝒱₀ ER (rd m ρ) (c : Thread nD τ) none (κ := K (c, kq (64 + sw)))
      (wpE_waitDma2_eq 𝒱₀ (c : Thread nD τ) none Set.univ) (Set.mem_univ _) () (O := O c xs ac ss) (W := W) (R := 0) (m := 0) (T := ∅)
      ((Nat.zero_add _).trans (hN.trans (by clear hN; rw [expect_xfer m ρ c (by omega) (by omega), xferAmt_s (by omega)])))) $$ [Hcr HO Hat]
  · isplitr; · iapply (inv_q m ρ K c (by omega) (by omega)); iexact HR
    isplitl [Hcr]; · rw [hN]; iexact Hcr
    isplitl [HO]; · iexact HO
    isplitr
    · iapply (mayWait (F := F) c (.dma (dsem (64 + sw))) (0) (lv_ss (by omega)) ha hb hs' hv); iexact Hlev
    iexact Hat
  iintro ⟨HO, Hat, -, Hpay⟩
  ihave Hp := (Entails.of_eq ((rest_xfer m ρ c (by omega) (by omega)).trans (pay_ss m ρ c (by omega)))) $$ Hpay
  ihave HV := HV $$ [Hat]
  · isplitl [Hat]; · iexact Hat
    iempintro
  ihave HS := (Entails.of_eq (Sl_false m ρ c _ _)) $$ HS
  iapply hk
  unfold St Owe V
  isplitr; · iexact HR
  isplitl [HO]; · iexists _; iexact HO
  isplitl [HX]; · iexact HX
  isplitl [HA]; · iexact HA
  isplitl [HV]; · iexact HV
  isplitl [HS Hp]
  · iapply (Entails.of_eq ((Sl_false m ρ c _ _).trans (bigSep_Ico_succ_top (show ss ≤ sw + 2 by omega) _)).symm)
    isplitl [Hp]
    · rw [show sI (sw + 2) = sI sw from Fin.ext (Nat.add_mod_right sw 2)]; iexact Hp
    iexact HS
  isplitl [HB]; · iexact HB
  isplitl [HC]; · iexact HC
  isplitl [HT]; · iexact HT
  isplitl [HW]; · iexact HW
  iexact HZ

end Ops

end Cert.RingMoe
end
-- ==== Proof.Mems.lean ====
/-
The loads and stores of the kernel, from the state before to the state after.
-/
module

public import proofs.«01_k».proof.Proof.Waits

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-- Contents written everywhere through a view are, on the view's elements, any contents that read back as what was written. -/
theorem view_write_eq_on {sp : Space} {s : Shape} {e : EltTy} (v : View sig .tc sp s e) (fd g : v.ty.Contents (Elt F)) (w : s.Idx → Elt F e)
    (h : v.read (Elt F) g = w) : ∀ i ∈ v.set, v.write (Elt F) fd w Finset.univ i = g i := by
  intro i hi
  obtain ⟨j, -, rfl⟩ := Finset.mem_map.mp hi
  rw [View.write_emb_of_mem _ _ (Finset.mem_univ j), ← congrFun h j, View.read_apply, cast_cast, cast_eq]

/-- A send buffer's elements are those of its slice. -/
theorem sC_set (i : Fin 2) : (sC i).view.set = ((sM : Memref sig .tc .vmem S2x512x512 .bf16).view.slice (sR i)).set := View.set_reshape _ _
/-- A landing slot's elements are those of its slice. -/
theorem vC_set (i : Fin 15) : (vC i).view.set = ((vM : Memref sig .tc .vmem S15x512x512 .bf16).view.slice (vR i)).set := View.set_reshape _ _

variable (m : (ℓ : Loc nD τ sig) → Buf (Elt F) ℓ) (ρ : Dev nD → PrngReg)

/-- The table of counts, opened: its rows before `b` are right. -/
theorem opens_Bs (c : Dev nD) (b : ℕ) : Bs m ρ c b ⊢ iprop(∃ f : (cc0_scratch2 : Ref sig .tc).ty.Contents (Elt F), ⌜∀ i, (i 0).val < b → f i = BALL m ρ c i⌝
    ∗ ((c : Thread nD τ).loc cc0_scratch2 ↦{fullShare} f)) := Entails.refl _
/-- The device's own part, opened: right once stored. -/
theorem opens_Cs (c : Dev nD) (r : Bool) : Cs m ρ c r ⊢ iprop(∃ f : (cc0_scratch3 : Ref sig .tc).ty.Contents (Elt F), ⌜r = true → f = own m ρ c⌝
    ∗ ((c : Thread nD τ).loc cc0_scratch3 ↦{fullShare} f)) := Entails.refl _
/-- The result, opened: right once stored. -/
theorem opens_Os (c : Dev nD) (r : Bool) : Os m ρ c r ⊢ iprop(∃ f : (cc0_stg3_0 : Ref sig .tc).ty.Contents (Elt F), ⌜r = true → f = outAt m ρ c⌝
    ∗ ((c : Thread nD τ).loc cc0_stg3_0 ↦{fullShare} f)) := Entails.refl _

/-- Storing row `e` of the table extends the rows that are right by one. -/
theorem bstore_agrees (c e : Dev nD) (f : (cc0_scratch2 : Ref sig .tc).ty.Contents (Elt F)) (hf : ∀ i, (i 0).val < e.val → f i = BALL m ρ c i) :
    ∀ i, (i 0).val < e.val + 1 → ((bM : Memref sig .tc .vmem S16x4 .f32).access (bR e)).write (Elt F) f (brow m ρ c e.val) Finset.univ i = BALL m ρ c i := by
  intro i hi
  by_cases h : i ∈ ((bM : Memref sig .tc .vmem S16x4 .f32).access (bR e)).set
  · exact view_write_eq_on ((bM : Memref sig .tc .vmem S16x4 .f32).access (bR e)) f (BALL m ρ c) _ (BALL_read m ρ c e) i h
  · rw [View.write_of_not_mem f _ _ h]
    refine hf i (lt_of_le_of_ne (Nat.le_of_lt_succ hi) fun h0 => h ?_)
    refine Finset.mem_map.mpr ⟨ix2 0 (i 1), Finset.mem_univ _, ?_⟩
    funext a
    match a with
    | ⟨0, _⟩ => exact Fin.ext (by show e.val + 1 * 0 = (i 0).val; omega)
    | ⟨1, _⟩ => exact Fin.ext (by show 0 + 1 * (i 1).val = (i 1).val; omega)

/-- A send buffer held with some contents is free. -/
theorem closes_sA (c : Dev nD) (i : Fin 2) (f) : iprop((sM : Memref sig .tc .vmem S2x512x512 .bf16).view.loc (c : Thread nD τ) ↦[(sC i).view.set]{fullShare} f) ⊢ (sA c i : sProp 𝕄) := by
  show sP (F := F) c i f ⊢ _
  unfold sA; iintro H; iexists f; iexact H
/-- A send buffer into which message `s` was stored holds it. -/
theorem sP_stored (c : Dev nD) (i : Fin 2) (s : ℕ) (fn) : iprop(((sM : Memref sig .tc .vmem S2x512x512 .bf16).access (sR i)).loc (c : Thread nD τ) ↦[(sC i).view.set]{fullShare}
      ((sM : Memref sig .tc .vmem S2x512x512 .bf16).access (sR i)).write (Elt F) fn (msg m ρ s c) Finset.univ) ⊢ sP c i (SBUF m ρ c s) :=
  Entails.of_eq (pointsTo_congr fun j hj => view_write_eq_on ((sM : Memref sig .tc .vmem S2x512x512 .bf16).access (sR i)) fn (SBUF m ρ c s) _
    (SBUF_read m ρ c i s) j ((sC_set i).subset hj))
/-- The table of counts, closed again. -/
theorem closes_Bs (c : Dev nD) {b : ℕ} (f : (cc0_scratch2 : Ref sig .tc).ty.Contents (Elt F)) (hf : ∀ i, (i 0).val < b → f i = BALL m ρ c i) :
    iprop((bM : Memref sig .tc .vmem S16x4 .f32).view.loc (c : Thread nD τ) ↦{fullShare} f) ⊢ Bs m ρ c b := by
  show iprop((c : Thread nD τ).loc cc0_scratch2 ↦{fullShare} f) ⊢ _
  unfold Bs; iintro H; iexists f; isplitr; · ipureintro; exact hf
  iexact H
/-- Storing row `e` makes the rows up to it right. -/
theorem stored_Bs (c e : Dev nD) (f : (cc0_scratch2 : Ref sig .tc).ty.Contents (Elt F)) (hf : ∀ i, (i 0).val < e.val → f i = BALL m ρ c i) :
    iprop(((bM : Memref sig .tc .vmem S16x4 .f32).access (bR e)).loc (c : Thread nD τ) ↦{fullShare} ((bM : Memref sig .tc .vmem S16x4 .f32).access (bR e)).write (Elt F) f (brow m ρ c e.val) Finset.univ)
      ⊢ Bs m ρ c (e.val + 1) := closes_Bs m ρ c _ (bstore_agrees m ρ c e f hf)
/-- The device's own part, closed again. -/
theorem closes_Cs (c : Dev nD) {r : Bool} (f : (cc0_scratch3 : Ref sig .tc).ty.Contents (Elt F)) (hf : r = true → f = own m ρ c) :
    iprop((cM : Memref sig .tc .vmem S512x512 .f32).view.loc (c : Thread nD τ) ↦{fullShare} f) ⊢ Cs m ρ c r := by
  show iprop((c : Thread nD τ).loc cc0_scratch3 ↦{fullShare} f) ⊢ _
  unfold Cs; iintro H; iexists f; isplitr; · ipureintro; exact hf
  iexact H
/-- The result, closed again. -/
theorem closes_Os (c : Dev nD) {r : Bool} (f : (cc0_stg3_0 : Ref sig .tc).ty.Contents (Elt F)) (hf : r = true → f = outAt m ρ c) :
    iprop((oM : Memref sig .tc .vmem S512x512 .f32).view.loc (c : Thread nD τ) ↦{fullShare} f) ⊢ Os m ρ c r := by
  show iprop((c : Thread nD τ).loc cc0_stg3_0 ↦{fullShare} f) ⊢ _
  unfold Os; iintro H; iexists f; isplitr; · ipureintro; exact hf
  iexact H

/-- A pair of noughts is the offset nought. -/
theorem whole_off : (![0, 0] : Fin 2 → ℕ) = fun _ => 0 := funext fun a => by fin_cases a <;> rfl

/-- Storing the device's own part makes it right. -/
theorem stored_Cs (c : Dev nD) {r : Bool} (f : (cc0_scratch3 : Ref sig .tc).ty.Contents (Elt F)) (inb : ∀ a, (![0, 0] : Fin 2 → ℕ) a + S512x512.size a ≤ S512x512.size a) :
    iprop(((cM : Memref sig .tc .vmem S512x512 .f32).access (Rect.unit (s := S512x512) ![0, 0] S512x512.size inb)).loc (c : Thread nD τ) ↦{fullShare}
      ((cM : Memref sig .tc .vmem S512x512 .f32).access (Rect.unit (s := S512x512) ![0, 0] S512x512.size inb)).write (Elt F) f (own m ρ c) Finset.univ) ⊢ Cs m ρ c r :=
  closes_Cs m ρ c _ fun _ => Memref.write_access_unit_zero_univ (Elt F) cc0_scratch3 whole_off _ f _
/-- Storing the result makes it right. -/
theorem stored_Os (c : Dev nD) {r : Bool} (f : (cc0_stg3_0 : Ref sig .tc).ty.Contents (Elt F)) (inb : ∀ a, (![0, 0] : Fin 2 → ℕ) a + S512x512.size a ≤ S512x512.size a) :
    iprop(((oM : Memref sig .tc .vmem S512x512 .f32).access (Rect.unit (s := S512x512) ![0, 0] S512x512.size inb)).loc (c : Thread nD τ) ↦{fullShare}
      ((oM : Memref sig .tc .vmem S512x512 .f32).access (Rect.unit (s := S512x512) ![0, 0] S512x512.size inb)).write (Elt F) f (outAt m ρ c) Finset.univ) ⊢ Os m ρ c r :=
  closes_Os m ρ c _ fun _ => Memref.write_access_unit_zero_univ (Elt F) cc0_stg3_0 whole_off _ f _

section Ops
variable (K : Dev nD × Fin 92 → ℕ) (Z : sProp (MT nD τ sig Unit (Elt F) ℕ UU ℕ)) (c : Dev nD) {xs xr xw ac ar aw ss sr sw : ℕ} {r : Bool} {b : ℕ} {r' r'' : Bool}
variable {α : Type} {Q : α → sProp (MT nD τ sig Unit (Elt F) ℕ UU ℕ)}

/-- Loading a chunk of activations that has come. -/
theorem op_xload (p : ℕ) (hp : p ≤ xr) {e : Dev nD} (he : back c p = e) {off : Fin 2 → Nat} {inb : ∀ a, off a + S512x256.size a ≤ S8192x256.size a}
    {hl : (xaM : Memref sig .tc .vmem S8192x256 .bf16).view.LoadsAt (Rect.unit (s := S8192x256) off S512x256.size inb).toLoadRect}
    {k : ((Rect.unit (s := S8192x256) off S512x256.size inb).toLoadRect.shape.Idx → Elt F .bf16) → Prog (TpuEff nD τ sig (Elt F) Λ₀ .tc) α} (ho : off = ![512 * e.val, 0])
    (hk : St m ρ K Z c xs xr xw ac ar aw ss sr sw r b r' r'' ⊢ WP c (k (xblk m ρ e)) Q) :
    St m ρ K Z c xs xr xw ac ar aw ss sr sw r b r' r'' ⊢ WP c (.op (.load xaM (Rect.unit (s := S8192x256) off S512x256.size inb).toLoadRect hl) k) Q := by
  subst ho; subst he
  unfold St Owe
  iintro ⟨#HR, ⟨%W, HO⟩, HX, HA, HV, HS, HB, HC, HT, HW, HZ⟩
  unfold X
  ihave HX := (ch_load 4 19 NX c _ _ _ hp) $$ HX
  icases HX with ⟨Hp, HX⟩
  ihave Hp := (xP_pts (F := F) _ _ _ _) $$ Hp
  iapply (wp_load 𝒱₀ (c : Thread nD τ) none Set.univ (m := xaM) (r := (xR (back c p)).toLoadRect) (S := (xC (back c p)).view.set) (f := XALL m ρ)
    (View.set_slice xaM.view (xR (back c p))).symm.subset) $$ Hp
  iintro Hp
  ihave Hp := (show iprop((xaM : Memref sig .tc .vmem S8192x256 .bf16).view.loc (c : Thread nD τ) ↦[(xC (back c p)).view.set]{qL} XALL m ρ) ⊢ xP c (back c p) qL (XALL m ρ) from Entails.refl _) $$ Hp
  ihave HX := HX $$ Hp
  rw [show (xaM : Memref sig .tc .vmem S8192x256 .bf16).view.readAt (Elt F) (xR (back c p)).toLoadRect (XALL m ρ) = xblk m ρ (back c p) from XALL_read m ρ (back c p)]
  iapply hk
  unfold St Owe X
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Loading a chunk of routes that has come. -/
theorem op_rload (p : ℕ) (hp : p ≤ ar) {e : Dev nD} (he : back c p = e) {off : Fin 2 → Nat} {inb : ∀ a, off a + S512x1.size a ≤ S8192x1.size a}
    {hl : (raM : Memref sig .tc .vmem S8192x1 .i32).view.LoadsAt (Rect.unit (s := S8192x1) off S512x1.size inb).toLoadRect}
    {k : ((Rect.unit (s := S8192x1) off S512x1.size inb).toLoadRect.shape.Idx → Elt F .i32) → Prog (TpuEff nD τ sig (Elt F) Λ₀ .tc) α} (ho : off = ![512 * e.val, 0])
    (hk : St m ρ K Z c xs xr xw ac ar aw ss sr sw r b r' r'' ⊢ WP c (k (rblk m ρ e)) Q) :
    St m ρ K Z c xs xr xw ac ar aw ss sr sw r b r' r'' ⊢ WP c (.op (.load raM (Rect.unit (s := S8192x1) off S512x1.size inb).toLoadRect hl) k) Q := by
  subst ho; subst he
  unfold St Owe
  iintro ⟨#HR, ⟨%W, HO⟩, HX, HA, HV, HS, HB, HC, HT, HW, HZ⟩
  unfold A
  ihave HA := (ch_load 34 49 NA c _ _ _ hp) $$ HA
  icases HA with ⟨Hp, HA⟩
  ihave Hp := (rP_pts (F := F) _ _ _ _) $$ Hp
  iapply (wp_load 𝒱₀ (c : Thread nD τ) none Set.univ (m := raM) (r := (rR (back c p)).toLoadRect) (S := (rC (back c p)).view.set) (f := RALL m ρ)
    (View.set_slice raM.view (rR (back c p))).symm.subset) $$ Hp
  iintro Hp
  ihave Hp := (show iprop((raM : Memref sig .tc .vmem S8192x1 .i32).view.loc (c : Thread nD τ) ↦[(rC (back c p)).view.set]{qL} RALL m ρ) ⊢ rP c (back c p) qL (RALL m ρ) from Entails.refl _) $$ Hp
  ihave HA := HA $$ Hp
  rw [show (raM : Memref sig .tc .vmem S8192x1 .i32).view.readAt (Elt F) (rR (back c p)).toLoadRect (RALL m ρ) = rblk m ρ (back c p) from RALL_read m ρ (back c p)]
  iapply hk
  unfold St Owe A
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Loading any chunk of routes, all of them there. -/
theorem op_rload' (h : 15 ≤ ar) (e : Dev nD) {off : Fin 2 → Nat} {inb : ∀ a, off a + S512x1.size a ≤ S8192x1.size a}
    {hl : (raM : Memref sig .tc .vmem S8192x1 .i32).view.LoadsAt (Rect.unit (s := S8192x1) off S512x1.size inb).toLoadRect}
    {k : ((Rect.unit (s := S8192x1) off S512x1.size inb).toLoadRect.shape.Idx → Elt F .i32) → Prog (TpuEff nD τ sig (Elt F) Λ₀ .tc) α} (ho : off = ![512 * e.val, 0])
    (hk : St m ρ K Z c xs xr xw ac ar aw ss sr sw r b r' r'' ⊢ WP c (k (rblk m ρ e)) Q) :
    St m ρ K Z c xs xr xw ac ar aw ss sr sw r b r' r'' ⊢ WP c (.op (.load raM (Rect.unit (s := S8192x1) off S512x1.size inb).toLoadRect hl) k) Q := by
  obtain ⟨p, hp, he⟩ := back_surj c e
  exact op_rload m ρ K Z c p (by omega) he ho hk

/-- Loading a message that has come. -/
theorem op_vload (s : ℕ) (h : s < sr) (hs : s < 15) {off : Fin 3 → Nat} {inb : ∀ a, off a + S1x512x512.size a ≤ S15x512x512.size a}
    {hl : (vM : Memref sig .tc .vmem S15x512x512 .bf16).view.LoadsAt (Rect.unit (s := S15x512x512) off S1x512x512.size inb).toLoadRect}
    {k : ((Rect.unit (s := S15x512x512) off S1x512x512.size inb).toLoadRect.shape.Idx → Elt F .bf16) → Prog (TpuEff nD τ sig (Elt F) Λ₀ .tc) α} (ho : off = ![(vI s).val, 0, 0])
    (hk : St m ρ K Z c xs xr xw ac ar aw ss sr sw r b r' r'' ⊢ WP c (k (msg m ρ s (prv c))) Q) :
    St m ρ K Z c xs xr xw ac ar aw ss sr sw r b r' r'' ⊢ WP c (.op (.load vM (Rect.unit (s := S15x512x512) off S1x512x512.size inb).toLoadRect hl) k) Q := by
  subst ho
  unfold St Owe
  iintro ⟨#HR, ⟨%W, HO⟩, HX, HA, HV, HS, HB, HC, HT, HW, HZ⟩
  unfold V
  ihave HV := (ch_load 64 79 NS c _ _ _ (show s + 1 ≤ sr from h)) $$ HV
  icases HV with ⟨Hp, HV⟩
  ihave Hp := (show vGot m ρ c (s + 1) ⊢ iprop((vC (vI s)).view.loc (c : Thread nD τ) ↦[(vC (vI s)).view.set]{fullShare} VBUF m ρ c) from Entails.refl _) $$ Hp
  iapply (wp_load 𝒱₀ (c : Thread nD τ) none Set.univ (m := vM) (r := (vR (vI s)).toLoadRect) (S := (vC (vI s)).view.set) (f := VBUF m ρ c)
    ((View.set_slice vM.view (vR (vI s))).symm.trans (vC_set (vI s)).symm).subset) $$ Hp
  iintro Hp
  ihave Hp := (show iprop((vM : Memref sig .tc .vmem S15x512x512 .bf16).view.loc (c : Thread nD τ) ↦[(vC (vI s)).view.set]{fullShare} VBUF m ρ c) ⊢ vGot m ρ c (s + 1) from Entails.refl _) $$ Hp
  ihave HV := HV $$ Hp
  rw [show (vM : Memref sig .tc .vmem S15x512x512 .bf16).view.readAt (Elt F) (vR (vI s)).toLoadRect (VBUF m ρ c) = msg m ρ s (prv c) from
    (VBUF_read m ρ c (vI s)).trans (by rw [show (vI s).val = s from Nat.mod_eq_of_lt hs])]
  iapply hk
  unfold St Owe V
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Loading from a message slot that is at home, its contents of no use. -/
theorem op_speek (h : ss < sw + 2) {off : Fin 3 → Nat} {inb : ∀ a, off a + S1x512x512.size a ≤ S2x512x512.size a}
    {hl : (sM : Memref sig .tc .vmem S2x512x512 .bf16).view.LoadsAt (Rect.unit (s := S2x512x512) off S1x512x512.size inb).toLoadRect}
    {k : ((Rect.unit (s := S2x512x512) off S1x512x512.size inb).toLoadRect.shape.Idx → Elt F .bf16) → Prog (TpuEff nD τ sig (Elt F) Λ₀ .tc) α} (ho : off = ![(sI ss).val, 0, 0])
    (hk : ∀ v, St m ρ K Z c xs xr xw ac ar aw ss sr sw false b r' r'' ⊢ WP c (k v) Q) :
    St m ρ K Z c xs xr xw ac ar aw ss sr sw false b r' r'' ⊢ WP c (.op (.load sM (Rect.unit (s := S2x512x512) off S1x512x512.size inb).toLoadRect hl) k) Q := by
  subst ho
  unfold St Owe
  iintro ⟨#HR, ⟨%W, HO⟩, HX, HA, HV, HS, HB, HC, HT, HW, HZ⟩
  ihave HS := (Entails.of_eq (Sl_false m ρ c _ _)) $$ HS
  ihave HS := (bigSep_borrow (Finset.mem_Ico.mpr ⟨le_refl ss, h⟩) _) $$ HS
  icases HS with ⟨Hp, HS⟩
  ihave Hp := (opens_sA (F := F) _ _) $$ Hp
  icases Hp with ⟨%fn, Hp⟩
  ihave Hp := (sP_pts (F := F) _ _ _) $$ Hp
  iapply (wp_load 𝒱₀ (c : Thread nD τ) none Set.univ (m := sM) (r := (sR (sI ss)).toLoadRect) (S := (sC (sI ss)).view.set) (f := fn)
    ((View.set_slice sM.view (sR (sI ss))).symm.trans (sC_set (sI ss)).symm).subset) $$ Hp
  iintro Hp
  ihave HS := HS $$ [Hp]
  · iapply (closes_sA (F := F) c (sI ss) fn); iexact Hp
  iapply (hk _)
  unfold St Owe
  isplitr; · iexact HR
  isplitl [HO]; · iexists _; iexact HO
  isplitl [HX]; · iexact HX
  isplitl [HA]; · iexact HA
  isplitl [HV]; · iexact HV
  isplitl [HS]
  · iapply (Entails.of_eq (Sl_false m ρ c _ _).symm); iexact HS
  isplitl [HB]; · iexact HB
  isplitl [HC]; · iexact HC
  isplitl [HT]; · iexact HT
  isplitl [HW]; · iexact HW
  iexact HZ

/-- Storing the next message into its slot. -/
theorem op_sstore (h : ss < sw + 2) {off : Fin 3 → Nat} {inb : ∀ a, off a + S1x512x512.size a ≤ S2x512x512.size a}
    {w : (Rect.unit (s := S2x512x512) off S1x512x512.size inb).shape.Idx → Elt F .bf16}
    {hx : ((sM : Memref sig .tc .vmem S2x512x512 .bf16).access (Rect.unit (s := S2x512x512) off S1x512x512.size inb)).Stores Finset.univ}
    {hm : (Finset.univ : Finset (Rect.unit (s := S2x512x512) off S1x512x512.size inb).shape.Idx) = Finset.univ ∨ ∀ a, (Rect.unit (s := S2x512x512) off S1x512x512.size inb).stride a = 1}
    {k : PUnit → Prog (TpuEff nD τ sig (Elt F) Λ₀ .tc) α} (ho : off = ![(sI ss).val, 0, 0]) (hw : w = msg m ρ ss c)
    (hk : St m ρ K Z c xs xr xw ac ar aw ss sr sw true b r' r'' ⊢ WP c (k ⟨⟩) Q) :
    St m ρ K Z c xs xr xw ac ar aw ss sr sw false b r' r'' ⊢ WP c (.op (.store sM (Rect.unit (s := S2x512x512) off S1x512x512.size inb) w Finset.univ hx hm) k) Q := by
  subst ho; subst hw
  unfold St Owe
  iintro ⟨#HR, ⟨%W, HO⟩, HX, HA, HV, HS, HB, HC, HT, HW, HZ⟩
  ihave HS := (Entails.of_eq ((Sl_false m ρ c _ _).trans (bigSep_Ico_succ_bot h _))) $$ HS
  icases HS with ⟨Hp, HS⟩
  ihave Hp := (opens_sA (F := F) _ _) $$ Hp
  icases Hp with ⟨%fn, Hp⟩
  ihave Hp := (sP_pts (F := F) _ _ _) $$ Hp
  iapply (wp_store 𝒱₀ (c : Thread nD τ) none Set.univ (m := sM) (r := sR (sI ss)) (Mk := Finset.univ) (S := (sC (sI ss)).view.set) (f := fn)
    (sC_set (sI ss)).symm.subset) $$ Hp
  iintro Hp
  ihave Hp := (sP_stored m ρ c (sI ss) ss fn) $$ Hp
  iapply hk
  unfold St Owe
  isplitr; · iexact HR
  isplitl [HO]; · iexists _; iexact HO
  isplitl [HX]; · iexact HX
  isplitl [HA]; · iexact HA
  isplitl [HV]; · iexact HV
  isplitl [HS Hp]
  · iapply (Entails.of_eq (Sl_true m ρ c _ _).symm)
    isplitl [Hp]; · iexact Hp
    iexact HS
  isplitl [HB]; · iexact HB
  isplitl [HC]; · iexact HC
  isplitl [HT]; · iexact HT
  isplitl [HW]; · iexact HW
  iexact HZ

/-- The weights of expert `j` of the device. -/
theorem op_wload (j : Fin 4) {off : Fin 3 → Nat} {inb : ∀ a, off a + S1x256x512.size a ≤ S4x256x512.size a}
    {hl : (wM : Memref sig .tc .vmem S4x256x512 .bf16).view.LoadsAt (Rect.unit (s := S4x256x512) off S1x256x512.size inb).toLoadRect}
    {k : ((Rect.unit (s := S4x256x512) off S1x256x512.size inb).toLoadRect.shape.Idx → Elt F .bf16) → Prog (TpuEff nD τ sig (Elt F) Λ₀ .tc) α} (ho : off = ![j.val, 0, 0])
    (hk : St m ρ K Z c xs xr xw ac ar aw ss sr sw r b r' r'' ⊢ WP c (k (wexp m ρ c j)) Q) :
    St m ρ K Z c xs xr xw ac ar aw ss sr sw r b r' r'' ⊢ WP c (.op (.load wM (Rect.unit (s := S4x256x512) off S1x256x512.size inb).toLoadRect hl) k) Q := by
  subst ho
  unfold St Owe
  iintro ⟨#HR, ⟨%W, HO⟩, HX, HA, HV, HS, HB, HC, HT, HW, HZ⟩
  ihave HW := (show Ws m ρ c ⊢ iprop((c : Thread nD τ).loc cc0_stg2_0 ↦{fullShare} wstg m ρ c) from Entails.refl _) $$ HW
  iapply (wp_load 𝒱₀ (c : Thread nD τ) none Set.univ (m := wM) (r := (wR j).toLoadRect) (S := Finset.univ) (f := wstg m ρ c) (Finset.subset_univ _)) $$ HW
  iintro HW
  ihave HW := (show iprop((wM : Memref sig .tc .vmem S4x256x512 .bf16).view.loc (c : Thread nD τ) ↦{fullShare} wstg m ρ c) ⊢ Ws m ρ c from Entails.refl _) $$ HW
  iapply hk
  unfold St Owe
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]; · iexact HT
  isplitl [HW]; · iexact HW
  iexact HZ

/-- Loading from the table of counts, its contents of no use. -/
theorem op_bpeek {off : Fin 2 → Nat} {inb : ∀ a, off a + S1x4.size a ≤ S16x4.size a}
    {hl : (bM : Memref sig .tc .vmem S16x4 .f32).view.LoadsAt (Rect.unit (s := S16x4) off S1x4.size inb).toLoadRect}
    {k : ((Rect.unit (s := S16x4) off S1x4.size inb).toLoadRect.shape.Idx → Elt F .f32) → Prog (TpuEff nD τ sig (Elt F) Λ₀ .tc) α}
    (hk : ∀ v, St m ρ K Z c xs xr xw ac ar aw ss sr sw r b r' r'' ⊢ WP c (k v) Q) :
    St m ρ K Z c xs xr xw ac ar aw ss sr sw r b r' r'' ⊢ WP c (.op (.load bM (Rect.unit (s := S16x4) off S1x4.size inb).toLoadRect hl) k) Q := by
  unfold St Owe
  iintro ⟨#HR, ⟨%W, HO⟩, HX, HA, HV, HS, HB, HC, HT, HW, HZ⟩
  ihave HB := (opens_Bs m ρ c _) $$ HB
  icases HB with ⟨%f, %hf, HB⟩
  iapply (wp_load 𝒱₀ (c : Thread nD τ) none Set.univ (m := bM) (S := Finset.univ) (f := f) (Finset.subset_univ _)) $$ HB
  iintro HB
  iapply (hk _)
  unfold St Owe
  isplitr; · iexact HR
  isplitl [HO]; · iexists _; iexact HO
  isplitl [HX]; · iexact HX
  isplitl [HA]; · iexact HA
  isplitl [HV]; · iexact HV
  isplitl [HS]; · iexact HS
  isplitl [HB]
  · iapply (closes_Bs m ρ c f hf); iexact HB
  isplitl [HC]; · iexact HC
  isplitl [HT]; · iexact HT
  isplitl [HW]; · iexact HW
  iexact HZ

/-- Loading a row of the filled table of counts. -/
theorem op_bload (h : 16 ≤ b) (e : Dev nD) {off : Fin 2 → Nat} {inb : ∀ a, off a + S1x4.size a ≤ S16x4.size a}
    {hl : (bM : Memref sig .tc .vmem S16x4 .f32).view.LoadsAt (Rect.unit (s := S16x4) off S1x4.size inb).toLoadRect}
    {k : ((Rect.unit (s := S16x4) off S1x4.size inb).toLoadRect.shape.Idx → Elt F .f32) → Prog (TpuEff nD τ sig (Elt F) Λ₀ .tc) α} (ho : off = ![e.val, 0])
    (hk : St m ρ K Z c xs xr xw ac ar aw ss sr sw r b r' r'' ⊢ WP c (k (brow m ρ c e.val)) Q) :
    St m ρ K Z c xs xr xw ac ar aw ss sr sw r b r' r'' ⊢ WP c (.op (.load bM (Rect.unit (s := S16x4) off S1x4.size inb).toLoadRect hl) k) Q := by
  subst ho
  unfold St Owe
  iintro ⟨#HR, ⟨%W, HO⟩, HX, HA, HV, HS, HB, HC, HT, HW, HZ⟩
  ihave HB := (opens_Bs m ρ c _) $$ HB
  icases HB with ⟨%f, %hf, HB⟩
  have e' : f = BALL m ρ c := funext fun i => hf i (lt_of_lt_of_le (i 0).isLt h)
  iapply (wp_load 𝒱₀ (c : Thread nD τ) none Set.univ (m := bM) (r := (bR e).toLoadRect) (S := Finset.univ) (f := f) (Finset.subset_univ _)) $$ HB
  iintro HB
  rw [show (bM : Memref sig .tc .vmem S16x4 .f32).view.readAt (Elt F) (bR e).toLoadRect f = brow m ρ c e.val from by rw [e']; exact BALL_read m ρ c e]
  iapply hk
  unfold St Owe
  isplitr; · iexact HR
  isplitl [HO]; · iexists _; iexact HO
  isplitl [HX]; · iexact HX
  isplitl [HA]; · iexact HA
  isplitl [HV]; · iexact HV
  isplitl [HS]; · iexact HS
  isplitl [HB]
  · iapply (closes_Bs m ρ c f hf); iexact HB
  isplitl [HC]; · iexact HC
  isplitl [HT]; · iexact HT
  isplitl [HW]; · iexact HW
  iexact HZ

/-- Storing the next row of the table of counts. -/
theorem op_bstore (hb : b < 16) {off : Fin 2 → Nat} {inb : ∀ a, off a + S1x4.size a ≤ S16x4.size a}
    {w : (Rect.unit (s := S16x4) off S1x4.size inb).shape.Idx → Elt F .f32}
    {hx : ((bM : Memref sig .tc .vmem S16x4 .f32).access (Rect.unit (s := S16x4) off S1x4.size inb)).Stores Finset.univ}
    {hm : (Finset.univ : Finset (Rect.unit (s := S16x4) off S1x4.size inb).shape.Idx) = Finset.univ ∨ ∀ a, (Rect.unit (s := S16x4) off S1x4.size inb).stride a = 1}
    {k : PUnit → Prog (TpuEff nD τ sig (Elt F) Λ₀ .tc) α} (ho : off = ![b, 0]) (hw : w = brow m ρ c b)
    (hk : St m ρ K Z c xs xr xw ac ar aw ss sr sw r (b + 1) r' r'' ⊢ WP c (k ⟨⟩) Q) :
    St m ρ K Z c xs xr xw ac ar aw ss sr sw r b r' r'' ⊢ WP c (.op (.store bM (Rect.unit (s := S16x4) off S1x4.size inb) w Finset.univ hx hm) k) Q := by
  subst ho; subst hw
  unfold St Owe
  iintro ⟨#HR, ⟨%W, HO⟩, HX, HA, HV, HS, HB, HC, HT, HW, HZ⟩
  ihave HB := (opens_Bs m ρ c _) $$ HB
  icases HB with ⟨%f, %hf, HB⟩
  ihave HB := (show iprop((c : Thread nD τ).loc cc0_scratch2 ↦{fullShare} f) ⊢ iprop(((bM : Memref sig .tc .vmem S16x4 .f32).access (bR ⟨b, hb⟩)).loc (c : Thread nD τ) ↦{fullShare} f) from Entails.refl _) $$ HB
  iapply (wp_store 𝒱₀ (c : Thread nD τ) none Set.univ (m := bM) (r := bR ⟨b, hb⟩) (Mk := Finset.univ) (S := Finset.univ) (f := f) (Finset.subset_univ _)) $$ HB
  iintro HB
  iapply hk
  unfold St Owe
  isplitr; · iexact HR
  isplitl [HO]; · iexists _; iexact HO
  isplitl [HX]; · iexact HX
  isplitl [HA]; · iexact HA
  isplitl [HV]; · iexact HV
  isplitl [HS]; · iexact HS
  isplitl [HB]
  · iapply (stored_Bs m ρ c ⟨b, hb⟩ f hf); iexact HB
  isplitl [HC]; · iexact HC
  isplitl [HT]; · iexact HT
  isplitl [HW]; · iexact HW
  iexact HZ

/-- Loading the device's own contribution, its contents of no use. -/
theorem op_cpeek {off : Fin 2 → Nat} {inb : ∀ a, off a + S512x512.size a ≤ S512x512.size a}
    {hl : (cM : Memref sig .tc .vmem S512x512 .f32).view.LoadsAt (Rect.unit (s := S512x512) off S512x512.size inb).toLoadRect}
    {k : ((Rect.unit (s := S512x512) off S512x512.size inb).toLoadRect.shape.Idx → Elt F .f32) → Prog (TpuEff nD τ sig (Elt F) Λ₀ .tc) α}
    (hk : ∀ v, St m ρ K Z c xs xr xw ac ar aw ss sr sw r b r' r'' ⊢ WP c (k v) Q) :
    St m ρ K Z c xs xr xw ac ar aw ss sr sw r b r' r'' ⊢ WP c (.op (.load cM (Rect.unit (s := S512x512) off S512x512.size inb).toLoadRect hl) k) Q := by
  unfold St Owe
  iintro ⟨#HR, ⟨%W, HO⟩, HX, HA, HV, HS, HB, HC, HT, HW, HZ⟩
  ihave HC := (opens_Cs m ρ c _) $$ HC
  icases HC with ⟨%f, %hf, HC⟩
  iapply (wp_load 𝒱₀ (c : Thread nD τ) none Set.univ (m := cM) (S := Finset.univ) (f := f) (Finset.subset_univ _)) $$ HC
  iintro HC
  iapply (hk _)
  unfold St Owe
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]
  · iapply (closes_Cs m ρ c f hf); iexact HC
  isplitl [HT]; · iexact HT
  isplitl [HW]; · iexact HW
  iexact HZ

/-- Storing the device's own contribution. -/
theorem op_cstore {inb : ∀ a, (![0, 0] : Fin 2 → ℕ) a + S512x512.size a ≤ S512x512.size a}
    {w : (Rect.unit (s := S512x512) ![0, 0] S512x512.size inb).shape.Idx → Elt F .f32}
    {hx : ((cM : Memref sig .tc .vmem S512x512 .f32).access (Rect.unit (s := S512x512) ![0, 0] S512x512.size inb)).Stores Finset.univ}
    {hm : (Finset.univ : Finset (Rect.unit (s := S512x512) ![0, 0] S512x512.size inb).shape.Idx) = Finset.univ ∨ ∀ a, (Rect.unit (s := S512x512) ![0, 0] S512x512.size inb).stride a = 1}
    {k : PUnit → Prog (TpuEff nD τ sig (Elt F) Λ₀ .tc) α} (hw : w = own m ρ c)
    (hk : St m ρ K Z c xs xr xw ac ar aw ss sr sw r b true r'' ⊢ WP c (k ⟨⟩) Q) :
    St m ρ K Z c xs xr xw ac ar aw ss sr sw r b r' r'' ⊢ WP c (.op (.store cM (Rect.unit (s := S512x512) ![0, 0] S512x512.size inb) w Finset.univ hx hm) k) Q := by
  subst hw
  unfold St Owe
  iintro ⟨#HR, ⟨%W, HO⟩, HX, HA, HV, HS, HB, HC, HT, HW, HZ⟩
  ihave HC := (opens_Cs m ρ c _) $$ HC
  icases HC with ⟨%f, %hf, HC⟩
  ihave HC := (show iprop((c : Thread nD τ).loc cc0_scratch3 ↦{fullShare} f) ⊢ iprop(((cM : Memref sig .tc .vmem S512x512 .f32).access (Rect.unit (s := S512x512) ![0, 0] S512x512.size inb)).loc (c : Thread nD τ) ↦{fullShare} f) from Entails.refl _) $$ HC
  iapply (wp_store 𝒱₀ (c : Thread nD τ) none Set.univ (m := cM) (r := Rect.unit (s := S512x512) ![0, 0] S512x512.size inb) (Mk := Finset.univ) (S := Finset.univ) (f := f) (Finset.subset_univ _)) $$ HC
  iintro HC
  iapply hk
  unfold St Owe
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]
  · iapply (stored_Cs m ρ c f inb); iexact HC
  isplitl [HT]; · iexact HT
  isplitl [HW]; · iexact HW
  iexact HZ

/-- Loading the result, its contents of no use. -/
theorem op_opeek {off : Fin 2 → Nat} {inb : ∀ a, off a + S512x512.size a ≤ S512x512.size a}
    {hl : (oM : Memref sig .tc .vmem S512x512 .f32).view.LoadsAt (Rect.unit (s := S512x512) off S512x512.size inb).toLoadRect}
    {k : ((Rect.unit (s := S512x512) off S512x512.size inb).toLoadRect.shape.Idx → Elt F .f32) → Prog (TpuEff nD τ sig (Elt F) Λ₀ .tc) α}
    (hk : ∀ v, St m ρ K Z c xs xr xw ac ar aw ss sr sw r b r' r'' ⊢ WP c (k v) Q) :
    St m ρ K Z c xs xr xw ac ar aw ss sr sw r b r' r'' ⊢ WP c (.op (.load oM (Rect.unit (s := S512x512) off S512x512.size inb).toLoadRect hl) k) Q := by
  unfold St Owe
  iintro ⟨#HR, ⟨%W, HO⟩, HX, HA, HV, HS, HB, HC, HT, HW, HZ⟩
  ihave HT := (opens_Os m ρ c _) $$ HT
  icases HT with ⟨%f, %hf, HT⟩
  iapply (wp_load 𝒱₀ (c : Thread nD τ) none Set.univ (m := oM) (S := Finset.univ) (f := f) (Finset.subset_univ _)) $$ HT
  iintro HT
  iapply (hk _)
  unfold St Owe
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]
  · iapply (closes_Os m ρ c f hf); iexact HT
  isplitl [HW]; · iexact HW
  iexact HZ

/-- Storing the result. -/
theorem op_ostore {inb : ∀ a, (![0, 0] : Fin 2 → ℕ) a + S512x512.size a ≤ S512x512.size a}
    {w : (Rect.unit (s := S512x512) ![0, 0] S512x512.size inb).shape.Idx → Elt F .f32}
    {hx : ((oM : Memref sig .tc .vmem S512x512 .f32).access (Rect.unit (s := S512x512) ![0, 0] S512x512.size inb)).Stores Finset.univ}
    {hm : (Finset.univ : Finset (Rect.unit (s := S512x512) ![0, 0] S512x512.size inb).shape.Idx) = Finset.univ ∨ ∀ a, (Rect.unit (s := S512x512) ![0, 0] S512x512.size inb).stride a = 1}
    {k : PUnit → Prog (TpuEff nD τ sig (Elt F) Λ₀ .tc) α} (hw : w = outAt m ρ c)
    (hk : St m ρ K Z c xs xr xw ac ar aw ss sr sw r b r' true ⊢ WP c (k ⟨⟩) Q) :
    St m ρ K Z c xs xr xw ac ar aw ss sr sw r b r' r'' ⊢ WP c (.op (.store oM (Rect.unit (s := S512x512) ![0, 0] S512x512.size inb) w Finset.univ hx hm) k) Q := by
  subst hw
  unfold St Owe
  iintro ⟨#HR, ⟨%W, HO⟩, HX, HA, HV, HS, HB, HC, HT, HW, HZ⟩
  ihave HT := (opens_Os m ρ c _) $$ HT
  icases HT with ⟨%f, %hf, HT⟩
  ihave HT := (show iprop((c : Thread nD τ).loc cc0_stg3_0 ↦{fullShare} f) ⊢ iprop(((oM : Memref sig .tc .vmem S512x512 .f32).access (Rect.unit (s := S512x512) ![0, 0] S512x512.size inb)).loc (c : Thread nD τ) ↦{fullShare} f) from Entails.refl _) $$ HT
  iapply (wp_store 𝒱₀ (c : Thread nD τ) none Set.univ (m := oM) (r := Rect.unit (s := S512x512) ![0, 0] S512x512.size inb) (Mk := Finset.univ) (S := Finset.univ) (f := f) (Finset.subset_univ _)) $$ HT
  iintro HT
  iapply hk
  unfold St Owe
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]; · iexact HC
  isplitl [HT]
  · iapply (stored_Os m ρ c f inb); iexact HT
  isplitl [HW]; · iexact HW
  iexact HZ

/-- Loading the device's own contribution. -/
theorem op_cload {inb : ∀ a, (![0, 0] : Fin 2 → ℕ) a + S512x512.size a ≤ S512x512.size a}
    {hl : (cM : Memref sig .tc .vmem S512x512 .f32).view.LoadsAt (Rect.unit (s := S512x512) ![0, 0] S512x512.size inb).toLoadRect}
    {k : ((Rect.unit (s := S512x512) ![0, 0] S512x512.size inb).toLoadRect.shape.Idx → Elt F .f32) → Prog (TpuEff nD τ sig (Elt F) Λ₀ .tc) α}
    (hk : St m ρ K Z c xs xr xw ac ar aw ss sr sw r b true r'' ⊢ WP c (k (own m ρ c)) Q) :
    St m ρ K Z c xs xr xw ac ar aw ss sr sw r b true r'' ⊢ WP c (.op (.load cM (Rect.unit (s := S512x512) ![0, 0] S512x512.size inb).toLoadRect hl) k) Q := by
  unfold St Owe
  iintro ⟨#HR, ⟨%W, HO⟩, HX, HA, HV, HS, HB, HC, HT, HW, HZ⟩
  ihave HC := (opens_Cs m ρ c _) $$ HC
  icases HC with ⟨%f, %hf, HC⟩
  iapply (wp_load 𝒱₀ (c : Thread nD τ) none Set.univ (m := cM) (S := Finset.univ) (f := f) (Finset.subset_univ _)) $$ HC
  iintro HC
  rw [show (cM : Memref sig .tc .vmem S512x512 .f32).view.readAt (Elt F) (Rect.unit (s := S512x512) ![0, 0] S512x512.size inb).toLoadRect f = own m ρ c from
    (Memref.readAt_unit_zero (Elt F) cc0_scratch3 whole_off _ f).trans (hf rfl)]
  iapply hk
  unfold St Owe
  isplitr; · iexact HR
  isplitl [HO]; · iexists _; iexact HO
  isplitl [HX]; · iexact HX
  isplitl [HA]; · iexact HA
  isplitl [HV]; · iexact HV
  isplitl [HS]; · iexact HS
  isplitl [HB]; · iexact HB
  isplitl [HC]
  · iapply (closes_Cs m ρ c f hf); iexact HC
  isplitl [HT]; · iexact HT
  isplitl [HW]; · iexact HW
  iexact HZ

end Ops

end Cert.RingMoe
end
-- ==== Proof.Offs.lean ====
/-
Where the body's accesses lie, by position on the ring.
-/
module

public import proofs.«01_k».proof.Proof.Mems
public import proofs.«01_k».proof.Proof.Gen.KernelIdeal.Skeleton

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

/-- A program that only returns. -/
theorem op_ret (c : Dev nD) {α : Type} {P : sProp 𝕄} {a : α} {Q : α → sProp 𝕄} (h : P ⊢ Q a) : P ⊢ WP c (.ret a) Q := by
  show P ⊢ wp frame _ Set.univ (.ret a) Q
  rw [wp_ret]; exact h.trans fupd_intro
/-- One program after another, run on device `c`. -/
theorem op_seq (c : Dev nD) {α β : Type} {P : sProp 𝕄} {p : Prog (TpuEff nD τ sig (Elt F) Λ₀ .tc) α} {k : α → Prog (TpuEff nD τ sig (Elt F) Λ₀ .tc) β} {Q : β → sProp 𝕄}
    (h : P ⊢ WP c p fun a => WP c (k a) Q) : P ⊢ WP c (p >>= k) Q := by
  show P ⊢ wp frame _ Set.univ (p >>= k) Q
  rw [wp_bind]; exact h
/-- The chunk copied first is the device's own. -/
theorem off3_back (c : Dev nD) : k0_off3 c = ![512 * (back c 0).val, 0] := by rw [k0_off3_eq, back_zero]
/-- The chunk of routes sent at hop `r` lies `r` places back. -/
theorem off4_back (c : Dev nD) (r : Fin 15) : k0_off4 c (BitVec.ofNat 32 r.val) = ![512 * (back c r.val).val, 0] := by revert c r; decide +kernel
/-- The chunk of activations sent at hop `1 + r` lies as many places back. -/
theorem off5_back (c : Dev nD) (r : Fin 14) : k0_off5 c (BitVec.ofNat 32 (1 + r.val)) = ![512 * (back c (1 + r.val)).val, 0] := by revert c r; decide +kernel
/-- The chunk of routes read for contribution `1 + r` lies as many places back. -/
theorem off6_back (c : Dev nD) (r : Fin 15) : k0_off6 c (BitVec.ofNat 32 (1 + r.val)) = ![512 * (back c (1 + r.val)).val, 0] := by revert c r; decide +kernel
/-- The row of counts read for contribution `1 + r` lies as many places back. -/
theorem off7_back (c : Dev nD) (r : Fin 15) : k0_off7 c (BitVec.ofNat 32 (1 + r.val)) = ![(back c (1 + r.val)).val, 0] := by revert c r; decide +kernel
/-- The chunk of activations read for contribution `1 + r` lies as many places back. -/
theorem off8_back (c : Dev nD) (r : Fin 15) : k0_off8 c (BitVec.ofNat 32 (1 + r.val)) = ![512 * (back c (1 + r.val)).val, 0] := by revert c r; decide +kernel

end Cert.RingMoe
end
-- ==== Proof.Entry.lean ====
/-
The entry of the kernel: the handshake with the two neighbours, and the device's own chunk stored.
-/
module

public import proofs.«01_k».proof.Proof.Pieces
public import proofs.«01_k».proof.Proof.Mems
public import proofs.«01_k».proof.Proof.Offs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## A channel before the first transfer and after the last -/

section Chan
omit [FloatOps F]
variable (sb rb N : ℕ) (c : Dev nD) (lnd lf rt : ℕ → sProp (MT nD τ sig Unit (Elt F) ℕ UU ℕ))

/-- A chain of fifteen copies starts from its duties, positions and credits. -/
theorem ch_start :
    iprop((bigSep (Finset.range 15) fun h => iprop(dutyTok ER (dcell c (sb + h)) 0 false ∗ dutyTok ER (dcell (nxt c) (rb + h)) 0 false))
      ∗ bigSep (Finset.range 15) lnd
      ∗ (bigSep (Finset.range 15) fun h => atPos ER (dcell c (rb + h)) 0 ∅ 0) ∗ (bigSep (Finset.range 15) fun h => cred (tallyAt (dcell c (rb + h)) () N))
      ∗ (bigSep (Finset.range 15) fun h => atPos ER (dcell c (sb + h)) 0 ∅ 0) ∗ lf 0 ∗ rt 0)
      ⊢ Ch sb rb N c lnd lf rt 0 0 0 := by
  unfold Ch
  simp only [← Finset.range_eq_Ico, Finset.range_zero, bigSep_empty, Nat.zero_add, Finset.range_one, bigSep_singleton, bigSep_sep']
  iintro ⟨⟨Ht1, Ht2⟩, Hl, Har, Hc, Has, Hlf, Hrt⟩
  isplitl [Ht1 Ht2 Hl]
  · isplitl [Ht1]; · iexact Ht1
    isplitl [Ht2]; · iexact Ht2
    iexact Hl
  isplitl [Har Hc]
  · isplitl [Har]; · iexact Har
    iexact Hc
  isplitr; · iempintro
  isplitl [Has]; · iexact Has
  isplitr; · iempintro
  isplitr; · iempintro
  isplitl [Hlf]; · iexact Hlf
  isplitl [Hrt]; · iexact Hrt
  iempintro

/-- A chain that is over leaves every position of its cells one round on. -/
theorem ch_end : Ch sb rb N c lnd lf rt 15 15 15 ⊢ iprop((bigSep (Finset.range 15) fun h => atPos ER (dcell c (rb + h)) (0 + 1) ∅ 0)
      ∗ (bigSep (Finset.range 15) fun h => atPos ER (dcell c (sb + h)) (0 + 1) ∅ 0) ∗ bigSep (Finset.range 16) lf ∗ bigSep (Finset.range 16) rt) := by
  unfold Ch
  rw [bigSep_range_succ 15 rt, Nat.Ico_succ_singleton, bigSep_singleton]
  iintro ⟨-, -, Har, -, -, Has, Hlf, Hrt, Hrs⟩
  isplitl [Har]; · iexact Har
  isplitl [Has]; · iexact Has
  isplitl [Hlf]; · iexact Hlf
  isplitl [Hrt]; · iexact Hrt
  iexact Hrs

/-- A separated family over a range, its first member split off. -/
theorem bigSep_range_bot (n : ℕ) (Φ : ℕ → sProp 𝕄) : bigSep (Finset.range (n + 1)) Φ = iprop(Φ 0 ∗ bigSep (Finset.range n) fun h => Φ (h + 1)) := by
  rw [Finset.range_eq_Ico, bigSep_Ico_succ_bot (Nat.succ_pos n),
    show Finset.Ico (0 + 1) (n + 1) = (Finset.range n).map (addRightEmbedding 1) by rw [Finset.range_eq_Ico, Finset.map_add_right_Ico], bigSep_map]
  rfl

/-- What is held with some contents is held with contents that exist. -/
theorem give {T : Type} (P : T → sProp 𝕄) (f : T) : P f ⊢ iprop(∃ g, P g) := by
  iintro H; iexists f; iexact H

/-- The gathered activations: the device's own chunk, and the fifteen it hands over. -/
theorem x_give (f) : (((c : Thread nD τ).loc cc0_scratch0) ↦{fullShare} f : sProp 𝕄)
    ⊢ iprop(xP c c fullShare f ∗ bigSep (Finset.range 15) fun h => xA (F := F) c (back c (h + 1))) := by
  rw [x_cut c c, bigSep_range_bot, back_zero]
  refine sep_mono_right (bigSep_mono fun h _ => ?_)
  unfold xA
  exact give _ _
/-- The gathered routes split into the device's own chunk and the fifteen that are to land. -/
theorem r_give (f) : (((c : Thread nD τ).loc cc0_scratch1) ↦{fullShare} f : sProp 𝕄)
    ⊢ iprop(rP c c fullShare f ∗ bigSep (Finset.range 15) fun h => rA (F := F) c (back c (h + 1))) := by
  rw [r_cut c c, bigSep_range_bot, back_zero]
  refine sep_mono_right (bigSep_mono fun h _ => ?_)
  unfold rA
  exact give _ _
/-- The landing slots split into fifteen. -/
theorem v_give (f) : (((c : Thread nD τ).loc cc0_scratch5) ↦{fullShare} f : sProp 𝕄) ⊢ bigSep (Finset.range 15) fun s => vA (F := F) c (vI s) := by
  rw [v_cut]
  refine bigSep_mono fun h _ => ?_
  unfold vA
  exact give _ _
/-- All the places that are to be written by the device before, given to it. -/
theorem land_give : iprop((bigSep (Finset.range 15) fun h => xA (F := F) c (back c (h + 1))) ∗ (bigSep (Finset.range 15) fun h => rA (F := F) c (back c (h + 1)))
      ∗ bigSep (Finset.range 15) fun s => vA (F := F) c (vI s)) ⊢ land (F := F) (prv c) := by
  have e (h : ℕ) : back (prv c) h = back c (h + 1) := by rw [← back_nxt (prv c), nxt_prv]
  unfold land
  simp only [nxt_prv, e]
  exact Entails.refl _

end Chan

/-! ## The device's own chunk -/

section Ops
variable (c : Dev nD) {α : Type} {Q : α → sProp (MT nD τ sig Unit (Elt F) ℕ UU ℕ)}

/-- Loading the device's own chunk before it is stored. -/
theorem xown_load {off : Fin 2 → Nat} {inb : ∀ a, off a + S512x256.size a ≤ S8192x256.size a}
    {hl : (xaM : Memref sig .tc .vmem S8192x256 .bf16).view.LoadsAt (Rect.unit (s := S8192x256) off S512x256.size inb).toLoadRect}
    {k : ((Rect.unit (s := S8192x256) off S512x256.size inb).toLoadRect.shape.Idx → Elt F .bf16) → Prog (TpuEff nD τ sig (Elt F) Λ₀ .tc) α} (ho : off = ![512 * c.val, 0])
    {f} : xP c c fullShare f ⊢ iprop((xP c c fullShare f -∗ WP c (k ((xaM : Memref sig .tc .vmem S8192x256 .bf16).view.readAt (Elt F) (Rect.unit (s := S8192x256) off S512x256.size inb).toLoadRect f)) Q)
      -∗ WP c (.op (.load xaM (Rect.unit (s := S8192x256) off S512x256.size inb).toLoadRect hl) k) Q) := by
  subst ho
  unfold xP
  exact wp_load 𝒱₀ (c : Thread nD τ) none Set.univ (m := xaM) (r := (xR c).toLoadRect) (S := (xC c).view.set) (f := f)
    (View.set_slice xaM.view (xR c)).symm.subset

/-- Storing the device's own chunk. -/
theorem xown_store {off : Fin 2 → Nat} {inb : ∀ a, off a + S512x256.size a ≤ S8192x256.size a}
    {w : (Rect.unit (s := S8192x256) off S512x256.size inb).shape.Idx → Elt F .bf16}
    {hx : ((xaM : Memref sig .tc .vmem S8192x256 .bf16).access (Rect.unit (s := S8192x256) off S512x256.size inb)).Stores Finset.univ}
    {hm : (Finset.univ : Finset (Rect.unit (s := S8192x256) off S512x256.size inb).shape.Idx) = Finset.univ ∨ ∀ a, (Rect.unit (s := S8192x256) off S512x256.size inb).stride a = 1}
    {k : PUnit → Prog (TpuEff nD τ sig (Elt F) Λ₀ .tc) α} (ho : off = ![512 * c.val, 0]) (hw : w = xblk m ρ c)
    {f} : xP c c fullShare f ⊢ iprop((xP c c fullShare (XALL m ρ) -∗ WP c (k ⟨⟩) Q)
      -∗ WP c (.op (.store xaM (Rect.unit (s := S8192x256) off S512x256.size inb) w Finset.univ hx hm) k) Q) := by
  subst ho; subst hw
  have h := wp_store (Γ := []) (defs := defs₀ (F := F)) 𝒱₀ (c : Thread nD τ) none Set.univ (m := xaM) (r := xR c) (Mk := Finset.univ) (S := (xC c).view.set) (f := f)
    (w := xblk m ρ c) (hx := hx) (hm := hm) (k := k) (Q := Q) (Finset.Subset.refl _)
  refine (show xP c c fullShare f ⊢ _ from h).trans (wand_mono_left (wand_mono_left (Entails.of_eq ?_)))
  exact pointsTo_congr (write_eq_on (xC c) f (XALL m ρ) (xblk m ρ c) (XALL_read m ρ c))

/-- Loading the device's own chunk before it is stored. -/
theorem rown_load {off : Fin 2 → Nat} {inb : ∀ a, off a + S512x1.size a ≤ S8192x1.size a}
    {hl : (raM : Memref sig .tc .vmem S8192x1 .i32).view.LoadsAt (Rect.unit (s := S8192x1) off S512x1.size inb).toLoadRect}
    {k : ((Rect.unit (s := S8192x1) off S512x1.size inb).toLoadRect.shape.Idx → Elt F .i32) → Prog (TpuEff nD τ sig (Elt F) Λ₀ .tc) α} (ho : off = ![512 * c.val, 0])
    {f} : rP c c fullShare f ⊢ iprop((rP c c fullShare f -∗ WP c (k ((raM : Memref sig .tc .vmem S8192x1 .i32).view.readAt (Elt F) (Rect.unit (s := S8192x1) off S512x1.size inb).toLoadRect f)) Q)
      -∗ WP c (.op (.load raM (Rect.unit (s := S8192x1) off S512x1.size inb).toLoadRect hl) k) Q) := by
  subst ho
  unfold rP
  exact wp_load 𝒱₀ (c : Thread nD τ) none Set.univ (m := raM) (r := (rR c).toLoadRect) (S := (rC c).view.set) (f := f)
    (View.set_slice raM.view (rR c)).symm.subset

/-- Storing the device's own chunk. -/
theorem rown_store {off : Fin 2 → Nat} {inb : ∀ a, off a + S512x1.size a ≤ S8192x1.size a}
    {w : (Rect.unit (s := S8192x1) off S512x1.size inb).shape.Idx → Elt F .i32}
    {hx : ((raM : Memref sig .tc .vmem S8192x1 .i32).access (Rect.unit (s := S8192x1) off S512x1.size inb)).Stores Finset.univ}
    {hm : (Finset.univ : Finset (Rect.unit (s := S8192x1) off S512x1.size inb).shape.Idx) = Finset.univ ∨ ∀ a, (Rect.unit (s := S8192x1) off S512x1.size inb).stride a = 1}
    {k : PUnit → Prog (TpuEff nD τ sig (Elt F) Λ₀ .tc) α} (ho : off = ![512 * c.val, 0]) (hw : w = rblk m ρ c)
    {f} : rP c c fullShare f ⊢ iprop((rP c c fullShare (RALL m ρ) -∗ WP c (k ⟨⟩) Q)
      -∗ WP c (.op (.store raM (Rect.unit (s := S8192x1) off S512x1.size inb) w Finset.univ hx hm) k) Q) := by
  subst ho; subst hw
  have h := wp_store (Γ := []) (defs := defs₀ (F := F)) 𝒱₀ (c : Thread nD τ) none Set.univ (m := raM) (r := rR c) (Mk := Finset.univ) (S := (rC c).view.set) (f := f)
    (w := rblk m ρ c) (hx := hx) (hm := hm) (k := k) (Q := Q) (Finset.Subset.refl _)
  refine (show rP c c fullShare f ⊢ _ from h).trans (wand_mono_left (wand_mono_left (Entails.of_eq ?_)))
  exact pointsTo_congr (write_eq_on (rC c) f (RALL m ρ) (rblk m ρ c) (RALL_read m ρ c))

/-- Loading a whole staged block. -/
theorem xstg_load {inb : ∀ a, (![0, 0] : Fin 2 → ℕ) a + S512x256.size a ≤ S512x256.size a}
    {hl : (xM : Memref sig .tc .vmem S512x256 .bf16).view.LoadsAt (Rect.unit (s := S512x256) ![0, 0] S512x256.size inb).toLoadRect}
    {k : ((Rect.unit (s := S512x256) ![0, 0] S512x256.size inb).toLoadRect.shape.Idx → Elt F .bf16) → Prog (TpuEff nD τ sig (Elt F) Λ₀ .tc) α}
    (f : (cc0_stg0_0 : Ref sig .tc).ty.Contents (Elt F)) : ((c : Thread nD τ).loc cc0_stg0_0 ↦{fullShare} f) ⊢ iprop((((c : Thread nD τ).loc cc0_stg0_0 ↦{fullShare} f) -∗ WP c (k f) Q)
      -∗ WP c (.op (.load xM (Rect.unit (s := S512x256) ![0, 0] S512x256.size inb).toLoadRect hl) k) Q) := by
  have h := wp_load (Γ := []) (defs := defs₀ (F := F)) 𝒱₀ (c : Thread nD τ) none Set.univ (m := xM) (r := (Rect.unit (s := S512x256) ![0, 0] S512x256.size inb).toLoadRect) (S := Finset.univ)
    (f := f) (hl := hl) (k := k) (Q := Q) (q := fullShare) (Finset.subset_univ _)
  rw [show (xM : Memref sig .tc .vmem S512x256 .bf16).view.readAt (Elt F) (Rect.unit (s := S512x256) ![0, 0] S512x256.size inb).toLoadRect f = f from
    Memref.readAt_unit_zero (Elt F) cc0_stg0_0 whole_off _ f] at h
  exact h

/-- Loading a whole staged block. -/
theorem rstg_load {inb : ∀ a, (![0, 0] : Fin 2 → ℕ) a + S512x1.size a ≤ S512x1.size a}
    {hl : (rM : Memref sig .tc .vmem S512x1 .i32).view.LoadsAt (Rect.unit (s := S512x1) ![0, 0] S512x1.size inb).toLoadRect}
    {k : ((Rect.unit (s := S512x1) ![0, 0] S512x1.size inb).toLoadRect.shape.Idx → Elt F .i32) → Prog (TpuEff nD τ sig (Elt F) Λ₀ .tc) α}
    (f : (cc0_stg1_0 : Ref sig .tc).ty.Contents (Elt F)) : ((c : Thread nD τ).loc cc0_stg1_0 ↦{fullShare} f) ⊢ iprop((((c : Thread nD τ).loc cc0_stg1_0 ↦{fullShare} f) -∗ WP c (k f) Q)
      -∗ WP c (.op (.load rM (Rect.unit (s := S512x1) ![0, 0] S512x1.size inb).toLoadRect hl) k) Q) := by
  have h := wp_load (Γ := []) (defs := defs₀ (F := F)) 𝒱₀ (c : Thread nD τ) none Set.univ (m := rM) (r := (Rect.unit (s := S512x1) ![0, 0] S512x1.size inb).toLoadRect) (S := Finset.univ)
    (f := f) (hl := hl) (k := k) (Q := Q) (q := fullShare) (Finset.subset_univ _)
  rw [show (rM : Memref sig .tc .vmem S512x1 .i32).view.readAt (Elt F) (Rect.unit (s := S512x1) ![0, 0] S512x1.size inb).toLoadRect f = f from
    Memref.readAt_unit_zero (Elt F) cc0_stg1_0 whole_off _ f] at h
  exact h

end Ops

/-! ## What a device starts with -/

/-- The tokens of the duties it pays. -/
def payToks (c : Dev nD) : sProp 𝕄 :=
  iprop(dutyTok ER (barCell (prv c)) 0 true ∗ dutyTok ER (barCell (nxt c)) 0 false ∗ dutyTok ER (finCell (prv c)) 0 true ∗ dutyTok ER (finCell (nxt c)) 0 false
    ∗ (bigSep (Finset.range 15) fun h => iprop(dutyTok ER (dcell c (4 + h)) 0 false ∗ dutyTok ER (dcell (nxt c) (19 + h)) 0 false))
    ∗ (bigSep (Finset.range 15) fun h => iprop(dutyTok ER (dcell c (34 + h)) 0 false ∗ dutyTok ER (dcell (nxt c) (49 + h)) 0 false))
    ∗ (bigSep (Finset.range 15) fun h => iprop(dutyTok ER (dcell c (64 + h)) 0 false ∗ dutyTok ER (dcell (nxt c) (79 + h)) 0 false)))

/-- The credit of what its neighbours owe it. -/
def credsAll (c : Dev nD) : sProp 𝕄 :=
  iprop(cred (tallyAt (barCell c) () 2) ∗ cred (tallyAt (finCell c) () 2)
    ∗ (bigSep (Finset.range 15) fun h => cred (tallyAt (dcell c (19 + h)) () NX)) ∗ (bigSep (Finset.range 15) fun h => cred (tallyAt (dcell c (49 + h)) () NA))
    ∗ (bigSep (Finset.range 15) fun h => cred (tallyAt (dcell c (79 + h)) () NS)))

/-- Its positions, at the start of every cell. -/
def atAll (c : Dev nD) : sProp 𝕄 := bigSep Finset.univ fun k : Fin 92 => atPos ER (kcell (c, k)) 0 ∅ 0

/-- Its six buffers, whatever they hold. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

/-- What stays aside between the entry and the closing handshake. -/
def Aside (c : Dev nD) : sProp 𝕄 :=
  iprop(((c : Thread nD τ).loc cc0_stg0_0 ↦{fullShare} xstg m ρ c) ∗ ((c : Thread nD τ).loc cc0_stg1_0 ↦{fullShare} rstg m ρ c)
    ∗ atPos ER (barCell c) (0 + 1) ∅ 0 ∗ atPos ER (finCell c) 0 ∅ 0 ∗ dutyTok ER (finCell (prv c)) 0 true ∗ dutyTok ER (finCell (nxt c)) 0 false
    ∗ cred (tallyAt (finCell c) () 2))

/-- What the entry consumes. -/
def Pre (K : Dev nD × Fin 92 → ℕ) (c : Dev nD) (W : Waits sig Unit) : sProp 𝕄 :=
  iprop(Rec m ρ K ∗ atAll c ∗ payToks c ∗ credsAll c ∗ owes (c : Thread nD τ) (O₀ c) W ∗ scratch c
    ∗ ((c : Thread nD τ).loc cc0_stg0_0 ↦{fullShare} xstg m ρ c) ∗ ((c : Thread nD τ).loc cc0_stg1_0 ↦{fullShare} rstg m ρ c) ∗ Ws m ρ c
    ∗ ∃ f : (cc0_stg3_0 : Ref sig .tc).ty.Contents (Elt F), ((c : Thread nD τ).loc cc0_stg3_0 ↦{fullShare} f))

/-- The first signal of the barrier goes to the device before. -/
theorem dev1_eq (c : Dev nD) : (⟨k0_dev1 c, k0_dev1_lt c⟩ : Dev nD) = prv c := Fin.ext (k0_dev1_eq c)
/-- The second signal of the barrier goes to the next device. -/
theorem dev2_eq (c : Dev nD) : (⟨k0_dev2 c, k0_dev2_lt c⟩ : Dev nD) = nxt c := Fin.ext (k0_dev2_eq c)

/-- The entry handshake and the stores of the device's own chunk lead to the state the transfers start from. -/
theorem part_1 (K : Dev nD × Fin 92 → ℕ) (c : Dev nD) (W : Waits sig Unit) {Q : (Σ' (d0 : Dev nD) (v2 : BitVec 32) (v5 : BitVec 32), BitVec 32) → sProp 𝕄}
    (hk : ∀ v5 v7, St m ρ K (Aside m ρ c) c 0 0 0 0 0 0 0 0 0 false 0 false false ⊢ Q ⟨c, pos c, v5, v7⟩) :
    Pre m ρ K c W ⊢ WP c (k0_part1_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0) Q := by
  unfold k0_part1_skel
  simp only [semSignalWord, semWaitWord, Prog.lift, Prog.bind_op, Prog.bind_ret, Prog.pure_eq_ret, wp_deviceId]
  simp only [dev1_eq c, dev2_eq c]
  unfold Pre atAll payToks credsAll scratch
  rw [cells_eq (fun sm => (atPos ER ((c : Thread nD τ), sm) 0 ∅ 0 : sProp 𝕄))]
  iintro ⟨#HR, ⟨HaB, HaF, HaXS, HaXR, HaAS, HaAR, HaVS, HaVR⟩, ⟨HtBP, HtBN, HtFP, HtFN, HtX, HtA, HtV⟩, ⟨HcB, HcF, HcX, HcA, HcV⟩, HO,
    ⟨⟨%f0, H0⟩, ⟨%f1, H1⟩, ⟨%f2, H2⟩, ⟨%f3, H3⟩, ⟨%f4, H4⟩, ⟨%f5, H5⟩⟩, Hx, Hr, HW, ⟨%fo, Ho⟩⟩
  ihave #Hlev := (rec_lev m ρ K) $$ HR
  ihave H0 := (x_give c f0) $$ H0
  icases H0 with ⟨H0, G0⟩
  ihave H1 := (r_give c f1) $$ H1
  icases H1 with ⟨H1, G1⟩
  ihave G5 := (v_give c f5) $$ H5
  iapply (Rounds.wp_signal 𝒱₀ ER (rd m ρ) (c : Thread nD τ) none (dst := (prv c : Thread nD τ)) (κ := K (prv c, 0))
      (d := true) (by rw [duties_bar]; exact Finset.mem_univ _) ((amount_bar m ρ (prv c) true).trans (by decide)) () (O₁ c) rfl)
    $$ [HO HtBP G0 G1 G5]
  · isplitr; · iapply (inv_bar m ρ K (prv c)); iexact HR
    isplitl [HO]; · iexact HO
    isplitl [HtBP]; · iexact HtBP
    isplitl [G0 G1 G5]
    · iapply (Entails.of_eq (payload_bar_true m ρ (prv c)).symm)
      iapply (land_give (F := F) c)
      isplitl [G0]; · iexact G0
      isplitl [G1]; · iexact G1
      iexact G5
    iapply (reached_bar m ρ K (prv c)); iexact HR
  iintro HO
  unfold O₁
  iapply (Rounds.wp_signal 𝒱₀ ER (rd m ρ) (c : Thread nD τ) none (dst := (nxt c : Thread nD τ)) (κ := K (nxt c, 0))
      (d := false) (by rw [duties_bar]; exact Finset.mem_univ _) ((amount_bar m ρ (nxt c) false).trans (by decide)) () (O c 0 0 0) rfl)
    $$ [HO HtBN]
  · isplitr; · iapply (inv_bar m ρ K (nxt c)); iexact HR
    isplitl [HO]; · iexact HO
    isplitl [HtBN]; · iexact HtBN
    isplitr
    · iapply (Entails.of_eq (payload_bar_false m ρ (nxt c)).symm); iempintro
    iapply (reached_bar m ρ K (nxt c)); iexact HR
  iintro HO
  iapply (Rounds.wp_wait_rest_token 𝒱₀ ER (rd m ρ) (c : Thread nD τ) none (κ := K (c, 0))
      (wpE_semWait_eq 𝒱₀ (c : Thread nD τ) none Set.univ) (Set.mem_univ _) () (O := O c 0 0 0) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr
    · iapply (mayWait (F := F) c (.reg barS) 1 lv_bar (Or.inr (by decide)) (Or.inr (by decide)) (Or.inr (by decide)) (by decide)); iexact Hlev
    iexact HaB
  iintro ⟨HO, HaB, -, Hpay⟩
  ihave Hp := (Entails.of_eq (rest_bar m ρ c)) $$ Hpay
  unfold land
  icases Hp with ⟨-, L0, L1, L5⟩
  iapply (xstg_load c (xstg m ρ c)) $$ Hx
  iintro Hx
  iapply (xown_load c (k0_off1_eq c)) $$ H0
  iintro H0
  iapply (xown_store m ρ c (k0_off1_eq c) (by rfl)) $$ H0
  iintro H0
  iapply (rstg_load c (rstg m ρ c)) $$ Hr
  iintro Hr
  iapply (rown_load c (k0_off2_eq c)) $$ H1
  iintro H1
  iapply (rown_store m ρ c (k0_off2_eq c) (by rfl)) $$ H1
  iintro H1
  ihave H0 := (xP_halves (F := F) _ _ _) $$ H0
  icases H0 with ⟨H0, H0'⟩
  ihave H1 := (rP_halves (F := F) _ _ _) $$ H1
  icases H1 with ⟨H1, H1'⟩
  ihave G4 := (s_cut (F := F) c f4) $$ H4
  icases G4 with ⟨Hs0, Hs1⟩
  iapply (op_ret c (hk _ _))
  unfold St Owe X A V Aside
  isplitr; · iexact HR
  isplitl [HO]; · iexists _; iexact HO
  isplitl [HtX L0 HaXR HcX HaXS H0 H0']
  · iapply (ch_start 4 19 NX c _ _ _)
    isplitl [HtX]; · iexact HtX
    isplitl [L0]; · iexact L0
    isplitl [HaXR]; · iexact HaXR
    isplitl [HcX]; · iexact HcX
    isplitl [HaXS]; · iexact HaXS
    isplitl [H0]; · iapply (Entails.of_eq (congrArg (fun e => xP c e qL (XALL m ρ)) (back_zero c).symm)) $$ H0
    iapply (Entails.of_eq (congrArg (fun e => xP c e qR (XALL m ρ)) (back_zero c).symm)) $$ H0'
  isplitl [HtA L1 HaAR HcA HaAS H1 H1']
  · iapply (ch_start 34 49 NA c _ _ _)
    isplitl [HtA]; · iexact HtA
    isplitl [L1]; · iexact L1
    isplitl [HaAR]; · iexact HaAR
    isplitl [HcA]; · iexact HcA
    isplitl [HaAS]; · iexact HaAS
    isplitl [H1]; · iapply (Entails.of_eq (congrArg (fun e => rP c e qL (RALL m ρ)) (back_zero c).symm)) $$ H1
    iapply (Entails.of_eq (congrArg (fun e => rP c e qR (RALL m ρ)) (back_zero c).symm)) $$ H1'
  isplitl [HtV L5 HaVR HcV HaVS]
  · iapply (ch_start 64 79 NS c _ _ _)
    isplitl [HtV]; · iexact HtV
    isplitl [L5]; · iexact L5
    isplitl [HaVR]; · iexact HaVR
    isplitl [HcV]; · iexact HcV
    isplitl [HaVS]; · iexact HaVS
    isplitr
    · iapply (show iprop(emp) ⊢ vGot m ρ c 0 from Entails.refl _); iempintro
    iempintro
  isplitl [Hs0 Hs1]
  · iapply (Entails.of_eq ((Sl_false m ρ c _ _).trans ((bigSep_Ico_succ_bot (by decide) _).trans (congrArg _ (bigSep_Ico_one 1 _)))).symm)
    isplitl [Hs0]; · iexact Hs0
    iexact Hs1
  isplitl [H2]
  · iapply (closes_Bs m ρ c f2 (fun i h => absurd h (Nat.not_lt_zero _))); iexact H2
  isplitl [H3]
  · iapply (closes_Cs m ρ c f3 (fun h => absurd h Bool.false_ne_true)); iexact H3
  isplitl [Ho]
  · iapply (closes_Os m ρ c fo (fun h => absurd h Bool.false_ne_true)); iexact Ho
  isplitl [HW]; · iexact HW
  isplitl [Hx]; · iexact Hx
  isplitl [Hr]; · iexact Hr
  isplitl [HaB]; · iexact HaB
  isplitl [HaF]; · iexact HaF
  isplitl [HtFP]; · iexact HtFP
  isplitl [HtFN]; · iexact HtFN
  iexact HcF

end Cert.RingMoe
end
-- ==== Proof.PartsA.lean ====
/-
The windows of the body, each from one state to the next.
-/
module

public import proofs.«01_k».proof.Proof.Offs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 92 → ℕ) (Z : sProp (MT nD τ sig Unit (Elt F) ℕ UU ℕ)) (c : Dev nD)

/-- Window 2 of the body, from one state to the next. -/
theorem part_2 (v2 : BitVec 32) (v7 : BitVec 32) {Q : (BitVec 32) → sProp 𝕄}
    (hk : St m ρ K Z c 1 0 0 1 1 0 0 0 0 false 0 false false ⊢ Q (1#32)) :
    St m ρ K Z c 0 0 0 0 0 0 0 0 0 false 0 false false ⊢
      WP c (k0_part2_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7) Q := by
  unfold k0_part2_skel
  simp only [Prog.lift, Prog.bind_op, Prog.bind_ret, Prog.pure_eq_ret]
  refine op_xsend m ρ K Z c (by decide) (by decide) (by decide) (Fin.ext (k0_dev3_eq c)) (off3_back c) (off3_back c) (by rfl) (by rfl) ?_
  refine op_asend m ρ K Z c (by decide) (by decide) (by decide) (Fin.ext (k0_dev4_eq c)) (off4_back c 0) (off4_back c 0) (by rfl) (by rfl) ?_
  refine op_arecv m ρ K Z c (by decide) (by decide) (by decide) (by decide) (by decide) (by rfl) (by rfl) ?_
  exact op_ret c hk

/-- Window 3 of the body, from one state to the next. -/
theorem part_3 (v2 : BitVec 32) (v7 : BitVec 32) (c1_i32_45 : BitVec 32) {Q : (BitVec 32) → sProp 𝕄}
    (hk : St m ρ K Z c 1 0 0 3 2 0 0 0 0 false 0 false false ⊢ Q ((Scalar.muli v7 1#32 : BitVec 32))) :
    St m ρ K Z c 1 0 0 1 1 0 0 0 0 false 0 false false ⊢
      WP c (k0_part3_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 c1_i32_45) Q := by
  unfold k0_part3_skel
  simp only [Prog.lift, Prog.bind_op, Prog.bind_ret, Prog.pure_eq_ret]
  refine op_asend m ρ K Z c (by decide) (by decide) (by decide) (Fin.ext (k0_dev5_eq c)) (off4_back c 1) (off4_back c 1) (by rfl) (by rfl) ?_
  refine op_arecv m ρ K Z c (by decide) (by decide) (by decide) (by decide) (by decide) (by rfl) (by rfl) ?_
  refine op_asend m ρ K Z c (by decide) (by decide) (by decide) (Fin.ext (k0_dev6_eq c)) (off4_back c 2) (off4_back c 2) (by rfl) (by rfl) ?_
  exact op_ret c hk

/-- Window 4 of the body, from one state to the next. -/
theorem part_4 (v2 : BitVec 32) (v7 : BitVec 32) (v88 : BitVec 32) {Q : (PUnit) → sProp 𝕄}
    (hk : St m ρ K Z c 1 0 0 5 4 0 0 0 0 false 0 false false ⊢ Q (⟨⟩)) :
    St m ρ K Z c 1 0 0 3 2 0 0 0 0 false 0 false false ⊢
      WP c (k0_part4_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v88) Q := by
  unfold k0_part4_skel
  simp only [Prog.lift, Prog.bind_op, Prog.bind_ret, Prog.pure_eq_ret]
  refine op_arecv m ρ K Z c (by decide) (by decide) (by decide) (by decide) (by decide) (by rfl) (by rfl) ?_
  refine op_asend m ρ K Z c (by decide) (by decide) (by decide) (Fin.ext (k0_dev7_eq c)) (off4_back c 3) (off4_back c 3) (by rfl) (by rfl) ?_
  refine op_arecv m ρ K Z c (by decide) (by decide) (by decide) (by decide) (by decide) (by rfl) (by rfl) ?_
  refine op_asend m ρ K Z c (by decide) (by decide) (by decide) (Fin.ext (k0_dev8_eq c)) (off4_back c 4) (off4_back c 4) (by rfl) (by rfl) ?_
  exact op_ret c hk

/-- Window 5 of the body, from one state to the next. -/
theorem part_5 (v2 : BitVec 32) (v7 : BitVec 32) {Q : (BitVec 32) → sProp 𝕄}
    (hk : St m ρ K Z c 1 0 0 6 6 0 0 0 0 false 0 false false ⊢ Q (1#32)) :
    St m ρ K Z c 1 0 0 5 4 0 0 0 0 false 0 false false ⊢
      WP c (k0_part5_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7) Q := by
  unfold k0_part5_skel
  simp only [Prog.lift, Prog.bind_op, Prog.bind_ret, Prog.pure_eq_ret]
  refine op_arecv m ρ K Z c (by decide) (by decide) (by decide) (by decide) (by decide) (by rfl) (by rfl) ?_
  refine op_asend m ρ K Z c (by decide) (by decide) (by decide) (Fin.ext (k0_dev9_eq c)) (off4_back c 5) (off4_back c 5) (by rfl) (by rfl) ?_
  refine op_arecv m ρ K Z c (by decide) (by decide) (by decide) (by decide) (by decide) (by rfl) (by rfl) ?_
  exact op_ret c hk

/-- Window 6 of the body, from one state to the next. -/
theorem part_6 (v2 : BitVec 32) (v7 : BitVec 32) (c1_i32_121 : BitVec 32) {Q : (BitVec 32) → sProp 𝕄}
    (hk : St m ρ K Z c 1 0 0 8 7 0 0 0 0 false 0 false false ⊢ Q ((Scalar.muli v7 1#32 : BitVec 32))) :
    St m ρ K Z c 1 0 0 6 6 0 0 0 0 false 0 false false ⊢
      WP c (k0_part6_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 c1_i32_121) Q := by
  unfold k0_part6_skel
  simp only [Prog.lift, Prog.bind_op, Prog.bind_ret, Prog.pure_eq_ret]
  refine op_asend m ρ K Z c (by decide) (by decide) (by decide) (Fin.ext (k0_dev10_eq c)) (off4_back c 6) (off4_back c 6) (by rfl) (by rfl) ?_
  refine op_arecv m ρ K Z c (by decide) (by decide) (by decide) (by decide) (by decide) (by rfl) (by rfl) ?_
  refine op_asend m ρ K Z c (by decide) (by decide) (by decide) (Fin.ext (k0_dev11_eq c)) (off4_back c 7) (off4_back c 7) (by rfl) (by rfl) ?_
  exact op_ret c hk

/-- Window 7 of the body, from one state to the next. -/
theorem part_7 (v2 : BitVec 32) (v7 : BitVec 32) (v178 : BitVec 32) {Q : (PUnit) → sProp 𝕄}
    (hk : St m ρ K Z c 1 0 0 10 9 0 0 0 0 false 0 false false ⊢ Q (⟨⟩)) :
    St m ρ K Z c 1 0 0 8 7 0 0 0 0 false 0 false false ⊢
      WP c (k0_part7_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v178) Q := by
  unfold k0_part7_skel
  simp only [Prog.lift, Prog.bind_op, Prog.bind_ret, Prog.pure_eq_ret]
  refine op_arecv m ρ K Z c (by decide) (by decide) (by decide) (by decide) (by decide) (by rfl) (by rfl) ?_
  refine op_asend m ρ K Z c (by decide) (by decide) (by decide) (Fin.ext (k0_dev12_eq c)) (off4_back c 8) (off4_back c 8) (by rfl) (by rfl) ?_
  refine op_arecv m ρ K Z c (by decide) (by decide) (by decide) (by decide) (by decide) (by rfl) (by rfl) ?_
  refine op_asend m ρ K Z c (by decide) (by decide) (by decide) (Fin.ext (k0_dev13_eq c)) (off4_back c 9) (off4_back c 9) (by rfl) (by rfl) ?_
  exact op_ret c hk

/-- Window 8 of the body, from one state to the next. -/
theorem part_8 (v2 : BitVec 32) (v7 : BitVec 32) {Q : (BitVec 32) → sProp 𝕄}
    (hk : St m ρ K Z c 1 0 0 11 11 0 0 0 0 false 0 false false ⊢ Q (1#32)) :
    St m ρ K Z c 1 0 0 10 9 0 0 0 0 false 0 false false ⊢
      WP c (k0_part8_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7) Q := by
  unfold k0_part8_skel
  simp only [Prog.lift, Prog.bind_op, Prog.bind_ret, Prog.pure_eq_ret]
  refine op_arecv m ρ K Z c (by decide) (by decide) (by decide) (by decide) (by decide) (by rfl) (by rfl) ?_
  refine op_asend m ρ K Z c (by decide) (by decide) (by decide) (Fin.ext (k0_dev14_eq c)) (off4_back c 10) (off4_back c 10) (by rfl) (by rfl) ?_
  refine op_arecv m ρ K Z c (by decide) (by decide) (by decide) (by decide) (by decide) (by rfl) (by rfl) ?_
  exact op_ret c hk

/-- Window 9 of the body, from one state to the next. -/
theorem part_9 (v2 : BitVec 32) (v7 : BitVec 32) (c1_i32_196 : BitVec 32) {Q : (BitVec 32) → sProp 𝕄}
    (hk : St m ρ K Z c 1 0 0 13 12 0 0 0 0 false 0 false false ⊢ Q ((Scalar.muli v7 1#32 : BitVec 32))) :
    St m ρ K Z c 1 0 0 11 11 0 0 0 0 false 0 false false ⊢
      WP c (k0_part9_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 c1_i32_196) Q := by
  unfold k0_part9_skel
  simp only [Prog.lift, Prog.bind_op, Prog.bind_ret, Prog.pure_eq_ret]
  refine op_asend m ρ K Z c (by decide) (by decide) (by decide) (Fin.ext (k0_dev15_eq c)) (off4_back c 11) (off4_back c 11) (by rfl) (by rfl) ?_
  refine op_arecv m ρ K Z c (by decide) (by decide) (by decide) (by decide) (by decide) (by rfl) (by rfl) ?_
  refine op_asend m ρ K Z c (by decide) (by decide) (by decide) (Fin.ext (k0_dev16_eq c)) (off4_back c 12) (off4_back c 12) (by rfl) (by rfl) ?_
  exact op_ret c hk

/-- Window 10 of the body, from one state to the next. -/
theorem part_10 (v2 : BitVec 32) (v7 : BitVec 32) (v268 : BitVec 32) {Q : (PUnit) → sProp 𝕄}
    (hk : St m ρ K Z c 1 0 0 15 14 0 0 0 0 false 0 false false ⊢ Q (⟨⟩)) :
    St m ρ K Z c 1 0 0 13 12 0 0 0 0 false 0 false false ⊢
      WP c (k0_part10_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v268) Q := by
  unfold k0_part10_skel
  simp only [Prog.lift, Prog.bind_op, Prog.bind_ret, Prog.pure_eq_ret]
  refine op_arecv m ρ K Z c (by decide) (by decide) (by decide) (by decide) (by decide) (by rfl) (by rfl) ?_
  refine op_asend m ρ K Z c (by decide) (by decide) (by decide) (Fin.ext (k0_dev17_eq c)) (off4_back c 13) (off4_back c 13) (by rfl) (by rfl) ?_
  refine op_arecv m ρ K Z c (by decide) (by decide) (by decide) (by decide) (by decide) (by rfl) (by rfl) ?_
  refine op_asend m ρ K Z c (by decide) (by decide) (by decide) (Fin.ext (k0_dev18_eq c)) (off4_back c 14) (off4_back c 14) (by rfl) (by rfl) ?_
  exact op_ret c hk

/-- Window 11 of the body, from one state to the next. -/
theorem part_11 (v2 : BitVec 32) (v7 : BitVec 32) {Q : (Σ' (v309 : IVec S1x4 32) (v334 : FVec F S1x4 .f32), IVec S512x4 32) → sProp 𝕄}
    (hw0 : (k0_pay5 (F := F)) = brow m ρ c 0)
    (hw1 : (k0_pay7 (F := F) v2 (rblk m ρ (⟨0, by decide⟩ : Dev nD))) = brow m ρ c 1)
    (hk : St m ρ K Z c 1 0 0 15 15 0 0 0 0 false 2 false false ⊢ Q (⟨k0_pay3 v2, k0_pay8 (F := F) v2 (rblk m ρ (⟨0, by decide⟩ : Dev nD)) (rblk m ρ (⟨1, by decide⟩ : Dev nD)), k0_pay9 (F := F) (rblk m ρ (⟨2, by decide⟩ : Dev nD))⟩)) :
    St m ρ K Z c 1 0 0 15 14 0 0 0 0 false 0 false false ⊢
      WP c (k0_part11_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7) Q := by
  unfold k0_part11_skel
  simp only [Prog.lift, Prog.bind_op, Prog.bind_ret, Prog.pure_eq_ret]
  refine op_arecv m ρ K Z c (by decide) (by decide) (by decide) (by decide) (by decide) (by rfl) (by rfl) ?_
  refine op_rload' m ρ K Z c (by decide) (⟨0, by decide⟩ : Dev nD) rfl ?_
  refine op_bpeek m ρ K Z c fun _ => ?_
  refine op_bstore m ρ K Z c (by decide) rfl hw0 ?_
  refine op_rload' m ρ K Z c (by decide) (⟨1, by decide⟩ : Dev nD) rfl ?_
  refine op_bpeek m ρ K Z c fun _ => ?_
  refine op_bstore m ρ K Z c (by decide) rfl hw1 ?_
  refine op_rload' m ρ K Z c (by decide) (⟨2, by decide⟩ : Dev nD) rfl ?_
  exact op_ret c hk

/-- Window 12 of the body, from one state to the next. -/
theorem part_12 (v309 : IVec S1x4 32) (v334 : FVec F S1x4 .f32) (v336 : IVec S512x4 32) {Q : (Σ' (v370 : FVec F S1x4 .f32), FVec F S512x4 .f32) → sProp 𝕄}
    (hw0 : (k0_pay10 (F := F) v334) = brow m ρ c 2)
    (hw1 : (k0_pay12 (F := F) v309 v334 v336) = brow m ρ c 3)
    (hw2 : (k0_pay14 (F := F) v309 v334 v336 (rblk m ρ (⟨3, by decide⟩ : Dev nD))) = brow m ρ c 4)
    (hk : St m ρ K Z c 1 0 0 15 15 0 0 0 0 false 5 false false ⊢ Q (⟨k0_pay15 (F := F) v309 v334 v336 (rblk m ρ (⟨3, by decide⟩ : Dev nD)) (rblk m ρ (⟨4, by decide⟩ : Dev nD)), k0_pay16 (F := F) v309 (rblk m ρ (⟨5, by decide⟩ : Dev nD))⟩)) :
    St m ρ K Z c 1 0 0 15 15 0 0 0 0 false 2 false false ⊢
      WP c (k0_part12_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v334 v336) Q := by
  unfold k0_part12_skel
  simp only [Prog.lift, Prog.bind_op, Prog.bind_ret, Prog.pure_eq_ret]
  refine op_bpeek m ρ K Z c fun _ => ?_
  refine op_bstore m ρ K Z c (by decide) rfl hw0 ?_
  refine op_rload' m ρ K Z c (by decide) (⟨3, by decide⟩ : Dev nD) rfl ?_
  refine op_bpeek m ρ K Z c fun _ => ?_
  refine op_bstore m ρ K Z c (by decide) rfl hw1 ?_
  refine op_rload' m ρ K Z c (by decide) (⟨4, by decide⟩ : Dev nD) rfl ?_
  refine op_bpeek m ρ K Z c fun _ => ?_
  refine op_bstore m ρ K Z c (by decide) rfl hw2 ?_
  refine op_rload' m ρ K Z c (by decide) (⟨5, by decide⟩ : Dev nD) rfl ?_
  exact op_ret c hk

/-- Window 13 of the body, from one state to the next. -/
theorem part_13 (v309 : IVec S1x4 32) (v370 : FVec F S1x4 .f32) (v376 : FVec F S512x4 .f32) {Q : (Σ' (v406 : FVec F S1x4 .f32), FVec F S4 .f32) → sProp 𝕄}
    (hw0 : (k0_pay17 (F := F) v370) = brow m ρ c 5)
    (hw1 : (k0_pay19 (F := F) v370 v376) = brow m ρ c 6)
    (hw2 : (k0_pay21 (F := F) v309 v370 v376 (rblk m ρ (⟨6, by decide⟩ : Dev nD))) = brow m ρ c 7)
    (hw3 : (k0_pay23 (F := F) v309 v370 v376 (rblk m ρ (⟨6, by decide⟩ : Dev nD)) (rblk m ρ (⟨7, by decide⟩ : Dev nD))) = brow m ρ c 8)
    (hk : St m ρ K Z c 1 0 0 15 15 0 0 0 0 false 9 false false ⊢ Q (⟨k0_pay22 (F := F) v309 v370 v376 (rblk m ρ (⟨6, by decide⟩ : Dev nD)) (rblk m ρ (⟨7, by decide⟩ : Dev nD)), k0_pay24 (F := F) v309 (rblk m ρ (⟨8, by decide⟩ : Dev nD))⟩)) :
    St m ρ K Z c 1 0 0 15 15 0 0 0 0 false 5 false false ⊢
      WP c (k0_part13_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v370 v376) Q := by
  unfold k0_part13_skel
  simp only [Prog.lift, Prog.bind_op, Prog.bind_ret, Prog.pure_eq_ret]
  refine op_bpeek m ρ K Z c fun _ => ?_
  refine op_bstore m ρ K Z c (by decide) rfl hw0 ?_
  refine op_rload' m ρ K Z c (by decide) (⟨6, by decide⟩ : Dev nD) rfl ?_
  refine op_bpeek m ρ K Z c fun _ => ?_
  refine op_bstore m ρ K Z c (by decide) rfl hw1 ?_
  refine op_rload' m ρ K Z c (by decide) (⟨7, by decide⟩ : Dev nD) rfl ?_
  refine op_bpeek m ρ K Z c fun _ => ?_
  refine op_bstore m ρ K Z c (by decide) rfl hw2 ?_
  refine op_rload' m ρ K Z c (by decide) (⟨8, by decide⟩ : Dev nD) rfl ?_
  refine op_bpeek m ρ K Z c fun _ => ?_
  refine op_bstore m ρ K Z c (by decide) rfl hw3 ?_
  exact op_ret c hk

/-- Window 14 of the body, from one state to the next. -/
theorem part_14 (v309 : IVec S1x4 32) (v406 : FVec F S1x4 .f32) (v416 : FVec F S4 .f32) {Q : (Σ' (v454 : FVec F S1x4 .f32), IVec S512x4 32) → sProp 𝕄}
    (hw0 : (k0_pay26 (F := F) v406 v416) = brow m ρ c 9)
    (hw1 : (k0_pay28 (F := F) v309 v406 v416 (rblk m ρ (⟨9, by decide⟩ : Dev nD))) = brow m ρ c 10)
    (hw2 : (k0_pay30 (F := F) v309 v406 v416 (rblk m ρ (⟨9, by decide⟩ : Dev nD)) (rblk m ρ (⟨10, by decide⟩ : Dev nD))) = brow m ρ c 11)
    (hk : St m ρ K Z c 1 0 0 15 15 0 0 0 0 false 12 false false ⊢ Q (⟨k0_pay31 (F := F) v309 v406 v416 (rblk m ρ (⟨9, by decide⟩ : Dev nD)) (rblk m ρ (⟨10, by decide⟩ : Dev nD)) (rblk m ρ (⟨11, by decide⟩ : Dev nD)), k0_pay32 (F := F) (rblk m ρ (⟨12, by decide⟩ : Dev nD))⟩)) :
    St m ρ K Z c 1 0 0 15 15 0 0 0 0 false 9 false false ⊢
      WP c (k0_part14_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v406 v416) Q := by
  unfold k0_part14_skel
  simp only [Prog.lift, Prog.bind_op, Prog.bind_ret, Prog.pure_eq_ret]
  refine op_rload' m ρ K Z c (by decide) (⟨9, by decide⟩ : Dev nD) rfl ?_
  refine op_bpeek m ρ K Z c fun _ => ?_
  refine op_bstore m ρ K Z c (by decide) rfl hw0 ?_
  refine op_rload' m ρ K Z c (by decide) (⟨10, by decide⟩ : Dev nD) rfl ?_
  refine op_bpeek m ρ K Z c fun _ => ?_
  refine op_bstore m ρ K Z c (by decide) rfl hw1 ?_
  refine op_rload' m ρ K Z c (by decide) (⟨11, by decide⟩ : Dev nD) rfl ?_
  refine op_bpeek m ρ K Z c fun _ => ?_
  refine op_bstore m ρ K Z c (by decide) rfl hw2 ?_
  refine op_rload' m ρ K Z c (by decide) (⟨12, by decide⟩ : Dev nD) rfl ?_
  exact op_ret c hk

/-- Window 15 of the body, from one state to the next. -/
theorem part_15 (v309 : IVec S1x4 32) (v454 : FVec F S1x4 .f32) (v456 : IVec S512x4 32) {Q : (IVec S512x512 32) → sProp 𝕄}
    (hw0 : (k0_pay33 (F := F) v454) = brow m ρ c 12)
    (hw1 : (k0_pay35 (F := F) v309 v454 v456) = brow m ρ c 13)
    (hw2 : (k0_pay37 (F := F) v309 v454 v456 (rblk m ρ (⟨13, by decide⟩ : Dev nD))) = brow m ρ c 14)
    (hw3 : (k0_pay38 (F := F) v309 v454 v456 (rblk m ρ (⟨13, by decide⟩ : Dev nD)) (rblk m ρ (⟨14, by decide⟩ : Dev nD))) = brow m ρ c 15)
    (hk : St m ρ K Z c 1 0 0 15 15 0 0 0 0 false 16 false false ⊢ Q (k0_pay39)) :
    St m ρ K Z c 1 0 0 15 15 0 0 0 0 false 12 false false ⊢
      WP c (k0_part15_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v454 v456) Q := by
  unfold k0_part15_skel
  simp only [Prog.lift, Prog.bind_op, Prog.bind_ret, Prog.pure_eq_ret]
  refine op_bpeek m ρ K Z c fun _ => ?_
  refine op_bstore m ρ K Z c (by decide) rfl hw0 ?_
  refine op_rload' m ρ K Z c (by decide) (⟨13, by decide⟩ : Dev nD) rfl ?_
  refine op_bpeek m ρ K Z c fun _ => ?_
  refine op_bstore m ρ K Z c (by decide) rfl hw1 ?_
  refine op_rload' m ρ K Z c (by decide) (⟨14, by decide⟩ : Dev nD) rfl ?_
  refine op_bpeek m ρ K Z c fun _ => ?_
  refine op_bstore m ρ K Z c (by decide) rfl hw2 ?_
  refine op_bpeek m ρ K Z c fun _ => ?_
  refine op_bstore m ρ K Z c (by decide) rfl hw3 ?_
  exact op_ret c hk

/-- Window 16 of the body, from one state to the next. -/
theorem part_16 (v2 : BitVec 32) (v7 : BitVec 32) (v497 : IVec S512x512 32) {Q : (Σ' (v498 : FVec F S512x512 .f32) (v500 : FVec F S256x512 .bf16) (v502 : FVec F S256x512 .bf16) (v504 : FVec F S256x512 .bf16) (v506 : FVec F S256x512 .bf16) (v525 : BitVec 32), BitVec 32) → sProp 𝕄}
    (hk : St m ρ K Z c 2 1 0 15 15 0 0 0 0 false 16 false false ⊢ Q (⟨k0_pay40 (F := F) v497, k0_pay41 (F := F) (wexp m ρ c 0), k0_pay42 (F := F) (wexp m ρ c 1), k0_pay43 (F := F) (wexp m ρ c 2), k0_pay44 (F := F) (wexp m ρ c 3), (Scalar.subi v2 1#32 : BitVec 32), 32#32⟩)) :
    St m ρ K Z c 1 0 0 15 15 0 0 0 0 false 16 false false ⊢
      WP c (k0_part16_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v497) Q := by
  unfold k0_part16_skel
  simp only [Prog.lift, Prog.bind_op, Prog.bind_ret, Prog.pure_eq_ret]
  refine op_wload m ρ K Z c 0 rfl ?_
  refine op_wload m ρ K Z c 1 rfl ?_
  refine op_wload m ρ K Z c 2 rfl ?_
  refine op_wload m ρ K Z c 3 rfl ?_
  refine op_xrecv m ρ K Z c (by decide) (by decide) (by decide) (by decide) (by decide) (by rfl) (by rfl) ?_
  refine op_xsend m ρ K Z c (by decide) (by decide) (by decide) (Fin.ext (k0_dev19_eq c)) (off5_back c 0) (off5_back c 0) (by rfl) (by rfl) ?_
  exact op_ret c hk

end Cert.RingMoe
end
-- ==== Proof.PartsB.lean ====
/-
The windows of the body, each from one state to the next.
-/
module

public import proofs.«01_k».proof.Proof.Offs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 92 → ℕ) (Z : sProp (MT nD τ sig Unit (Elt F) ℕ UU ℕ)) (c : Dev nD)

/-- Window 17 of the body, from one state to the next. -/
theorem part_17 (v309 : IVec S1x4 32) (v498 : FVec F S512x512 .f32) (v500 : FVec F S256x512 .bf16) (v502 : FVec F S256x512 .bf16) (v504 : FVec F S256x512 .bf16) (v525 : BitVec 32) (c32_i32 : BitVec 32) {Q : (Σ' (v567 : FVec F S512x512 .f32) (v570 : FVec F S512x256 .bf16), FVec F S512x512 .f32) → sProp 𝕄}
    (hk : St m ρ K Z c 2 1 0 15 15 0 0 0 0 false 16 false false ⊢ Q (⟨k0_pay46 (F := F) v309 v498 v500 v502 v504 (rblk m ρ (back c 1)) (brow m ρ c ((back c 1)).val) (xblk m ρ (back c 1)), k0_pay47 (F := F) v309 v498 (rblk m ρ (back c 1)) (brow m ρ c ((back c 1)).val) (xblk m ρ (back c 1)), (constant S512x512 .f32 0x00000000#32 : FVec F S512x512 .f32)⟩)) :
    St m ρ K Z c 2 1 0 15 15 0 0 0 0 false 16 false false ⊢
      WP c (k0_part17_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v309 v498 v500 v502 v504 v525 c32_i32) Q := by
  unfold k0_part17_skel
  simp only [Prog.lift, Prog.bind_op, Prog.bind_ret, Prog.pure_eq_ret]
  refine op_rload m ρ K Z c 1 (by decide) rfl (off6_back c 0) ?_
  refine op_bload m ρ K Z c (by decide) (back c 1) (off7_back c 0) ?_
  refine op_xload m ρ K Z c 1 (by decide) rfl (off8_back c 0) ?_
  exact op_ret c hk

/-- Window 18 of the body, from one state to the next. -/
theorem part_18 (v2 : BitVec 32) (v7 : BitVec 32) (v506 : FVec F S256x512 .bf16) (v567 : FVec F S512x512 .f32) (v570 : FVec F S512x256 .bf16) (cst_343 : FVec F S512x512 .f32) {Q : (PUnit) → sProp 𝕄}
    (hw0 : (k0_pay48 (F := F) v506 v567 v570 cst_343) = msg m ρ 0 c)
    (hk : St m ρ K Z c 2 2 0 15 15 0 1 0 0 false 16 false false ⊢ Q (⟨⟩)) :
    St m ρ K Z c 2 1 0 15 15 0 0 0 0 false 16 false false ⊢
      WP c (k0_part18_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v506 v567 v570 cst_343) Q := by
  unfold k0_part18_skel
  simp only [Prog.lift, Prog.bind_op, Prog.bind_ret, Prog.pure_eq_ret]
  refine op_speek m ρ K Z c (by decide) rfl fun _ => ?_
  refine op_sstore m ρ K Z c (by decide) rfl hw0 ?_
  refine op_ssend m ρ K Z c (by decide) (by decide) (by decide) (Fin.ext (k0_dev20_eq c)) (rfl) (rfl) (by rfl) (by rfl) ?_
  refine op_xrecv m ρ K Z c (by decide) (by decide) (by decide) (by decide) (by decide) (by rfl) (by rfl) ?_
  exact op_ret c hk

/-- Window 19 of the body, from one state to the next. -/
theorem part_19 (v2 : BitVec 32) (v309 : IVec S1x4 32) (v498 : FVec F S512x512 .f32) (v500 : FVec F S256x512 .bf16) (v502 : FVec F S256x512 .bf16) {Q : (Σ' (v629 : FVec F S512x4 .bf16) (v631 : Vec F S512x256 .bf16), FVec F S512x512 .f32) → sProp 𝕄}
    (hk : St m ρ K Z c 3 2 0 15 15 0 1 0 0 false 16 false false ⊢ Q (⟨k0_pay49 (F := F) v309 v498 (rblk m ρ (back c 2)) (brow m ρ c ((back c 2)).val), (xblk m ρ (back c 2)), k0_pay50 (F := F) v309 v498 v500 v502 (rblk m ρ (back c 2)) (brow m ρ c ((back c 2)).val) (xblk m ρ (back c 2))⟩)) :
    St m ρ K Z c 2 2 0 15 15 0 1 0 0 false 16 false false ⊢
      WP c (k0_part19_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v309 v498 v500 v502) Q := by
  unfold k0_part19_skel
  simp only [Prog.lift, Prog.bind_op, Prog.bind_ret, Prog.pure_eq_ret]
  refine op_xsend m ρ K Z c (by decide) (by decide) (by decide) (Fin.ext (k0_dev21_eq c)) (off5_back c 1) (off5_back c 1) (by rfl) (by rfl) ?_
  refine op_rload m ρ K Z c 2 (by decide) rfl (off6_back c 1) ?_
  refine op_bload m ρ K Z c (by decide) (back c 2) (off7_back c 1) ?_
  refine op_xload m ρ K Z c 2 (by decide) rfl (off8_back c 1) ?_
  exact op_ret c hk

/-- Window 20 of the body, from one state to the next. -/
theorem part_20 (v7 : BitVec 32) (v504 : FVec F S256x512 .bf16) (v506 : FVec F S256x512 .bf16) (v629 : FVec F S512x4 .bf16) (v631 : Vec F S512x256 .bf16) (v642 : FVec F S512x512 .f32) {Q : (PUnit) → sProp 𝕄}
    (hw0 : (k0_pay51 (F := F) v504 v506 v629 v631 v642 (msg m ρ 0 (prv c))) = msg m ρ 1 c)
    (hk : St m ρ K Z c 3 2 0 15 15 0 1 1 0 true 16 false false ⊢ Q (⟨⟩)) :
    St m ρ K Z c 3 2 0 15 15 0 1 0 0 false 16 false false ⊢
      WP c (k0_part20_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v504 v506 v629 v631 v642) Q := by
  unfold k0_part20_skel
  simp only [Prog.lift, Prog.bind_op, Prog.bind_ret, Prog.pure_eq_ret]
  refine op_srecv m ρ K Z c (by decide) (by decide) (by decide) (by decide) (by decide) (by rfl) (by rfl) ?_
  refine op_vload m ρ K Z c 0 (by decide) (by decide) rfl ?_
  refine op_speek m ρ K Z c (by decide) rfl fun _ => ?_
  refine op_sstore m ρ K Z c (by decide) rfl hw0 ?_
  exact op_ret c hk

/-- Window 21 of the body, from one state to the next. -/
theorem part_21 (v2 : BitVec 32) (v7 : BitVec 32) (v309 : IVec S1x4 32) {Q : (Σ' (v699 : BitVec 32) (v700 : BitVec 32) (v707 : FVec F S512x4 .f32), FVec F S512x4 .f32) → sProp 𝕄}
    (hk : St m ρ K Z c 4 3 0 15 15 0 2 1 0 false 16 false false ⊢ Q (⟨(Scalar.remsi (Scalar.addi (Scalar.subi v2 3#32 : BitVec 32) 32#32 : BitVec 32) 16#32 : BitVec 32), (Scalar.muli (Scalar.remsi (Scalar.addi (Scalar.subi v2 3#32 : BitVec 32) 32#32 : BitVec 32) 16#32 : BitVec 32) 512#32 : BitVec 32), k0_pay52 (F := F) v309 (rblk m ρ (back c 3)), (constant S512x4 .f32 0x00000000#32 : FVec F S512x4 .f32)⟩)) :
    St m ρ K Z c 3 2 0 15 15 0 1 1 0 true 16 false false ⊢
      WP c (k0_part21_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309) Q := by
  unfold k0_part21_skel
  simp only [Prog.lift, Prog.bind_op, Prog.bind_ret, Prog.pure_eq_ret]
  refine op_ssend m ρ K Z c (by decide) (by decide) (by decide) (Fin.ext (k0_dev22_eq c)) (rfl) (rfl) (by rfl) (by rfl) ?_
  refine op_xrecv m ρ K Z c (by decide) (by decide) (by decide) (by decide) (by decide) (by rfl) (by rfl) ?_
  refine op_xsend m ρ K Z c (by decide) (by decide) (by decide) (Fin.ext (k0_dev23_eq c)) (off5_back c 2) (off5_back c 2) (by rfl) (by rfl) ?_
  refine op_rload m ρ K Z c 3 (by decide) rfl (off6_back c 2) ?_
  exact op_ret c hk

/-- Window 22 of the body, from one state to the next. -/
theorem part_22 (v7 : BitVec 32) (v498 : FVec F S512x512 .f32) (v500 : FVec F S256x512 .bf16) (v502 : FVec F S256x512 .bf16) (v504 : FVec F S256x512 .bf16) (v506 : FVec F S256x512 .bf16) (v699 : BitVec 32) (v700 : BitVec 32) (v707 : FVec F S512x4 .f32) (cst_437 : FVec F S512x4 .f32) {Q : (FVec F S512x512 .f32) → sProp 𝕄}
    (hk : St m ρ K Z c 4 3 0 15 15 0 2 1 0 false 16 false false ⊢ Q ((k0_pay53 (F := F) v498 v500 v502 v504 v506 v707 cst_437 (brow m ρ c ((back c 3)).val) (xblk m ρ (back c 3))))) :
    St m ρ K Z c 4 3 0 15 15 0 2 1 0 false 16 false false ⊢
      WP c (k0_part22_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v498 v500 v502 v504 v506 v699 v700 v707 cst_437) Q := by
  unfold k0_part22_skel
  simp only [Prog.lift, Prog.bind_op, Prog.bind_ret, Prog.pure_eq_ret]
  refine op_bload m ρ K Z c (by decide) (back c 3) (off7_back c 2) ?_
  refine op_xload m ρ K Z c 3 (by decide) rfl (off8_back c 2) ?_
  exact op_ret c hk

/-- Window 23 of the body, from one state to the next. -/
theorem part_23 (v7 : BitVec 32) (v744 : FVec F S512x512 .f32) {Q : (PUnit) → sProp 𝕄}
    (hw0 : (k0_pay54 (F := F) v744 (msg m ρ 1 (prv c))) = msg m ρ 2 c)
    (hk : St m ρ K Z c 4 3 0 15 15 0 3 2 1 false 16 false false ⊢ Q (⟨⟩)) :
    St m ρ K Z c 4 3 0 15 15 0 2 1 0 false 16 false false ⊢
      WP c (k0_part23_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v744) Q := by
  unfold k0_part23_skel
  simp only [Prog.lift, Prog.bind_op, Prog.bind_ret, Prog.pure_eq_ret]
  refine op_srecv m ρ K Z c (by decide) (by decide) (by decide) (by decide) (by decide) (by rfl) (by rfl) ?_
  refine op_vload m ρ K Z c 1 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev24_eq c)) (rfl) (rfl) (by rfl) (by rfl) ?_
  exact op_ret c hk

/-- Window 24 of the body, from one state to the next. -/
theorem part_24 (v2 : BitVec 32) (v7 : BitVec 32) (v309 : IVec S1x4 32) (v498 : FVec F S512x512 .f32) {Q : (Σ' (v798 : BitVec 32) (v805 : FVec F S512x4 .f32) (v810 : FVec F S512x4 .f32), FVec F S512x4 .f32) → sProp 𝕄}
    (hk : St m ρ K Z c 5 4 0 15 15 0 3 2 1 false 16 false false ⊢ Q (⟨(Scalar.muli (Scalar.remsi (Scalar.addi (Scalar.subi v2 4#32 : BitVec 32) 32#32 : BitVec 32) 16#32 : BitVec 32) 512#32 : BitVec 32), k0_pay55 (F := F) v309 (rblk m ρ (back c 4)), k0_pay56 (F := F) v309 v498 (rblk m ρ (back c 4)) (brow m ρ c ((back c 4)).val), k0_pay57 (F := F)⟩)) :
    St m ρ K Z c 4 3 0 15 15 0 3 2 1 false 16 false false ⊢
      WP c (k0_part24_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498) Q := by
  unfold k0_part24_skel
  simp only [Prog.lift, Prog.bind_op, Prog.bind_ret, Prog.pure_eq_ret]
  refine op_xrecv m ρ K Z c (by decide) (by decide) (by decide) (by decide) (by decide) (by rfl) (by rfl) ?_
  refine op_xsend m ρ K Z c (by decide) (by decide) (by decide) (Fin.ext (k0_dev25_eq c)) (off5_back c 3) (off5_back c 3) (by rfl) (by rfl) ?_
  refine op_rload m ρ K Z c 4 (by decide) rfl (off6_back c 3) ?_
  refine op_bload m ρ K Z c (by decide) (back c 4) (off7_back c 3) ?_
  exact op_ret c hk

/-- Window 25 of the body, from one state to the next. -/
theorem part_25 (v7 : BitVec 32) (v500 : FVec F S256x512 .bf16) (v502 : FVec F S256x512 .bf16) (v504 : FVec F S256x512 .bf16) (v506 : FVec F S256x512 .bf16) (v798 : BitVec 32) (v805 : FVec F S512x4 .f32) (v810 : FVec F S512x4 .f32) (v811 : FVec F S512x4 .f32) {Q : (FVec F S512x512 .f32) → sProp 𝕄}
    (hk : St m ρ K Z c 5 4 0 15 15 0 3 3 1 false 16 false false ⊢ Q ((k0_pay58 (F := F) v500 v502 v504 v506 v805 v810 v811 (xblk m ρ (back c 4))))) :
    St m ρ K Z c 5 4 0 15 15 0 3 2 1 false 16 false false ⊢
      WP c (k0_part25_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v798 v805 v810 v811) Q := by
  unfold k0_part25_skel
  simp only [Prog.lift, Prog.bind_op, Prog.bind_ret, Prog.pure_eq_ret]
  refine op_xload m ρ K Z c 4 (by decide) rfl (off8_back c 3) ?_
  refine op_srecv m ρ K Z c (by decide) (by decide) (by decide) (by decide) (by decide) (by rfl) (by rfl) ?_
  exact op_ret c hk

/-- Window 26 of the body, from one state to the next. -/
theorem part_26 (v7 : BitVec 32) (v842 : FVec F S512x512 .f32) {Q : (PUnit) → sProp 𝕄}
    (hw0 : (k0_pay59 (F := F) v842 (msg m ρ 2 (prv c))) = msg m ρ 3 c)
    (hk : St m ρ K Z c 5 4 0 15 15 0 4 3 2 false 16 false false ⊢ Q (⟨⟩)) :
    St m ρ K Z c 5 4 0 15 15 0 3 3 1 false 16 false false ⊢
      WP c (k0_part26_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v842) Q := by
  unfold k0_part26_skel
  simp only [Prog.lift, Prog.bind_op, Prog.bind_ret, Prog.pure_eq_ret]
  refine op_vload m ρ K Z c 2 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev26_eq c)) (rfl) (rfl) (by rfl) (by rfl) ?_
  exact op_ret c hk

/-- Window 27 of the body, from one state to the next. -/
theorem part_27 (v2 : BitVec 32) (v7 : BitVec 32) (v309 : IVec S1x4 32) (v498 : FVec F S512x512 .f32) {Q : (Σ' (v896 : BitVec 32) (v913 : IVec S512x4 1) (cst_578 : F .f32), FVec F S512x4 .f32) → sProp 𝕄}
    (hk : St m ρ K Z c 6 5 0 15 15 0 4 3 2 false 16 false false ⊢ Q (⟨(Scalar.muli (Scalar.remsi (Scalar.addi (Scalar.subi v2 5#32 : BitVec 32) 32#32 : BitVec 32) 16#32 : BitVec 32) 512#32 : BitVec 32), k0_pay60 (F := F) v309 v498 (rblk m ρ (back c 5)) (brow m ρ c ((back c 5)).val), (Scalar.ofBits .f32 0x00000000#32 : F .f32), k0_pay61 (F := F)⟩)) :
    St m ρ K Z c 5 4 0 15 15 0 4 3 2 false 16 false false ⊢
      WP c (k0_part27_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498) Q := by
  unfold k0_part27_skel
  simp only [Prog.lift, Prog.bind_op, Prog.bind_ret, Prog.pure_eq_ret]
  refine op_xrecv m ρ K Z c (by decide) (by decide) (by decide) (by decide) (by decide) (by rfl) (by rfl) ?_
  refine op_xsend m ρ K Z c (by decide) (by decide) (by decide) (Fin.ext (k0_dev27_eq c)) (off5_back c 4) (off5_back c 4) (by rfl) (by rfl) ?_
  refine op_rload m ρ K Z c 5 (by decide) rfl (off6_back c 4) ?_
  refine op_bload m ρ K Z c (by decide) (back c 5) (off7_back c 4) ?_
  exact op_ret c hk

/-- Window 28 of the body, from one state to the next. -/
theorem part_28 (v7 : BitVec 32) (v500 : FVec F S256x512 .bf16) (v502 : FVec F S256x512 .bf16) (v504 : FVec F S256x512 .bf16) (v506 : FVec F S256x512 .bf16) (v896 : BitVec 32) (v913 : IVec S512x4 1) (cst_578 : F .f32) (v914 : FVec F S512x4 .f32) {Q : (FVec F S512x512 .f32) → sProp 𝕄}
    (hk : St m ρ K Z c 6 5 0 15 15 0 4 4 2 false 16 false false ⊢ Q ((k0_pay62 (F := F) v500 v502 v504 v506 v913 cst_578 v914 (xblk m ρ (back c 5)) (msg m ρ 3 (prv c))))) :
    St m ρ K Z c 6 5 0 15 15 0 4 3 2 false 16 false false ⊢
      WP c (k0_part28_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v896 v913 cst_578 v914) Q := by
  unfold k0_part28_skel
  simp only [Prog.lift, Prog.bind_op, Prog.bind_ret, Prog.pure_eq_ret]
  refine op_xload m ρ K Z c 5 (by decide) rfl (off8_back c 4) ?_
  refine op_srecv m ρ K Z c (by decide) (by decide) (by decide) (by decide) (by decide) (by rfl) (by rfl) ?_
  refine op_vload m ρ K Z c 3 (by decide) (by decide) rfl ?_
  exact op_ret c hk

/-- Window 29 of the body, from one state to the next. -/
theorem part_29 (v2 : BitVec 32) (v7 : BitVec 32) (v952 : FVec F S512x512 .f32) {Q : (BitVec 32) → sProp 𝕄}
    (hw0 : (k0_pay63 (F := F) v952) = msg m ρ 4 c)
    (hk : St m ρ K Z c 6 6 0 15 15 0 5 4 3 false 16 false false ⊢ Q ((Scalar.addi (Scalar.subi v2 6#32 : BitVec 32) 16#32 : BitVec 32))) :
    St m ρ K Z c 6 5 0 15 15 0 4 4 2 false 16 false false ⊢
      WP c (k0_part29_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v952) Q := by
  unfold k0_part29_skel
  simp only [Prog.lift, Prog.bind_op, Prog.bind_ret, Prog.pure_eq_ret]
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev28_eq c)) (rfl) (rfl) (by rfl) (by rfl) ?_
  refine op_xrecv m ρ K Z c (by decide) (by decide) (by decide) (by decide) (by decide) (by rfl) (by rfl) ?_
  exact op_ret c hk

/-- Window 30 of the body, from one state to the next. -/
theorem part_30 (v2 : BitVec 32) (v7 : BitVec 32) (v309 : IVec S1x4 32) (v498 : FVec F S512x512 .f32) (v980 : BitVec 32) {Q : (Σ' (v1015 : FVec F S512x4 .bf16) (v1017 : Vec F S512x256 .bf16), FVec F S512x512 .f32) → sProp 𝕄}
    (hk : St m ρ K Z c 7 6 0 15 15 0 5 4 3 false 16 false false ⊢ Q (⟨k0_pay64 (F := F) v309 v498 (rblk m ρ (back c 6)) (brow m ρ c ((back c 6)).val), (xblk m ρ (back c 6)), k0_pay65 (F := F)⟩)) :
    St m ρ K Z c 6 6 0 15 15 0 5 4 3 false 16 false false ⊢
      WP c (k0_part30_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498 v980) Q := by
  unfold k0_part30_skel
  simp only [Prog.lift, Prog.bind_op, Prog.bind_ret, Prog.pure_eq_ret]
  refine op_xsend m ρ K Z c (by decide) (by decide) (by decide) (Fin.ext (k0_dev29_eq c)) (off5_back c 5) (off5_back c 5) (by rfl) (by rfl) ?_
  refine op_rload m ρ K Z c 6 (by decide) rfl (off6_back c 5) ?_
  refine op_bload m ρ K Z c (by decide) (back c 6) (off7_back c 5) ?_
  refine op_xload m ρ K Z c 6 (by decide) rfl (off8_back c 5) ?_
  exact op_ret c hk

end Cert.RingMoe
end
-- ==== Proof.PartsC.lean ====
/-
The windows of the body, each from one state to the next.
-/
module

public import proofs.«01_k».proof.Proof.Offs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 92 → ℕ) (Z : sProp (MT nD τ sig Unit (Elt F) ℕ UU ℕ)) (c : Dev nD)

/-- Window 31 of the body, from one state to the next. -/
theorem part_31 (v7 : BitVec 32) (v500 : FVec F S256x512 .bf16) (v502 : FVec F S256x512 .bf16) (v504 : FVec F S256x512 .bf16) (v506 : FVec F S256x512 .bf16) (v1015 : FVec F S512x4 .bf16) (v1017 : Vec F S512x256 .bf16) (v1018 : FVec F S512x512 .f32) {Q : (FVec F S512x512 .f32) → sProp 𝕄}
    (hk : St m ρ K Z c 7 6 0 15 15 0 5 5 3 false 16 false false ⊢ Q ((k0_pay66 (F := F) v500 v502 v504 v506 v1015 v1017 v1018 (msg m ρ 4 (prv c))))) :
    St m ρ K Z c 7 6 0 15 15 0 5 4 3 false 16 false false ⊢
      WP c (k0_part31_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v500 v502 v504 v506 v1015 v1017 v1018) Q := by
  unfold k0_part31_skel
  simp only [Prog.lift, Prog.bind_op, Prog.bind_ret, Prog.pure_eq_ret]
  refine op_srecv m ρ K Z c (by decide) (by decide) (by decide) (by decide) (by decide) (by rfl) (by rfl) ?_
  refine op_vload m ρ K Z c 4 (by decide) (by decide) rfl ?_
  exact op_ret c hk

/-- Window 32 of the body, from one state to the next. -/
theorem part_32 (v2 : BitVec 32) (v7 : BitVec 32) (v1050 : FVec F S512x512 .f32) {Q : (BitVec 32) → sProp 𝕄}
    (hw0 : (k0_pay67 (F := F) v1050) = msg m ρ 5 c)
    (hk : St m ρ K Z c 7 7 0 15 15 0 6 5 4 false 16 false false ⊢ Q ((Scalar.muli v7 1#32 : BitVec 32))) :
    St m ρ K Z c 7 6 0 15 15 0 5 5 3 false 16 false false ⊢
      WP c (k0_part32_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v1050) Q := by
  unfold k0_part32_skel
  simp only [Prog.lift, Prog.bind_op, Prog.bind_ret, Prog.pure_eq_ret]
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev30_eq c)) (rfl) (rfl) (by rfl) (by rfl) ?_
  refine op_xrecv m ρ K Z c (by decide) (by decide) (by decide) (by decide) (by decide) (by rfl) (by rfl) ?_
  exact op_ret c hk

/-- Window 33 of the body, from one state to the next. -/
theorem part_33 (v2 : BitVec 32) (v309 : IVec S1x4 32) (v498 : FVec F S512x512 .f32) (v500 : FVec F S256x512 .bf16) (v1081 : BitVec 32) {Q : (Σ' (v1113 : FVec F S512x4 .bf16) (v1115 : Vec F S512x256 .bf16) (v1121 : FVec F S512x512 .f32), FVec F S512x256 .bf16) → sProp 𝕄}
    (hk : St m ρ K Z c 8 7 0 15 15 0 6 5 4 false 16 false false ⊢ Q (⟨k0_pay68 (F := F) v309 v498 (rblk m ρ (back c 7)) (brow m ρ c ((back c 7)).val), (xblk m ρ (back c 7)), k0_pay69 (F := F) v309 v498 v500 (rblk m ρ (back c 7)) (brow m ρ c ((back c 7)).val) (xblk m ρ (back c 7)), k0_pay70 (F := F) v309 v498 (rblk m ρ (back c 7)) (brow m ρ c ((back c 7)).val)⟩)) :
    St m ρ K Z c 7 7 0 15 15 0 6 5 4 false 16 false false ⊢
      WP c (k0_part33_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v309 v498 v500 v1081) Q := by
  unfold k0_part33_skel
  simp only [Prog.lift, Prog.bind_op, Prog.bind_ret, Prog.pure_eq_ret]
  refine op_xsend m ρ K Z c (by decide) (by decide) (by decide) (Fin.ext (k0_dev31_eq c)) (off5_back c 6) (off5_back c 6) (by rfl) (by rfl) ?_
  refine op_rload m ρ K Z c 7 (by decide) rfl (off6_back c 6) ?_
  refine op_bload m ρ K Z c (by decide) (back c 7) (off7_back c 6) ?_
  refine op_xload m ρ K Z c 7 (by decide) rfl (off8_back c 6) ?_
  exact op_ret c hk

/-- Window 34 of the body, from one state to the next. -/
theorem part_34 (v7 : BitVec 32) (v502 : FVec F S256x512 .bf16) (v504 : FVec F S256x512 .bf16) (v506 : FVec F S256x512 .bf16) (v1113 : FVec F S512x4 .bf16) (v1115 : Vec F S512x256 .bf16) (v1121 : FVec F S512x512 .f32) (v1123 : FVec F S512x256 .bf16) {Q : (FVec F S512x512 .bf16) → sProp 𝕄}
    (hk : St m ρ K Z c 8 7 0 15 15 0 6 6 5 false 16 false false ⊢ Q ((k0_pay71 (F := F) v502 v504 v506 v1113 v1115 v1121 v1123 (msg m ρ 5 (prv c))))) :
    St m ρ K Z c 8 7 0 15 15 0 6 5 4 false 16 false false ⊢
      WP c (k0_part34_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v502 v504 v506 v1113 v1115 v1121 v1123) Q := by
  unfold k0_part34_skel
  simp only [Prog.lift, Prog.bind_op, Prog.bind_ret, Prog.pure_eq_ret]
  refine op_srecv m ρ K Z c (by decide) (by decide) (by decide) (by decide) (by decide) (by rfl) (by rfl) ?_
  refine op_vload m ρ K Z c 5 (by decide) (by decide) rfl ?_
  refine op_swait m ρ K Z c (by decide) (by decide) (by decide) (by decide) (by decide) (by decide) (by rfl) (by rfl) ?_
  exact op_ret c hk

/-- Window 35 of the body, from one state to the next. -/
theorem part_35 (v2 : BitVec 32) (v7 : BitVec 32) (v1155 : FVec F S512x512 .bf16) {Q : (PUnit) → sProp 𝕄}
    (hw0 : (k0_pay72 (F := F) v1155) = msg m ρ 6 c)
    (hk : St m ρ K Z c 8 8 0 15 15 0 7 6 5 false 16 false false ⊢ Q (⟨⟩)) :
    St m ρ K Z c 8 7 0 15 15 0 6 6 5 false 16 false false ⊢
      WP c (k0_part35_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v1155) Q := by
  unfold k0_part35_skel
  simp only [Prog.lift, Prog.bind_op, Prog.bind_ret, Prog.pure_eq_ret]
  refine op_speek m ρ K Z c (by decide) rfl fun _ => ?_
  refine op_sstore m ρ K Z c (by decide) rfl hw0 ?_
  refine op_ssend m ρ K Z c (by decide) (by decide) (by decide) (Fin.ext (k0_dev32_eq c)) (rfl) (rfl) (by rfl) (by rfl) ?_
  refine op_xrecv m ρ K Z c (by decide) (by decide) (by decide) (by decide) (by decide) (by rfl) (by rfl) ?_
  exact op_ret c hk

/-- Window 36 of the body, from one state to the next. -/
theorem part_36 (v2 : BitVec 32) (v309 : IVec S1x4 32) (v498 : FVec F S512x512 .f32) (v500 : FVec F S256x512 .bf16) (v502 : FVec F S256x512 .bf16) {Q : (Σ' (v1211 : FVec F S512x4 .bf16) (v1213 : Vec F S512x256 .bf16) (v1224 : FVec F S512x512 .f32) (v1227 : FVec F S512x256 .bf16), FVec F S512x512 .f32) → sProp 𝕄}
    (hk : St m ρ K Z c 9 8 0 15 15 0 7 6 5 false 16 false false ⊢ Q (⟨k0_pay73 (F := F) v309 v498 (rblk m ρ (back c 8)) (brow m ρ c ((back c 8)).val), (xblk m ρ (back c 8)), k0_pay74 (F := F) v309 v498 v500 v502 (rblk m ρ (back c 8)) (brow m ρ c ((back c 8)).val) (xblk m ρ (back c 8)), k0_pay75 (F := F) v309 v498 (rblk m ρ (back c 8)) (brow m ρ c ((back c 8)).val) (xblk m ρ (back c 8)), (constant S512x512 .f32 0x00000000#32 : FVec F S512x512 .f32)⟩)) :
    St m ρ K Z c 8 8 0 15 15 0 7 6 5 false 16 false false ⊢
      WP c (k0_part36_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v309 v498 v500 v502) Q := by
  unfold k0_part36_skel
  simp only [Prog.lift, Prog.bind_op, Prog.bind_ret, Prog.pure_eq_ret]
  refine op_xsend m ρ K Z c (by decide) (by decide) (by decide) (Fin.ext (k0_dev33_eq c)) (off5_back c 7) (off5_back c 7) (by rfl) (by rfl) ?_
  refine op_rload m ρ K Z c 8 (by decide) rfl (off6_back c 7) ?_
  refine op_bload m ρ K Z c (by decide) (back c 8) (off7_back c 7) ?_
  refine op_xload m ρ K Z c 8 (by decide) rfl (off8_back c 7) ?_
  exact op_ret c hk

/-- Window 37 of the body, from one state to the next. -/
theorem part_37 (v7 : BitVec 32) (v504 : FVec F S256x512 .bf16) (v506 : FVec F S256x512 .bf16) (v1211 : FVec F S512x4 .bf16) (v1213 : Vec F S512x256 .bf16) (v1224 : FVec F S512x512 .f32) (v1227 : FVec F S512x256 .bf16) (cst_787 : FVec F S512x512 .f32) {Q : (PUnit) → sProp 𝕄}
    (hw0 : (k0_pay76 (F := F) v504 v506 v1211 v1213 v1224 v1227 cst_787 (msg m ρ 6 (prv c))) = msg m ρ 7 c)
    (hk : St m ρ K Z c 9 8 0 15 15 0 7 7 6 true 16 false false ⊢ Q (⟨⟩)) :
    St m ρ K Z c 9 8 0 15 15 0 7 6 5 false 16 false false ⊢
      WP c (k0_part37_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v504 v506 v1211 v1213 v1224 v1227 cst_787) Q := by
  unfold k0_part37_skel
  simp only [Prog.lift, Prog.bind_op, Prog.bind_ret, Prog.pure_eq_ret]
  refine op_srecv m ρ K Z c (by decide) (by decide) (by decide) (by decide) (by decide) (by rfl) (by rfl) ?_
  refine op_vload m ρ K Z c 6 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  exact op_ret c hk

/-- Window 38 of the body, from one state to the next. -/
theorem part_38 (v2 : BitVec 32) (v7 : BitVec 32) {Q : (Σ' (v1286 : BitVec 32), BitVec 32) → sProp 𝕄}
    (hk : St m ρ K Z c 10 9 0 15 15 0 8 7 6 false 16 false false ⊢ Q (⟨(Scalar.addi (Scalar.subi v2 9#32 : BitVec 32) 32#32 : BitVec 32), 16#32⟩)) :
    St m ρ K Z c 9 8 0 15 15 0 7 7 6 true 16 false false ⊢
      WP c (k0_part38_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7) Q := by
  unfold k0_part38_skel
  simp only [Prog.lift, Prog.bind_op, Prog.bind_ret, Prog.pure_eq_ret]
  refine op_ssend m ρ K Z c (by decide) (by decide) (by decide) (Fin.ext (k0_dev34_eq c)) (rfl) (rfl) (by rfl) (by rfl) ?_
  refine op_xrecv m ρ K Z c (by decide) (by decide) (by decide) (by decide) (by decide) (by rfl) (by rfl) ?_
  refine op_xsend m ρ K Z c (by decide) (by decide) (by decide) (Fin.ext (k0_dev35_eq c)) (off5_back c 8) (off5_back c 8) (by rfl) (by rfl) ?_
  exact op_ret c hk

/-- Window 39 of the body, from one state to the next. -/
theorem part_39 (v309 : IVec S1x4 32) (v498 : FVec F S512x512 .f32) (v500 : FVec F S256x512 .bf16) (v502 : FVec F S256x512 .bf16) (v504 : FVec F S256x512 .bf16) (v506 : FVec F S256x512 .bf16) (v1286 : BitVec 32) (c16_i32_842 : BitVec 32) {Q : (FVec F S512x512 .f32) → sProp 𝕄}
    (hk : St m ρ K Z c 10 9 0 15 15 0 8 7 6 false 16 false false ⊢ Q ((k0_pay77 (F := F) v309 v498 v500 v502 v504 v506 (rblk m ρ (back c 9)) (brow m ρ c ((back c 9)).val) (xblk m ρ (back c 9))))) :
    St m ρ K Z c 10 9 0 15 15 0 8 7 6 false 16 false false ⊢
      WP c (k0_part39_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v309 v498 v500 v502 v504 v506 v1286 c16_i32_842) Q := by
  unfold k0_part39_skel
  simp only [Prog.lift, Prog.bind_op, Prog.bind_ret, Prog.pure_eq_ret]
  refine op_rload m ρ K Z c 9 (by decide) rfl (off6_back c 8) ?_
  refine op_bload m ρ K Z c (by decide) (back c 9) (off7_back c 8) ?_
  refine op_xload m ρ K Z c 9 (by decide) rfl (off8_back c 8) ?_
  exact op_ret c hk

/-- Window 40 of the body, from one state to the next. -/
theorem part_40 (v7 : BitVec 32) (v1332 : FVec F S512x512 .f32) {Q : (PUnit) → sProp 𝕄}
    (hw0 : (k0_pay78 (F := F) v1332 (msg m ρ 7 (prv c))) = msg m ρ 8 c)
    (hk : St m ρ K Z c 10 9 0 15 15 0 8 8 7 true 16 false false ⊢ Q (⟨⟩)) :
    St m ρ K Z c 10 9 0 15 15 0 8 7 6 false 16 false false ⊢
      WP c (k0_part40_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v1332) Q := by
  unfold k0_part40_skel
  simp only [Prog.lift, Prog.bind_op, Prog.bind_ret, Prog.pure_eq_ret]
  refine op_srecv m ρ K Z c (by decide) (by decide) (by decide) (by decide) (by decide) (by rfl) (by rfl) ?_
  refine op_vload m ρ K Z c 7 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  exact op_ret c hk

/-- Window 41 of the body, from one state to the next. -/
theorem part_41 (v2 : BitVec 32) (v7 : BitVec 32) (v309 : IVec S1x4 32) {Q : (Σ' (v1385 : BitVec 32) (v1386 : BitVec 32) (v1389 : IVec S512x4 32), IVec S512x4 32) → sProp 𝕄}
    (hk : St m ρ K Z c 11 10 0 15 15 0 9 8 7 false 16 false false ⊢ Q (⟨(Scalar.remsi (Scalar.addi (Scalar.subi v2 10#32 : BitVec 32) 32#32 : BitVec 32) 16#32 : BitVec 32), (Scalar.muli (Scalar.remsi (Scalar.addi (Scalar.subi v2 10#32 : BitVec 32) 32#32 : BitVec 32) 16#32 : BitVec 32) 512#32 : BitVec 32), k0_pay79 (F := F) (rblk m ρ (back c 10)), k0_pay80 v309⟩)) :
    St m ρ K Z c 10 9 0 15 15 0 8 8 7 true 16 false false ⊢
      WP c (k0_part41_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309) Q := by
  unfold k0_part41_skel
  simp only [Prog.lift, Prog.bind_op, Prog.bind_ret, Prog.pure_eq_ret]
  refine op_ssend m ρ K Z c (by decide) (by decide) (by decide) (Fin.ext (k0_dev36_eq c)) (rfl) (rfl) (by rfl) (by rfl) ?_
  refine op_xrecv m ρ K Z c (by decide) (by decide) (by decide) (by decide) (by decide) (by rfl) (by rfl) ?_
  refine op_xsend m ρ K Z c (by decide) (by decide) (by decide) (Fin.ext (k0_dev37_eq c)) (off5_back c 9) (off5_back c 9) (by rfl) (by rfl) ?_
  refine op_rload m ρ K Z c 10 (by decide) rfl (off6_back c 9) ?_
  exact op_ret c hk

/-- Window 42 of the body, from one state to the next. -/
theorem part_42 (v7 : BitVec 32) (v498 : FVec F S512x512 .f32) (v500 : FVec F S256x512 .bf16) (v502 : FVec F S256x512 .bf16) (v504 : FVec F S256x512 .bf16) (v506 : FVec F S256x512 .bf16) (v1385 : BitVec 32) (v1386 : BitVec 32) (v1389 : IVec S512x4 32) (v1390 : IVec S512x4 32) {Q : (FVec F S512x512 .f32) → sProp 𝕄}
    (hk : St m ρ K Z c 11 10 0 15 15 0 9 8 7 false 16 false false ⊢ Q ((k0_pay81 (F := F) v498 v500 v502 v504 v506 v1389 v1390 (brow m ρ c ((back c 10)).val) (xblk m ρ (back c 10))))) :
    St m ρ K Z c 11 10 0 15 15 0 9 8 7 false 16 false false ⊢
      WP c (k0_part42_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v498 v500 v502 v504 v506 v1385 v1386 v1389 v1390) Q := by
  unfold k0_part42_skel
  simp only [Prog.lift, Prog.bind_op, Prog.bind_ret, Prog.pure_eq_ret]
  refine op_bload m ρ K Z c (by decide) (back c 10) (off7_back c 9) ?_
  refine op_xload m ρ K Z c 10 (by decide) rfl (off8_back c 9) ?_
  exact op_ret c hk

/-- Window 43 of the body, from one state to the next. -/
theorem part_43 (v7 : BitVec 32) (v1430 : FVec F S512x512 .f32) {Q : (PUnit) → sProp 𝕄}
    (hw0 : (k0_pay82 (F := F) v1430 (msg m ρ 8 (prv c))) = msg m ρ 9 c)
    (hk : St m ρ K Z c 11 10 0 15 15 0 9 9 8 true 16 false false ⊢ Q (⟨⟩)) :
    St m ρ K Z c 11 10 0 15 15 0 9 8 7 false 16 false false ⊢
      WP c (k0_part43_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v1430) Q := by
  unfold k0_part43_skel
  simp only [Prog.lift, Prog.bind_op, Prog.bind_ret, Prog.pure_eq_ret]
  refine op_srecv m ρ K Z c (by decide) (by decide) (by decide) (by decide) (by decide) (by rfl) (by rfl) ?_
  refine op_vload m ρ K Z c 8 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  exact op_ret c hk

/-- Window 44 of the body, from one state to the next. -/
theorem part_44 (v2 : BitVec 32) (v7 : BitVec 32) (v309 : IVec S1x4 32) (v498 : FVec F S512x512 .f32) {Q : (Σ' (v1484 : BitVec 32) (v1491 : FVec F S512x4 .f32) (v1492 : FVec F S512x4 .f32), Vec F S1x4 .f32) → sProp 𝕄}
    (hk : St m ρ K Z c 12 11 0 15 15 0 10 9 8 false 16 false false ⊢ Q (⟨(Scalar.muli (Scalar.remsi (Scalar.addi (Scalar.subi v2 11#32 : BitVec 32) 32#32 : BitVec 32) 16#32 : BitVec 32) 512#32 : BitVec 32), k0_pay83 (F := F) v309 (rblk m ρ (back c 11)), k0_pay84 (F := F) v309 v498 (rblk m ρ (back c 11)), (brow m ρ c ((back c 11)).val)⟩)) :
    St m ρ K Z c 11 10 0 15 15 0 9 9 8 true 16 false false ⊢
      WP c (k0_part44_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498) Q := by
  unfold k0_part44_skel
  simp only [Prog.lift, Prog.bind_op, Prog.bind_ret, Prog.pure_eq_ret]
  refine op_ssend m ρ K Z c (by decide) (by decide) (by decide) (Fin.ext (k0_dev38_eq c)) (rfl) (rfl) (by rfl) (by rfl) ?_
  refine op_xrecv m ρ K Z c (by decide) (by decide) (by decide) (by decide) (by decide) (by rfl) (by rfl) ?_
  refine op_xsend m ρ K Z c (by decide) (by decide) (by decide) (Fin.ext (k0_dev39_eq c)) (off5_back c 10) (off5_back c 10) (by rfl) (by rfl) ?_
  refine op_rload m ρ K Z c 11 (by decide) rfl (off6_back c 10) ?_
  refine op_bload m ρ K Z c (by decide) (back c 11) (off7_back c 10) ?_
  exact op_ret c hk

/-- Window 45 of the body, from one state to the next. -/
theorem part_45 (v7 : BitVec 32) (v500 : FVec F S256x512 .bf16) (v502 : FVec F S256x512 .bf16) (v504 : FVec F S256x512 .bf16) (v506 : FVec F S256x512 .bf16) (v1484 : BitVec 32) (v1491 : FVec F S512x4 .f32) (v1492 : FVec F S512x4 .f32) (v1494 : Vec F S1x4 .f32) {Q : (FVec F S512x512 .f32) → sProp 𝕄}
    (hk : St m ρ K Z c 12 11 0 15 15 0 10 9 8 false 16 false false ⊢ Q ((k0_pay85 (F := F) v500 v502 v504 v506 v1491 v1492 v1494 (xblk m ρ (back c 11))))) :
    St m ρ K Z c 12 11 0 15 15 0 10 9 8 false 16 false false ⊢
      WP c (k0_part45_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v1484 v1491 v1492 v1494) Q := by
  unfold k0_part45_skel
  simp only [Prog.lift, Prog.bind_op, Prog.bind_ret, Prog.pure_eq_ret]
  refine op_xload m ρ K Z c 11 (by decide) rfl (off8_back c 10) ?_
  exact op_ret c hk

end Cert.RingMoe
end
-- ==== Proof.PartsD.lean ====
/-
The windows of the body, each from one state to the next.
-/
module

public import proofs.«01_k».proof.Proof.Offs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 92 → ℕ) (Z : sProp (MT nD τ sig Unit (Elt F) ℕ UU ℕ)) (c : Dev nD)

/-- Window 46 of the body, from one state to the next. -/
theorem part_46 (v7 : BitVec 32) (v1528 : FVec F S512x512 .f32) {Q : (Σ' (v1561 : BitVec 32), BitVec 32) → sProp 𝕄}
    (hw0 : (k0_pay86 (F := F) v1528 (msg m ρ 9 (prv c))) = msg m ρ 10 c)
    (hk : St m ρ K Z c 12 11 0 15 15 0 11 10 9 false 16 false false ⊢ Q (⟨(Scalar.muli v7 1#32 : BitVec 32), 0#32⟩)) :
    St m ρ K Z c 12 11 0 15 15 0 10 9 8 false 16 false false ⊢
      WP c (k0_part46_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1528) Q := by
  unfold k0_part46_skel
  simp only [Prog.lift, Prog.bind_op, Prog.bind_ret, Prog.pure_eq_ret]
  refine op_srecv m ρ K Z c (by decide) (by decide) (by decide) (by decide) (by decide) (by rfl) (by rfl) ?_
  refine op_vload m ρ K Z c 9 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev40_eq c)) (rfl) (rfl) (by rfl) (by rfl) ?_
  exact op_ret c hk

/-- Window 47 of the body, from one state to the next. -/
theorem part_47 (v2 : BitVec 32) (v7 : BitVec 32) (v309 : IVec S1x4 32) (v498 : FVec F S512x512 .f32) (v1561 : BitVec 32) (c0_i32_1031 : BitVec 32) {Q : (Σ' (v1582 : BitVec 32) (v1596 : IVec S512x4 1), IVec S512x4 1) → sProp 𝕄}
    (hk : St m ρ K Z c 13 12 0 15 15 0 11 10 9 false 16 false false ⊢ Q (⟨(Scalar.muli (Scalar.remsi (Scalar.addi (Scalar.subi v2 12#32 : BitVec 32) 32#32 : BitVec 32) 16#32 : BitVec 32) 512#32 : BitVec 32), k0_pay88 (F := F) v309 (rblk m ρ (back c 12)), k0_pay89 (F := F) v309 v498 (rblk m ρ (back c 12)) (brow m ρ c ((back c 12)).val)⟩)) :
    St m ρ K Z c 12 11 0 15 15 0 11 10 9 false 16 false false ⊢
      WP c (k0_part47_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498 v1561 c0_i32_1031) Q := by
  unfold k0_part47_skel
  simp only [Prog.lift, Prog.bind_op, Prog.bind_ret, Prog.pure_eq_ret]
  refine op_xrecv m ρ K Z c (by decide) (by decide) (by decide) (by decide) (by decide) (by rfl) (by rfl) ?_
  refine op_xsend m ρ K Z c (by decide) (by decide) (by decide) (Fin.ext (k0_dev41_eq c)) (off5_back c 11) (off5_back c 11) (by rfl) (by rfl) ?_
  refine op_rload m ρ K Z c 12 (by decide) rfl (off6_back c 11) ?_
  refine op_bload m ρ K Z c (by decide) (back c 12) (off7_back c 11) ?_
  exact op_ret c hk

/-- Window 48 of the body, from one state to the next. -/
theorem part_48 (v7 : BitVec 32) (v500 : FVec F S256x512 .bf16) (v502 : FVec F S256x512 .bf16) (v504 : FVec F S256x512 .bf16) (v506 : FVec F S256x512 .bf16) (v1582 : BitVec 32) (v1596 : IVec S512x4 1) (v1598 : IVec S512x4 1) {Q : (Σ' (v1626 : FVec F S512x512 .f32), FVec F S512x512 .bf16) → sProp 𝕄}
    (hk : St m ρ K Z c 13 12 0 15 15 0 11 11 9 false 16 false false ⊢ Q (⟨k0_pay90 (F := F) v500 v502 v504 v506 v1596 v1598 (xblk m ρ (back c 12)), k0_pay91 (F := F) (msg m ρ 10 (prv c))⟩)) :
    St m ρ K Z c 13 12 0 15 15 0 11 10 9 false 16 false false ⊢
      WP c (k0_part48_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v1582 v1596 v1598) Q := by
  unfold k0_part48_skel
  simp only [Prog.lift, Prog.bind_op, Prog.bind_ret, Prog.pure_eq_ret]
  refine op_xload m ρ K Z c 12 (by decide) rfl (off8_back c 11) ?_
  refine op_srecv m ρ K Z c (by decide) (by decide) (by decide) (by decide) (by decide) (by rfl) (by rfl) ?_
  refine op_vload m ρ K Z c 10 (by decide) (by decide) rfl ?_
  exact op_ret c hk

/-- Window 49 of the body, from one state to the next. -/
theorem part_49 (v7 : BitVec 32) (v1626 : FVec F S512x512 .f32) (v1636 : FVec F S512x512 .bf16) {Q : (PUnit) → sProp 𝕄}
    (hw0 : (k0_pay92 (F := F) v1626 v1636) = msg m ρ 11 c)
    (hk : St m ρ K Z c 13 13 0 15 15 0 12 11 10 false 16 false false ⊢ Q (⟨⟩)) :
    St m ρ K Z c 13 12 0 15 15 0 11 11 9 false 16 false false ⊢
      WP c (k0_part49_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1626 v1636) Q := by
  unfold k0_part49_skel
  simp only [Prog.lift, Prog.bind_op, Prog.bind_ret, Prog.pure_eq_ret]
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev42_eq c)) (rfl) (rfl) (by rfl) (by rfl) ?_
  refine op_xrecv m ρ K Z c (by decide) (by decide) (by decide) (by decide) (by decide) (by rfl) (by rfl) ?_
  exact op_ret c hk

/-- Window 50 of the body, from one state to the next. -/
theorem part_50 (v2 : BitVec 32) (v7 : BitVec 32) (v309 : IVec S1x4 32) (v498 : FVec F S512x512 .f32) {Q : (FVec F S512x4 .bf16) → sProp 𝕄}
    (hk : St m ρ K Z c 14 13 0 15 15 0 12 11 10 false 16 false false ⊢ Q ((k0_pay93 (F := F) v309 v498 (rblk m ρ (back c 13)) (brow m ρ c ((back c 13)).val)))) :
    St m ρ K Z c 13 13 0 15 15 0 12 11 10 false 16 false false ⊢
      WP c (k0_part50_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498) Q := by
  unfold k0_part50_skel
  simp only [Prog.lift, Prog.bind_op, Prog.bind_ret, Prog.pure_eq_ret]
  refine op_xsend m ρ K Z c (by decide) (by decide) (by decide) (Fin.ext (k0_dev43_eq c)) (off5_back c 12) (off5_back c 12) (by rfl) (by rfl) ?_
  refine op_rload m ρ K Z c 13 (by decide) rfl (off6_back c 12) ?_
  refine op_bload m ρ K Z c (by decide) (back c 13) (off7_back c 12) ?_
  exact op_ret c hk

/-- Window 51 of the body, from one state to the next. -/
theorem part_51 (v7 : BitVec 32) (v500 : FVec F S256x512 .bf16) (v502 : FVec F S256x512 .bf16) (v504 : FVec F S256x512 .bf16) (v506 : FVec F S256x512 .bf16) (v1701 : FVec F S512x4 .bf16) {Q : (FVec F S512x512 .f32) → sProp 𝕄}
    (hk : St m ρ K Z c 14 13 0 15 15 0 12 12 10 false 16 false false ⊢ Q ((k0_pay94 (F := F) v500 v502 v504 v506 v1701 (xblk m ρ (back c 13)) (msg m ρ 11 (prv c))))) :
    St m ρ K Z c 14 13 0 15 15 0 12 11 10 false 16 false false ⊢
      WP c (k0_part51_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v1701) Q := by
  unfold k0_part51_skel
  simp only [Prog.lift, Prog.bind_op, Prog.bind_ret, Prog.pure_eq_ret]
  refine op_xload m ρ K Z c 13 (by decide) rfl (off8_back c 12) ?_
  refine op_srecv m ρ K Z c (by decide) (by decide) (by decide) (by decide) (by decide) (by rfl) (by rfl) ?_
  refine op_vload m ρ K Z c 11 (by decide) (by decide) rfl ?_
  exact op_ret c hk

/-- Window 52 of the body, from one state to the next. -/
theorem part_52 (v2 : BitVec 32) (v7 : BitVec 32) (v1736 : FVec F S512x512 .f32) {Q : (PUnit) → sProp 𝕄}
    (hw0 : (k0_pay95 (F := F) v1736) = msg m ρ 12 c)
    (hk : St m ρ K Z c 14 14 0 15 15 0 13 12 11 false 16 false false ⊢ Q (⟨⟩)) :
    St m ρ K Z c 14 13 0 15 15 0 12 12 10 false 16 false false ⊢
      WP c (k0_part52_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v1736) Q := by
  unfold k0_part52_skel
  simp only [Prog.lift, Prog.bind_op, Prog.bind_ret, Prog.pure_eq_ret]
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev44_eq c)) (rfl) (rfl) (by rfl) (by rfl) ?_
  refine op_xrecv m ρ K Z c (by decide) (by decide) (by decide) (by decide) (by decide) (by rfl) (by rfl) ?_
  exact op_ret c hk

/-- Window 53 of the body, from one state to the next. -/
theorem part_53 (v2 : BitVec 32) (v7 : BitVec 32) (v309 : IVec S1x4 32) (v498 : FVec F S512x512 .f32) {Q : (Σ' (v1799 : FVec F S512x4 .bf16) (v1801 : Vec F S512x256 .bf16) (v1802 : FVec F S512x512 .f32) (v1805 : FVec F S512x256 .bf16), FVec F S512x512 .f32) → sProp 𝕄}
    (hk : St m ρ K Z c 15 14 0 15 15 0 13 12 11 false 16 false false ⊢ Q (⟨k0_pay96 (F := F) v309 v498 (rblk m ρ (back c 14)) (brow m ρ c ((back c 14)).val), (xblk m ρ (back c 14)), k0_pay97 (F := F), k0_pay98 (F := F) v309 v498 (rblk m ρ (back c 14)) (brow m ρ c ((back c 14)).val) (xblk m ρ (back c 14)), (constant S512x512 .f32 0x00000000#32 : FVec F S512x512 .f32)⟩)) :
    St m ρ K Z c 14 14 0 15 15 0 13 12 11 false 16 false false ⊢
      WP c (k0_part53_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v498) Q := by
  unfold k0_part53_skel
  simp only [Prog.lift, Prog.bind_op, Prog.bind_ret, Prog.pure_eq_ret]
  refine op_xsend m ρ K Z c (by decide) (by decide) (by decide) (Fin.ext (k0_dev45_eq c)) (off5_back c 13) (off5_back c 13) (by rfl) (by rfl) ?_
  refine op_rload m ρ K Z c 14 (by decide) rfl (off6_back c 13) ?_
  refine op_bload m ρ K Z c (by decide) (back c 14) (off7_back c 13) ?_
  refine op_xload m ρ K Z c 14 (by decide) rfl (off8_back c 13) ?_
  exact op_ret c hk

/-- Window 54 of the body, from one state to the next. -/
theorem part_54 (v7 : BitVec 32) (v500 : FVec F S256x512 .bf16) (v502 : FVec F S256x512 .bf16) (v504 : FVec F S256x512 .bf16) (v506 : FVec F S256x512 .bf16) (v1799 : FVec F S512x4 .bf16) (v1801 : Vec F S512x256 .bf16) (v1802 : FVec F S512x512 .f32) (v1805 : FVec F S512x256 .bf16) (cst_1193 : FVec F S512x512 .f32) {Q : (FVec F S512x512 .f32) → sProp 𝕄}
    (hk : St m ρ K Z c 15 14 0 15 15 0 13 13 11 false 16 false false ⊢ Q ((k0_pay99 (F := F) v500 v502 v504 v506 v1799 v1801 v1802 v1805 cst_1193 (msg m ρ 12 (prv c))))) :
    St m ρ K Z c 15 14 0 15 15 0 13 12 11 false 16 false false ⊢
      WP c (k0_part54_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v500 v502 v504 v506 v1799 v1801 v1802 v1805 cst_1193) Q := by
  unfold k0_part54_skel
  simp only [Prog.lift, Prog.bind_op, Prog.bind_ret, Prog.pure_eq_ret]
  refine op_srecv m ρ K Z c (by decide) (by decide) (by decide) (by decide) (by decide) (by rfl) (by rfl) ?_
  refine op_vload m ρ K Z c 12 (by decide) (by decide) rfl ?_
  exact op_ret c hk

/-- Window 55 of the body, from one state to the next. -/
theorem part_55 (v2 : BitVec 32) (v7 : BitVec 32) (v309 : IVec S1x4 32) (v1834 : FVec F S512x512 .f32) {Q : (Σ' (v1863 : BitVec 32) (v1864 : BitVec 32), FVec F S512x4 .f32) → sProp 𝕄}
    (hw0 : (k0_pay100 (F := F) v1834) = msg m ρ 13 c)
    (hk : St m ρ K Z c 15 15 0 15 15 0 14 13 12 false 16 false false ⊢ Q (⟨(Scalar.remsi (Scalar.addi (Scalar.subi v2 15#32 : BitVec 32) 32#32 : BitVec 32) 16#32 : BitVec 32), (Scalar.muli (Scalar.remsi (Scalar.addi (Scalar.subi v2 15#32 : BitVec 32) 32#32 : BitVec 32) 16#32 : BitVec 32) 512#32 : BitVec 32), k0_pay101 (F := F) v309 (rblk m ρ (back c 15))⟩)) :
    St m ρ K Z c 15 14 0 15 15 0 13 13 11 false 16 false false ⊢
      WP c (k0_part55_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v7 v309 v1834) Q := by
  unfold k0_part55_skel
  simp only [Prog.lift, Prog.bind_op, Prog.bind_ret, Prog.pure_eq_ret]
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev46_eq c)) (rfl) (rfl) (by rfl) (by rfl) ?_
  refine op_xrecv m ρ K Z c (by decide) (by decide) (by decide) (by decide) (by decide) (by rfl) (by rfl) ?_
  refine op_rload m ρ K Z c 15 (by decide) rfl (off6_back c 14) ?_
  exact op_ret c hk

/-- Window 56 of the body, from one state to the next. -/
theorem part_56 (v7 : BitVec 32) (v498 : FVec F S512x512 .f32) (v500 : FVec F S256x512 .bf16) (v502 : FVec F S256x512 .bf16) (v504 : FVec F S256x512 .bf16) (v506 : FVec F S256x512 .bf16) (v1863 : BitVec 32) (v1864 : BitVec 32) (v1871 : FVec F S512x4 .f32) {Q : (FVec F S512x512 .f32) → sProp 𝕄}
    (hk : St m ρ K Z c 15 15 0 15 15 0 14 13 12 false 16 false false ⊢ Q ((k0_pay102 (F := F) v498 v500 v502 v504 v506 v1871 (brow m ρ c ((back c 15)).val) (xblk m ρ (back c 15))))) :
    St m ρ K Z c 15 15 0 15 15 0 14 13 12 false 16 false false ⊢
      WP c (k0_part56_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v498 v500 v502 v504 v506 v1863 v1864 v1871) Q := by
  unfold k0_part56_skel
  simp only [Prog.lift, Prog.bind_op, Prog.bind_ret, Prog.pure_eq_ret]
  refine op_bload m ρ K Z c (by decide) (back c 15) (off7_back c 14) ?_
  refine op_xload m ρ K Z c 15 (by decide) rfl (off8_back c 14) ?_
  exact op_ret c hk

/-- Window 57 of the body, from one state to the next. -/
theorem part_57 (v7 : BitVec 32) (v1908 : FVec F S512x512 .f32) {Q : (PUnit) → sProp 𝕄}
    (hw0 : (k0_pay103 (F := F) v1908 (msg m ρ 13 (prv c))) = msg m ρ 14 c)
    (hk : St m ρ K Z c 15 15 0 15 15 0 15 14 13 false 16 false false ⊢ Q (⟨⟩)) :
    St m ρ K Z c 15 15 0 15 15 0 14 13 12 false 16 false false ⊢
      WP c (k0_part57_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1908) Q := by
  unfold k0_part57_skel
  simp only [Prog.lift, Prog.bind_op, Prog.bind_ret, Prog.pure_eq_ret]
  refine op_srecv m ρ K Z c (by decide) (by decide) (by decide) (by decide) (by decide) (by rfl) (by rfl) ?_
  refine op_vload m ρ K Z c 13 (by decide) (by decide) rfl ?_
  refine op_swait m ρ K Z c (by decide) (by decide) (by decide) (by decide) (by decide) (by decide) (by rfl) (by rfl) ?_
  refine op_speek m ρ K Z c (by decide) rfl fun _ => ?_
  refine op_sstore m ρ K Z c (by decide) rfl hw0 ?_
  refine op_ssend m ρ K Z c (by decide) (by decide) (by decide) (Fin.ext (k0_dev47_eq c)) (rfl) (rfl) (by rfl) (by rfl) ?_
  exact op_ret c hk

/-- Window 58 of the body, from one state to the next. -/
theorem part_58 (v2 : BitVec 32) (v309 : IVec S1x4 32) (v498 : FVec F S512x512 .f32) (v500 : FVec F S256x512 .bf16) (v502 : FVec F S256x512 .bf16) (v504 : FVec F S256x512 .bf16) (v506 : FVec F S256x512 .bf16) {Q : (FVec F S512x512 .f32) → sProp 𝕄}
    (hk : St m ρ K Z c 15 15 0 15 15 0 15 14 13 false 16 false false ⊢ Q ((k0_pay104 (F := F) v309 v498 v500 v502 v504 v506 (rblk m ρ c) (brow m ρ c (c).val) (xblk m ρ c)))) :
    St m ρ K Z c 15 15 0 15 15 0 15 14 13 false 16 false false ⊢
      WP c (k0_part58_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v2 v309 v498 v500 v502 v504 v506) Q := by
  unfold k0_part58_skel
  simp only [Prog.lift, Prog.bind_op, Prog.bind_ret, Prog.pure_eq_ret]
  refine op_rload m ρ K Z c 0 (by decide) (back_zero c) (k0_off2_eq c) ?_
  refine op_bload m ρ K Z c (by decide) c (k0_off9_eq c) ?_
  refine op_xload m ρ K Z c 0 (by decide) (back_zero c) (k0_off1_eq c) ?_
  exact op_ret c hk

/-- Window 59 of the body, from one state to the next. -/
theorem part_59 (v7 : BitVec 32) (v1985 : FVec F S512x512 .f32) {Q : (PUnit) → sProp 𝕄}
    (hw0 : (k0_pay105 (F := F) v1985) = own m ρ c)
    (hw1 : (k0_pay106 (F := F) (own m ρ c) (msg m ρ 14 (prv c))) = outAt m ρ c)
    (hk : St m ρ K Z c 15 15 2 15 15 0 15 15 13 false 16 true true ⊢ Q (⟨⟩)) :
    St m ρ K Z c 15 15 0 15 15 0 15 14 13 false 16 false false ⊢
      WP c (k0_part59_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1985) Q := by
  unfold k0_part59_skel
  simp only [Prog.lift, Prog.bind_op, Prog.bind_ret, Prog.pure_eq_ret]
  refine op_cpeek m ρ K Z c fun _ => ?_
  refine op_cstore m ρ K Z c hw0 ?_
  refine op_srecv m ρ K Z c (by decide) (by decide) (by decide) (by decide) (by decide) (by rfl) (by rfl) ?_
  refine op_cload m ρ K Z c ?_
  refine op_vload m ρ K Z c 14 (by decide) (by decide) rfl ?_
  refine op_opeek m ρ K Z c fun _ => ?_
  refine op_ostore m ρ K Z c hw1 ?_
  refine op_xwait m ρ K Z c (by decide) (by decide) (by decide) (by decide) (by decide) (by rfl) (by rfl) ?_
  refine op_xwait m ρ K Z c (by decide) (by decide) (by decide) (by decide) (by decide) (by rfl) (by rfl) ?_
  exact op_ret c hk

end Cert.RingMoe
end
-- ==== Proof.PartsE.lean ====
/-
The windows of the body, each from one state to the next.
-/
module

public import proofs.«01_k».proof.Proof.Offs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 92 → ℕ) (Z : sProp (MT nD τ sig Unit (Elt F) ℕ UU ℕ)) (c : Dev nD)

/-- Window 60 of the body, from one state to the next. -/
theorem part_60  {Q : (PUnit) → sProp 𝕄}
    (hk : St m ρ K Z c 15 15 8 15 15 0 15 15 13 false 16 true true ⊢ Q (⟨⟩)) :
    St m ρ K Z c 15 15 2 15 15 0 15 15 13 false 16 true true ⊢
      WP c (k0_part60_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c) Q := by
  unfold k0_part60_skel
  simp only [Prog.lift, Prog.bind_op, Prog.bind_ret, Prog.pure_eq_ret]
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  exact op_ret c hk

/-- Window 61 of the body, from one state to the next. -/
theorem part_61  {Q : (PUnit) → sProp 𝕄}
    (hk : St m ρ K Z c 15 15 14 15 15 0 15 15 13 false 16 true true ⊢ Q (⟨⟩)) :
    St m ρ K Z c 15 15 8 15 15 0 15 15 13 false 16 true true ⊢
      WP c (k0_part61_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c) Q := by
  unfold k0_part61_skel
  simp only [Prog.lift, Prog.bind_op, Prog.bind_ret, Prog.pure_eq_ret]
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  refine op_xwait m ρ K Z c (by decide) (by decide) (by decide) (by decide) (by decide) (by rfl) (by rfl) ?_
  exact op_ret c hk

/-- Window 62 of the body, from one state to the next. -/
theorem part_62  {Q : (PUnit) → sProp 𝕄}
    (hk : St m ρ K Z c 15 15 15 15 15 5 15 15 13 false 16 true true ⊢ Q (⟨⟩)) :
    St m ρ K Z c 15 15 14 15 15 0 15 15 13 false 16 true true ⊢
      WP c (k0_part62_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c) Q := by
  unfold k0_part62_skel
  simp only [Prog.lift, Prog.bind_op, Prog.bind_ret, Prog.pure_eq_ret]
  refine op_xwait m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  exact op_ret c hk

/-- Window 63 of the body, from one state to the next. -/
theorem part_63  {Q : (PUnit) → sProp 𝕄}
    (hk : St m ρ K Z c 15 15 15 15 15 11 15 15 13 false 16 true true ⊢ Q (⟨⟩)) :
    St m ρ K Z c 15 15 15 15 15 5 15 15 13 false 16 true true ⊢
      WP c (k0_part63_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c) Q := by
  unfold k0_part63_skel
  simp only [Prog.lift, Prog.bind_op, Prog.bind_ret, Prog.pure_eq_ret]
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  exact op_ret c hk

/-- Window 64 of the body, from one state to the next. -/
theorem part_64  {Q : (PUnit) → sProp 𝕄}
    (hk : St m ρ K Z c 15 15 15 15 15 15 15 15 14 false 16 true true ⊢ Q (⟨⟩)) :
    St m ρ K Z c 15 15 15 15 15 11 15 15 13 false 16 true true ⊢
      WP c (k0_part64_skel (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c) Q := by
  unfold k0_part64_skel
  simp only [Prog.lift, Prog.bind_op, Prog.bind_ret, Prog.pure_eq_ret]
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_await m ρ K Z c (by decide) (by decide) (by decide) (by decide) (by decide) (by rfl) (by rfl) ?_
  refine op_swait m ρ K Z c (by decide) (by decide) (by decide) (by decide) (by decide) (by decide) (by rfl) (by rfl) ?_
  exact op_ret c hk

end Cert.RingMoe
end
-- ==== Proof.RunParts.lean ====
/-
The windows of the body after the entry handshake, one after another.
-/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 92 → ℕ) (Z : sProp (MT nD τ sig Unit (Elt F) ℕ UU ℕ)) (c : Dev nD)

set_option maxHeartbeats 2000000 in
/-- All windows but the first and the last five, from the state after the entry handshake. -/
theorem run_parts (v5 v7 : BitVec 32) {Q : (Σ' (d0 : Dev nD) (v5 : BitVec 32), BitVec 32) → sProp 𝕄}
    (hk : St m ρ K Z c 15 15 8 15 15 0 15 15 13 false 16 true true ⊢ Q ⟨c, v5, v7⟩) :
    St m ρ K Z c 0 0 0 0 0 0 0 0 0 false 0 false false ⊢ WP c (do
      let c1_i32_45 : BitVec 32 ← k0_part2 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7
      let v88 : BitVec 32 ← k0_part3 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 c1_i32_45
      k0_part4 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v88
      let c1_i32_121 : BitVec 32 ← k0_part5 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7
      let v178 : BitVec 32 ← k0_part6 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 c1_i32_121
      k0_part7 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v178
      let c1_i32_196 : BitVec 32 ← k0_part8 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7
      let v268 : BitVec 32 ← k0_part9 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 c1_i32_196
      k0_part10 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v268
      let ⟨v309, v334, v336⟩ : Σ' (v309 : IVec S1x4 32) (v334 : FVec F S1x4 .f32), IVec S512x4 32 ← k0_part11 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7
      let ⟨v370, v376⟩ : Σ' (v370 : FVec F S1x4 .f32), FVec F S512x4 .f32 ← k0_part12 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v334 v336
      let ⟨v406, v416⟩ : Σ' (v406 : FVec F S1x4 .f32), FVec F S4 .f32 ← k0_part13 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v370 v376
      let ⟨v454, v456⟩ : Σ' (v454 : FVec F S1x4 .f32), IVec S512x4 32 ← k0_part14 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v406 v416
      let v497 : IVec S512x512 32 ← k0_part15 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v309 v454 v456
      let ⟨v498, v500, v502, v504, v506, v525, c32_i32⟩ : Σ' (v498 : FVec F S512x512 .f32) (v500 : FVec F S256x512 .bf16) (v502 : FVec F S256x512 .bf16) (v504 : FVec F S256x512 .bf16) (v506 : FVec F S256x512 .bf16) (v525 : BitVec 32), BitVec 32 ← k0_part16 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v497
      let ⟨v567, v570, cst_343⟩ : Σ' (v567 : FVec F S512x512 .f32) (v570 : FVec F S512x256 .bf16), FVec F S512x512 .f32 ← k0_part17 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v309 v498 v500 v502 v504 v525 c32_i32
      k0_part18 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v506 v567 v570 cst_343
      let ⟨v629, v631, v642⟩ : Σ' (v629 : FVec F S512x4 .bf16) (v631 : Vec F S512x256 .bf16), FVec F S512x512 .f32 ← k0_part19 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v309 v498 v500 v502
      k0_part20 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v504 v506 v629 v631 v642
      let ⟨v699, v700, v707, cst_437⟩ : Σ' (v699 : BitVec 32) (v700 : BitVec 32) (v707 : FVec F S512x4 .f32), FVec F S512x4 .f32 ← k0_part21 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309
      let v744 : FVec F S512x512 .f32 ← k0_part22 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v498 v500 v502 v504 v506 v699 v700 v707 cst_437
      k0_part23 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v744
      let ⟨v798, v805, v810, v811⟩ : Σ' (v798 : BitVec 32) (v805 : FVec F S512x4 .f32) (v810 : FVec F S512x4 .f32), FVec F S512x4 .f32 ← k0_part24 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498
      let v842 : FVec F S512x512 .f32 ← k0_part25 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v798 v805 v810 v811
      k0_part26 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v842
      let ⟨v896, v913, cst_578, v914⟩ : Σ' (v896 : BitVec 32) (v913 : IVec S512x4 1) (cst_578 : F .f32), FVec F S512x4 .f32 ← k0_part27 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498
      let v952 : FVec F S512x512 .f32 ← k0_part28 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v896 v913 cst_578 v914
      let v980 : BitVec 32 ← k0_part29 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v952
      let ⟨v1015, v1017, v1018⟩ : Σ' (v1015 : FVec F S512x4 .bf16) (v1017 : Vec F S512x256 .bf16), FVec F S512x512 .f32 ← k0_part30 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498 v980
      let v1050 : FVec F S512x512 .f32 ← k0_part31 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v500 v502 v504 v506 v1015 v1017 v1018
      let v1081 : BitVec 32 ← k0_part32 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v1050
      let ⟨v1113, v1115, v1121, v1123⟩ : Σ' (v1113 : FVec F S512x4 .bf16) (v1115 : Vec F S512x256 .bf16) (v1121 : FVec F S512x512 .f32), FVec F S512x256 .bf16 ← k0_part33 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v309 v498 v500 v1081
      let v1155 : FVec F S512x512 .bf16 ← k0_part34 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v502 v504 v506 v1113 v1115 v1121 v1123
      k0_part35 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v1155
      let ⟨v1211, v1213, v1224, v1227, cst_787⟩ : Σ' (v1211 : FVec F S512x4 .bf16) (v1213 : Vec F S512x256 .bf16) (v1224 : FVec F S512x512 .f32) (v1227 : FVec F S512x256 .bf16), FVec F S512x512 .f32 ← k0_part36 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v309 v498 v500 v502
      k0_part37 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v504 v506 v1211 v1213 v1224 v1227 cst_787
      let ⟨v1286, c16_i32_842⟩ : Σ' (v1286 : BitVec 32), BitVec 32 ← k0_part38 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7
      let v1332 : FVec F S512x512 .f32 ← k0_part39 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v309 v498 v500 v502 v504 v506 v1286 c16_i32_842
      k0_part40 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v1332
      let ⟨v1385, v1386, v1389, v1390⟩ : Σ' (v1385 : BitVec 32) (v1386 : BitVec 32) (v1389 : IVec S512x4 32), IVec S512x4 32 ← k0_part41 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309
      let v1430 : FVec F S512x512 .f32 ← k0_part42 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v498 v500 v502 v504 v506 v1385 v1386 v1389 v1390
      k0_part43 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v1430
      let ⟨v1484, v1491, v1492, v1494⟩ : Σ' (v1484 : BitVec 32) (v1491 : FVec F S512x4 .f32) (v1492 : FVec F S512x4 .f32), Vec F S1x4 .f32 ← k0_part44 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498
      let v1528 : FVec F S512x512 .f32 ← k0_part45 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v1484 v1491 v1492 v1494
      let ⟨v1561, c0_i32_1031⟩ : Σ' (v1561 : BitVec 32), BitVec 32 ← k0_part46 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1528
      let ⟨v1582, v1596, v1598⟩ : Σ' (v1582 : BitVec 32) (v1596 : IVec S512x4 1), IVec S512x4 1 ← k0_part47 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498 v1561 c0_i32_1031
      let ⟨v1626, v1636⟩ : Σ' (v1626 : FVec F S512x512 .f32), FVec F S512x512 .bf16 ← k0_part48 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v1582 v1596 v1598
      k0_part49 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1626 v1636
      let v1701 : FVec F S512x4 .bf16 ← k0_part50 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498
      let v1736 : FVec F S512x512 .f32 ← k0_part51 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v500 v502 v504 v506 v1701
      k0_part52 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v1736
      let ⟨v1799, v1801, v1802, v1805, cst_1193⟩ : Σ' (v1799 : FVec F S512x4 .bf16) (v1801 : Vec F S512x256 .bf16) (v1802 : FVec F S512x512 .f32) (v1805 : FVec F S512x256 .bf16), FVec F S512x512 .f32 ← k0_part53 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v498
      let v1834 : FVec F S512x512 .f32 ← k0_part54 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 v7 v500 v502 v504 v506 v1799 v1801 v1802 v1805 cst_1193
      let ⟨v1863, v1864, v1871⟩ : Σ' (v1863 : BitVec 32) (v1864 : BitVec 32), FVec F S512x4 .f32 ← k0_part55 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v7 v309 v1834
      let v1908 : FVec F S512x512 .f32 ← k0_part56 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v498 v500 v502 v504 v506 v1863 v1864 v1871
      k0_part57 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1908
      let v1985 : FVec F S512x512 .f32 ← k0_part58 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c (pos c) v309 v498 v500 v502 v504 v506
      k0_part59 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c v7 v1985
      k0_part60 (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0 c
      pure ⟨c, v5, v7⟩) Q := by
  rw [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  refine op_seq c (part_2 m ρ K Z c _ _ ?_)
  try dsimp only
  refine op_seq c (part_3 m ρ K Z c _ _ _ ?_)
  try dsimp only
  refine op_seq c (part_4 m ρ K Z c _ _ _ ?_)
  try dsimp only
  refine op_seq c (part_5 m ρ K Z c _ _ ?_)
  try dsimp only
  refine op_seq c (part_6 m ρ K Z c _ _ _ ?_)
  try dsimp only
  refine op_seq c (part_7 m ρ K Z c _ _ _ ?_)
  try dsimp only
  refine op_seq c (part_8 m ρ K Z c _ _ ?_)
  try dsimp only
  refine op_seq c (part_9 m ρ K Z c _ _ _ ?_)
  try dsimp only
  refine op_seq c (part_10 m ρ K Z c _ _ _ ?_)
  try dsimp only
  refine op_seq c (part_11 m ρ K Z c _ _ (by rfl) (by rfl) ?_)
  try dsimp only
  refine op_seq c (part_12 m ρ K Z c _ _ _ (by rfl) (by rfl) (by rfl) ?_)
  try dsimp only
  refine op_seq c (part_13 m ρ K Z c _ _ _ (by rfl) (by rfl) (by rfl) (by rfl) ?_)
  try dsimp only
  refine op_seq c (part_14 m ρ K Z c _ _ _ (by rfl) (by rfl) (by rfl) ?_)
  try dsimp only
  refine op_seq c (part_15 m ρ K Z c _ _ _ (by rfl) (by rfl) (by rfl) (by rfl) ?_)
  try dsimp only
  refine op_seq c (part_16 m ρ K Z c _ _ _ ?_)
  try dsimp only
  refine op_seq c (part_17 m ρ K Z c _ _ _ _ _ _ _ ?_)
  try dsimp only
  refine op_seq c (part_18 m ρ K Z c _ _ _ _ _ _ (by rfl) ?_)
  try dsimp only
  refine op_seq c (part_19 m ρ K Z c _ _ _ _ _ ?_)
  try dsimp only
  refine op_seq c (part_20 m ρ K Z c _ _ _ _ _ _ (by rfl) ?_)
  try dsimp only
  refine op_seq c (part_21 m ρ K Z c _ _ _ ?_)
  try dsimp only
  refine op_seq c (part_22 m ρ K Z c _ _ _ _ _ _ _ _ _ _ ?_)
  try dsimp only
  refine op_seq c (part_23 m ρ K Z c _ _ (by rfl) ?_)
  try dsimp only
  refine op_seq c (part_24 m ρ K Z c _ _ _ _ ?_)
  try dsimp only
  refine op_seq c (part_25 m ρ K Z c _ _ _ _ _ _ _ _ _ ?_)
  try dsimp only
  refine op_seq c (part_26 m ρ K Z c _ _ (by rfl) ?_)
  try dsimp only
  refine op_seq c (part_27 m ρ K Z c _ _ _ _ ?_)
  try dsimp only
  refine op_seq c (part_28 m ρ K Z c _ _ _ _ _ _ _ _ _ ?_)
  try dsimp only
  refine op_seq c (part_29 m ρ K Z c _ _ _ (by rfl) ?_)
  try dsimp only
  refine op_seq c (part_30 m ρ K Z c _ _ _ _ _ ?_)
  try dsimp only
  refine op_seq c (part_31 m ρ K Z c _ _ _ _ _ _ _ _ ?_)
  try dsimp only
  refine op_seq c (part_32 m ρ K Z c _ _ _ (by rfl) ?_)
  try dsimp only
  refine op_seq c (part_33 m ρ K Z c _ _ _ _ _ ?_)
  try dsimp only
  refine op_seq c (part_34 m ρ K Z c _ _ _ _ _ _ _ _ ?_)
  try dsimp only
  refine op_seq c (part_35 m ρ K Z c _ _ _ (by rfl) ?_)
  try dsimp only
  refine op_seq c (part_36 m ρ K Z c _ _ _ _ _ ?_)
  try dsimp only
  refine op_seq c (part_37 m ρ K Z c _ _ _ _ _ _ _ _ (by rfl) ?_)
  try dsimp only
  refine op_seq c (part_38 m ρ K Z c _ _ ?_)
  try dsimp only
  refine op_seq c (part_39 m ρ K Z c _ _ _ _ _ _ _ _ ?_)
  try dsimp only
  refine op_seq c (part_40 m ρ K Z c _ _ (by rfl) ?_)
  try dsimp only
  refine op_seq c (part_41 m ρ K Z c _ _ _ ?_)
  try dsimp only
  refine op_seq c (part_42 m ρ K Z c _ _ _ _ _ _ _ _ _ _ ?_)
  try dsimp only
  refine op_seq c (part_43 m ρ K Z c _ _ (by rfl) ?_)
  try dsimp only
  refine op_seq c (part_44 m ρ K Z c _ _ _ _ ?_)
  try dsimp only
  refine op_seq c (part_45 m ρ K Z c _ _ _ _ _ _ _ _ _ ?_)
  try dsimp only
  refine op_seq c (part_46 m ρ K Z c _ _ (by rfl) ?_)
  try dsimp only
  refine op_seq c (part_47 m ρ K Z c _ _ _ _ _ _ ?_)
  try dsimp only
  refine op_seq c (part_48 m ρ K Z c _ _ _ _ _ _ _ _ ?_)
  try dsimp only
  refine op_seq c (part_49 m ρ K Z c _ _ _ (by rfl) ?_)
  try dsimp only
  refine op_seq c (part_50 m ρ K Z c _ _ _ _ ?_)
  try dsimp only
  refine op_seq c (part_51 m ρ K Z c _ _ _ _ _ _ ?_)
  try dsimp only
  refine op_seq c (part_52 m ρ K Z c _ _ _ (by rfl) ?_)
  try dsimp only
  refine op_seq c (part_53 m ρ K Z c _ _ _ _ ?_)
  try dsimp only
  refine op_seq c (part_54 m ρ K Z c _ _ _ _ _ _ _ _ _ _ ?_)
  try dsimp only
  refine op_seq c (part_55 m ρ K Z c _ _ _ _ (by rfl) ?_)
  try dsimp only
  refine op_seq c (part_56 m ρ K Z c _ _ _ _ _ _ _ _ _ ?_)
  try dsimp only
  refine op_seq c (part_57 m ρ K Z c _ _ (by rfl) ?_)
  try dsimp only
  refine op_seq c (part_58 m ρ K Z c _ _ _ _ _ _ _ ?_)
  try dsimp only
  refine op_seq c (part_59 m ρ K Z c _ _ (by rfl) (by rfl) ?_)
  try dsimp only
  refine op_seq c (part_60 m ρ K Z c ?_)
  try dsimp only
  exact op_ret c hk

end Cert.RingMoe
end
-- ==== Proof.Finish.lean ====
/-
The end of the kernel: the last waits, the closing handshake, and what is then left: the buffers whole again and every semaphore at zero.
-/
module

public import proofs.«01_k».proof.Proof.Entry
public import proofs.«01_k».proof.Proof.RunParts

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The buffers whole again -/

section Join
variable (c : Dev nD)

/-- The two halves of all sixteen chunks of activations make the whole buffer. -/
theorem x_join : iprop((bigSep (Finset.range 16) fun p => xP c (back c p) qL (XALL m ρ)) ∗ bigSep (Finset.range 16) fun p => xP c (back c p) qR (XALL m ρ))
    ⊢ (((c : Thread nD τ).loc cc0_scratch0) ↦{fullShare} XALL m ρ : sProp 𝕄) := by
  rw [x_cut c c, ← bigSep_sep']
  exact bigSep_mono fun p _ => xP_whole c (back c p) _

/-- The two halves of all sixteen chunks of routes make the whole buffer. -/
theorem r_join : iprop((bigSep (Finset.range 16) fun p => rP c (back c p) qL (RALL m ρ)) ∗ bigSep (Finset.range 16) fun p => rP c (back c p) qR (RALL m ρ))
    ⊢ (((c : Thread nD τ).loc cc0_scratch1) ↦{fullShare} RALL m ρ : sProp 𝕄) := by
  rw [r_cut c c, ← bigSep_sep']
  exact bigSep_mono fun p _ => rP_whole c (back c p) _

/-- The fifteen landed slots make the whole buffer. -/
theorem v_join : bigSep (Finset.range 16) (vGot m ρ c) ⊢ (((c : Thread nD τ).loc cc0_scratch5) ↦{fullShare} VBUF m ρ c : sProp 𝕄) := by
  rw [v_cut, bigSep_range_bot]
  iintro ⟨-, H⟩
  iexact H

/-- The two send buffers make the whole buffer. -/
theorem slots_join : Sl m ρ c 15 15 false ⊢ iprop(∃ f : Buf (Elt F) ((c : Thread nD τ).loc cc0_scratch4), ((c : Thread nD τ).loc cc0_scratch4) ↦{fullShare} f) := by
  rw [Sl_false, bigSep_Ico_succ_bot (by decide), bigSep_Ico_succ_bot (by decide)]
  iintro ⟨H1, H0, -⟩
  iapply (s_join (F := F) c)
  isplitl [H0]; · iexact H0
  iexact H1

end Join

/-! ## Closing the cells -/

/-- The standing records may be used for every member of a family. -/
theorem with_rec {I : Type} [DecidableEq I] {S : Finset I} (K : Dev nD × Fin 92 → ℕ) {Φ Ψ : I → sProp 𝕄}
    (h : ∀ i ∈ S, iprop(Rec m ρ K ∗ Φ i) ⊢ Ψ i) : iprop(Rec m ρ K ∗ bigSep S Φ) ⊢ bigSep S Ψ :=
  (sep_mono_left (BI.bigSep_of_persistent S (Rec m ρ K))).trans (by rw [← bigSep_sep']; exact bigSep_mono h)

/-- Every cell of the device is past its one round. -/
def atEnd (c : Dev nD) : sProp 𝕄 := bigSep Finset.univ fun k : Fin 92 => atPos ER (kcell (c, k)) (0 + 1) ∅ 0
/-- Every semaphore of the device is at zero. -/
def zeros (c : Dev nD) : sProp 𝕄 := bigSep Finset.univ fun k : Fin 92 => semVal (kcell (c, k)) 0

/-- A cell whose one round is over is closed, its counter at nought. -/
theorem close_one (K : Dev nD × Fin 92 → ℕ) (c : Dev nD) (k : Fin 92) :
    iprop(Rec m ρ K ∗ atPos ER (kcell (c, k)) (0 + 1) ∅ 0) ⊢ (iprop(|={Set.univ}=> semVal (kcell (c, k)) 0) : sProp 𝕄) := by
  iintro ⟨HR, Hat⟩
  iapply (Rounds.cell_close ER (rd m ρ) (Set.mem_univ (K (c, k))) (fun h => h) (R := 0 + 1) (duties_later m ρ (kcell (c, k))))
  isplitl [HR]; · iapply (rec_inv m ρ K (c, k)); iexact HR
  iexact Hat

/-- All cells of a device are closed, their counters at nought. -/
theorem close_all (K : Dev nD × Fin 92 → ℕ) (c : Dev nD) : iprop(Rec m ρ K ∗ atEnd c) ⊢ (iprop(|={Set.univ}=> zeros c) : sProp 𝕄) :=
  (with_rec m ρ K fun k _ => close_one m ρ K c k).trans (bigSep_fupd _ _)

/-! ## The end of the run -/

/-- What a device holds at the end. -/
def Post (c : Dev nD) : sProp 𝕄 :=
  iprop(scratch c ∗ zeros c ∗ (∃ W, owes (c : Thread nD τ) (0 : CellTallies nD τ sig Unit) W)
    ∗ ((c : Thread nD τ).loc cc0_stg0_0 ↦{fullShare} xstg m ρ c) ∗ ((c : Thread nD τ).loc cc0_stg1_0 ↦{fullShare} rstg m ρ c) ∗ Ws m ρ c
    ∗ ((c : Thread nD τ).loc cc0_stg3_0 ↦{fullShare} outAt m ρ c))

/-- What is left of the state once the closing handshake is through. -/
def Left (K : Dev nD × Fin 92 → ℕ) (c : Dev nD) : sProp 𝕄 :=
  iprop(Rec m ρ K ∗ (∃ W, owes (c : Thread nD τ) (0 : CellTallies nD τ sig Unit) W) ∗ X m ρ c 15 15 15 ∗ A m ρ c 15 15 15 ∗ V m ρ c 15 15 15
    ∗ Sl m ρ c 15 15 false ∗ Bs m ρ c 16 ∗ Cs m ρ c true ∗ Os m ρ c true ∗ Ws m ρ c
    ∗ ((c : Thread nD τ).loc cc0_stg0_0 ↦{fullShare} xstg m ρ c) ∗ ((c : Thread nD τ).loc cc0_stg1_0 ↦{fullShare} rstg m ρ c)
    ∗ atPos ER (barCell c) (0 + 1) ∅ 0 ∗ atPos ER (finCell c) (0 + 1) ∅ 0)

/-- The buffers are whole again, the cells close, and the result holds. -/
theorem left_post (K : Dev nD × Fin 92 → ℕ) (c : Dev nD) : Left m ρ K c ⊢ (iprop(|={Set.univ}=> Post m ρ c) : sProp 𝕄) := by
  unfold Left X A V Post
  iintro ⟨#HR, HO, HX, HA, HV, HS, HB, HC, HT, HW, Hx, Hr, HaB, HaF⟩
  ihave HX := (ch_end 4 19 NX c _ _ _) $$ HX
  icases HX with ⟨HXr, HXs, HXl, HXt⟩
  ihave HA := (ch_end 34 49 NA c _ _ _) $$ HA
  icases HA with ⟨HAr, HAs, HAl, HAt⟩
  ihave HV := (ch_end 64 79 NS c _ _ _) $$ HV
  icases HV with ⟨HVr, HVs, HVl, -⟩
  ihave H0 := (x_join m ρ c) $$ [HXl HXt]
  · isplitl [HXl]; · iexact HXl
    iexact HXt
  ihave H1 := (r_join m ρ c) $$ [HAl HAt]
  · isplitl [HAl]; · iexact HAl
    iexact HAt
  ihave H5 := (v_join m ρ c) $$ HVl
  ihave H4 := (slots_join m ρ c) $$ HS
  ihave H2 := (opens_Bs m ρ c 16) $$ HB
  icases H2 with ⟨%f2, -, H2⟩
  ihave H3 := (opens_Cs m ρ c true) $$ HC
  icases H3 with ⟨%f3, -, H3⟩
  ihave HT := (opens_Os m ρ c true) $$ HT
  icases HT with ⟨%fo, %hfo, HT⟩
  have ho := hfo rfl
  subst ho
  imod (close_all m ρ K c) $$ [HaB HaF HXs HXr HAs HAr HVs HVr] with Hz
  · isplitr; · iexact HR
    unfold atEnd
    iapply (Entails.of_eq (cells_eq (fun sm => (atPos ER ((c : Thread nD τ), sm) (0 + 1) ∅ 0 : sProp 𝕄))).symm)
    isplitl [HaB]; · iexact HaB
    isplitl [HaF]; · iexact HaF
    isplitl [HXs]; · iexact HXs
    isplitl [HXr]; · iexact HXr
    isplitl [HAs]; · iexact HAs
    isplitl [HAr]; · iexact HAr
    isplitl [HVs]; · iexact HVs
    iexact HVr
  imodintro
  isplitl [H0 H1 H2 H3 H4 H5]
  · unfold scratch
    isplitl [H0]; · iexists _; iexact H0
    isplitl [H1]; · iexists _; iexact H1
    isplitl [H2]; · iexists _; iexact H2
    isplitl [H3]; · iexists _; iexact H3
    isplitl [H4]; · iexact H4
    iexists _; iexact H5
  isplitl [Hz]; · iexact Hz
  isplitl [HO]; · iexact HO
  isplitl [Hx]; · iexact Hx
  isplitl [Hr]; · iexact Hr
  isplitl [HW]; · iexact HW
  iexact HT

/-- The first signal of the closing handshake goes to the device before. -/
theorem dev48_eq (c : Dev nD) : (⟨k0_dev48 c, k0_dev48_lt c⟩ : Dev nD) = prv c := Fin.ext (k0_dev48_eq c)
/-- The second signal of the closing handshake goes to the next device. -/
theorem dev49_eq (c : Dev nD) : (⟨k0_dev49 c, k0_dev49_lt c⟩ : Dev nD) = nxt c := Fin.ext (k0_dev49_eq c)

/-- The closing handshake. -/
theorem closing (K : Dev nD × Fin 92 → ℕ) (c : Dev nD) {Q : PUnit → sProp 𝕄} (hk : Post m ρ c ⊢ Q ⟨⟩) :
    St m ρ K (Aside m ρ c) c 15 15 15 15 15 15 15 15 15 false 16 true true ⊢ WP c (do
      semSignalWord (⟨k0_dev48 c, k0_dev48_lt c⟩ : Dev nD) cc0_scoped0.sem 1#32
      semSignalWord (⟨k0_dev49 c, k0_dev49_lt c⟩ : Dev nD) cc0_scoped0.sem 1#32
      semWaitWord cc0_scoped0.sem 2#32
      pure ⟨⟩) Q := by
  simp only [semSignalWord, semWaitWord, Prog.lift, Prog.bind_op, Prog.bind_ret, Prog.pure_eq_ret]
  simp only [dev48_eq c, dev49_eq c]
  unfold St Owe Aside
  iintro ⟨#HR, ⟨%W, HO⟩, HX, HA, HV, HS, HB, HC, HT, HW, Hx, Hr, HaB, HaF, HtP, HtN, HcF⟩
  ihave HO := (show iprop(owes (c : Thread nD τ) (O c 15 15 15) W) ⊢ (owes (c : Thread nD τ) (owingFin c) W : sProp 𝕄) from Entails.of_eq (by rw [O_end])) $$ HO
  unfold owingFin
  iapply (Rounds.wp_signal 𝒱₀ ER (rd m ρ) (c : Thread nD τ) none (dst := (prv c : Thread nD τ)) (κ := K (prv c, 1))
      (d := true) (by rw [duties_fin]; exact Finset.mem_univ _) ((amount_fin m ρ (prv c) true).trans (by decide)) () (tallyAt (finCell (nxt c)) () 1) rfl)
    $$ [HO HtP]
  · isplitr; · iapply (inv_fin m ρ K (prv c)); iexact HR
    isplitl [HO]; · iexact HO
    isplitl [HtP]; · iexact HtP
    isplitr
    · iapply (Entails.of_eq (payload_fin m ρ (prv c) true).symm); iempintro
    iapply (reached_fin m ρ K (prv c)); iexact HR
  iintro HO
  iapply (Rounds.wp_signal 𝒱₀ ER (rd m ρ) (c : Thread nD τ) none (dst := (nxt c : Thread nD τ)) (κ := K (nxt c, 1))
      (d := false) (by rw [duties_fin]; exact Finset.mem_univ _) ((amount_fin m ρ (nxt c) false).trans (by decide)) () 0 (zero_add _).symm)
    $$ [HO HtN]
  · isplitr; · iapply (inv_fin m ρ K (nxt c)); iexact HR
    isplitl [HO]; · iexact HO
    isplitl [HtN]; · iexact HtN
    isplitr
    · iapply (Entails.of_eq (payload_fin m ρ (nxt c) false).symm); iempintro
    iapply (reached_fin m ρ K (nxt c)); iexact HR
  iintro HO
  iapply (Rounds.wp_wait_rest_token 𝒱₀ ER (rd m ρ) (c : Thread nD τ) none (κ := K (c, 1))
      (wpE_semWait_eq 𝒱₀ (c : Thread nD τ) none Set.univ) (Set.mem_univ _) () (O := 0) (W := W) (R := 0) (m := 0) (T := ∅)
      (by rw [expect_fin]; decide)) $$ [HcF HO HaF]
  · isplitr; · iapply (inv_fin m ρ K c); iexact HR
    isplitl [HcF]; · iexact HcF
    isplitl [HO]; · iexact HO
    isplitr
    · rw [MayWait_zero]; iempintro
    iexact HaF
  iintro ⟨HO, HaF, -, -⟩
  rw [wp_ret]
  imod (left_post m ρ K c) $$ [HO HX HA HV HS HB HC HT HW Hx Hr HaB HaF] with HP
  · unfold Left
    isplitr; · iexact HR
    isplitl [HO]; · iexists _; iexact HO
    isplitl [HX]; · iexact HX
    isplitl [HA]; · iexact HA
    isplitl [HV]; · iexact HV
    isplitl [HS]; · iexact HS
    isplitl [HB]; · iexact HB
    isplitl [HC]; · iexact HC
    isplitl [HT]; · iexact HT
    isplitl [HW]; · iexact HW
    isplitl [Hx]; · iexact Hx
    isplitl [Hr]; · iexact Hr
    isplitl [HaB]; · iexact HaB
    iexact HaF
  imodintro
  iapply hk
  iexact HP

/-- The whole body of a device: from what it is given to what it leaves. -/
theorem body_run (K : Dev nD × Fin 92 → ℕ) (c : Dev nD) (W : Waits sig Unit) :
    Pre m ρ K c W ⊢ WP c (cc0_body (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0) (fun _ => Post m ρ c) := by
  rw [cc0_body_eq_skeleton]
  unfold cc0_body_skel
  rw [k0_part65_eq_skeleton]
  unfold k0_part65_skel
  refine op_seq c (op_seq c ?_)
  rw [k0_part1_eq_skeleton]
  refine part_1 m ρ K c W fun v5 v7 => ?_
  try dsimp only
  refine run_parts m ρ K (Aside m ρ c) c v5 v7 ?_
  try dsimp only
  refine op_seq c ?_
  rw [k0_part61_eq_skeleton]
  refine part_61 m ρ K _ c ?_
  try dsimp only
  refine op_seq c ?_
  rw [k0_part62_eq_skeleton]
  refine part_62 m ρ K _ c ?_
  try dsimp only
  refine op_seq c ?_
  rw [k0_part63_eq_skeleton]
  refine part_63 m ρ K _ c ?_
  try dsimp only
  refine op_seq c ?_
  rw [k0_part64_eq_skeleton]
  refine part_64 m ρ K _ c ?_
  try dsimp only
  simp only [Prog.lift, Prog.bind_op, Prog.bind_ret]
  refine op_swait m ρ K _ c (by decide) (by decide) (by decide) (by decide) (by decide) (by decide) (by rfl) (by rfl) ?_
  exact closing m ρ K c (Q := fun _ => Post m ρ c) (Entails.refl _)

end Cert.RingMoe
end
-- ==== Proof.Launch.lean ====
/-
The run of the kernel on the ring of sixteen devices: the pipeline's data, the body's obligation, the set-up of the launch, and the theorem about the whole run.
-/
module

public import proofs.«01_k».proof.Proof.Finish
public import proofs.«01_k».proof.Proof.Gen.KernelIdeal.Launch
public import proofs.«01_k».proof.Proof.Gen.KernelIdeal.Points
public import Idealize.ShloMosaic.Lib.Pipeline.CollectiveSegs

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The pipeline has one step. -/
theorem cfg0_N : cfg0.N = 1 := by decide
/-- The one point of the grid. -/
def t₀ : Fin cfg0.N := ⟨0, by rw [cfg0_N]; decide⟩
/-- Its one step is the only one. -/
theorem fin_N (t : Fin cfg0.N) : t = t₀ := by
  obtain ⟨t, ht⟩ := t; have := cfg0_N; exact Fin.ext (by simp only [t₀]; omega)

/-- Every cell's invariant under the names `K`, and that every cell is at its round 0. -/
def records (K : Dev nD × Fin 92 → ℕ) : sProp 𝕄 :=
  iprop((bigSep Finset.univ fun ck : Dev nD × Fin 92 => cellInv ER (rd m ρ) (K ck) (kcell ck))
    ∗ bigSep Finset.univ fun ck : Dev nD × Fin 92 => reached ER (kcell ck) 0)
/-- The records may be used again and again. -/
instance records_persistent (K : Dev nD × Fin 92 → ℕ) : BI.Persistent (records m ρ K) := by unfold records; infer_instance

/-- What the launch hands device `c`: the records at some names, its positions, the tokens of the duties it pays. -/
def G' (c : Dev nD) : sProp 𝕄 := iprop(∃ K, records m ρ K ∗ atAll c ∗ payToks c)
/-- What the device's body starts from, but for its buffers. -/
def start (c : Dev nD) : sProp 𝕄 := iprop(G' m ρ c ∗ credsAll c ∗ levAts L lv)
/-- Before the body. -/
def Φ₀ (c : Dev nD) : sProp 𝕄 := iprop(start m ρ c ∗ scratch c)
/-- After it: its buffers, and its semaphores at zero. -/
def Φ₁ (c : Dev nD) : sProp 𝕄 := iprop(scratch (F := F) c ∗ zeros c)

/-- What the pipeline's windows hold before and after the body, and what the body owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A separated family over the four windows, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer held whole is its points-to. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer held with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What the body ends with. -/
def bodyPost (c : Dev nD) : sProp 𝕄 :=
  iprop(Φ₁ c ∗ (dats m ρ 0 c).owesAt () t₀.succ ∗ stg c cc0_stg0_0 (xstg m ρ c) ∗ stg c cc0_stg1_0 (rstg m ρ c)
    ∗ stg c cc0_stg2_0 (wstg m ρ c) ∗ stg c cc0_stg3_0 (outAt m ρ c))

/-- The state at the body's end is what the pipeline asks for. -/
theorem post_intro (c : Dev nD) : Post m ρ c ⊢ bodyPost m ρ c := by
  unfold Post bodyPost Φ₁ Dat.owesAt Pipeline.owesWithin Ws
  iintro ⟨Hs, Hz, ⟨%W, HO⟩, Hx, Hr, Hw, Ho⟩
  isplitl [Hs Hz]
  · isplitl [Hs]; · iexact Hs
    iexact Hz
  isplitl [HO]
  · iexists W
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Ho

/-- The body, from its start, reaches its end. -/
theorem body_sound (c : Dev nD) : bodyPre m ρ c ⊢ WP c (cc0_body (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0) (fun _ => bodyPost m ρ c) := by
  unfold bodyPre Φ₀ start G' records Dat.owesAt Pipeline.owesWithin
  iintro ⟨⟨⟨⟨%K, ⟨#HI, #HR⟩, Hat, Htk⟩, Hcr, #Hlev⟩, Hscr⟩, ⟨%W, %hW, HO⟩, ⟨%d0, %g0, %hg0, Hx⟩, ⟨%d1, %g1, %hg1, Hr⟩, ⟨%d2, %g2, %hg2, Hw⟩, ⟨%d3, %g3, %hg3, Ho⟩⟩
  have hx : g0 = xstg m ρ c := by rw [hg0]; unfold Dat.before; rw [if_pos (fetch0_0 t₀)]; rfl
  have hr : g1 = rstg m ρ c := by rw [hg1]; unfold Dat.before; rw [if_pos (fetch0_1 t₀)]; rfl
  have hw : g2 = wstg m ρ c := by rw [hg2]; unfold Dat.before; rw [if_pos (fetch0_2 t₀)]; rfl
  subst hx; subst hr; subst hw
  iapply ((body_run m ρ K c W).trans (wp_mono _ _ _ fun _ => post_intro m ρ c))
  unfold Pre Rec
  isplitr
  · isplitr; · iexact HI
    isplitr; · iexact HR
    iexact Hlev
  isplitl [Hat]; · iexact Hat
  isplitl [Htk]; · iexact Htk
  isplitl [Hcr]; · iexact Hcr
  isplitl [HO]; · iexact HO
  isplitl [Hscr]; · iexact Hscr
  isplitl [Hx]; · iexact Hx
  isplitl [Hr]; · iexact Hr
  isplitl [Hw]; · unfold Ws; iexact Hw
  iexists _; iexact Ho

/-- The body does what the pipeline asks of it at its one step. -/
theorem body_obligation (c : Dev nD) : BodyObligation (dats (F := F) m ρ 0 c) (defs₀ (F := F)) 𝒱₀ () Set.univ := fun t => by
  rw [fin_N t]
  rw [bigSep_W, bigSep_W]
  simp only [owns_staged]
  show bodyPre m ρ c ⊢ wp frame (wpE (defs₀ (F := F)) 𝒱₀ c none) Set.univ (cc0_body (F := F) xM (Memref.isWhole_whole _) rM (Memref.isWhole_whole _) wM (Memref.isWhole_whole _) oM (Memref.isWhole_whole _) xaM (Memref.isWhole_whole _) raM (Memref.isWhole_whole _) bM (Memref.isWhole_whole _) cM (Memref.isWhole_whole _) sM (Memref.isWhole_whole _) vM (Memref.isWhole_whole _) cc0_scratch6 cc0_scratch7 cc0_scratch8 cc0_scratch9 cc0_scratch10 cc0_scratch11 cc0_scoped0) (fun _ => bodyPost m ρ c)
  exact body_sound m ρ c

/-! ## The set-up of the launch -/

/-- Every window is held with the full share. -/
theorem share_eq (c : Dev nD) (w : Fin cfg0.W) : (dats m ρ 0 c).share w = fullShare := by unfold Dat.share; split <;> rfl

/-- Different numbers name different semaphores of a device. -/
theorem csem_injective : ∀ k k' : Fin 92, csem k = csem k' → k = k' := by decide +kernel
/-- Different devices or numbers name different cells. -/
theorem kcell_injective : Function.Injective (kcell : Dev nD × Fin 92 → GSem nD τ sig) := by
  rintro ⟨c, k⟩ ⟨c', k'⟩ h
  have h1 : c = c' := congrArg (fun g : GSem nD τ sig => g.1.1) h
  subst h1
  have h2 : k = k' := csem_injective k k' (congrArg Prod.snd h)
  subst h2; rfl
/-- All the cells of all the devices. -/
def ringCells : Finset (GSem nD τ sig) := Finset.univ.map ⟨kcell, kcell_injective⟩

/-- The tokens minted: two for every cell. -/
abbrev tokOf (x : (Dev nD × Fin 92) × Bool) : GSem nD τ sig × ℕ × Bool := (kcell x.1, 0, x.2)
/-- Different cells or senders have different tokens. -/
theorem tokOf_injective : Function.Injective (tokOf : (Dev nD × Fin 92) × Bool → GSem nD τ sig × ℕ × Bool) := by
  rintro ⟨a, b⟩ ⟨a', b'⟩ h
  have h1 : a = a' := kcell_injective (congrArg Prod.fst h)
  have h2 : b = b' := congrArg (fun x : GSem nD τ sig × ℕ × Bool => x.2.2) h
  subst h1; subst h2; rfl
/-- The tokens of the ring's duties. -/
def ringToks : Finset (GSem nD τ sig × ℕ × Bool) := Finset.univ.map ⟨tokOf, tokOf_injective⟩

/-- The ghost state that the launch starts from. -/
def u₀ : UU := (initOf (Pipeline.cells cfgs cellOf_inj) (Pipeline.launchToks cfgs cellOf_inj), initOf ringCells ringToks)

/-- The tokens of device `c`'s own cells. -/
def toks (c : Dev nD) : sProp 𝕄 :=
  bigSep Finset.univ fun k : Fin 92 => iprop(dutyTok ER (kcell (c, k)) 0 false ∗ dutyTok ER (kcell (c, k)) 0 true)

/-- What the launch element deals device `c`. -/
def G (c : Dev nD) : sProp 𝕄 :=
  iprop((bigSep Finset.univ fun k : Fin 92 => roundState ER (rd m ρ) (kcell (c, k)) 0)
    ∗ (bigSep Finset.univ fun k : Fin 92 => iprop(atPos ER (kcell (c, k)) 0 ∅ 0 ∗ reached ER (kcell (c, k)) 0)) ∗ toks c)

/-- A separated family over the two truth values, written out. -/
theorem bigSep_bool (Φ : Bool → sProp 𝕄) : bigSep Finset.univ Φ = iprop(Φ false ∗ Φ true) := bigSep_univ_eq_bigSepL [false, true] (by decide) (by decide) Φ

/-- The ring's ghost state, dealt to the devices. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 92 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    exact bigSep_congr fun c _ => by unfold toks; exact bigSep_congr fun k _ => bigSep_bool _
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The first of a device's cells and the rest. -/
theorem bigSep_first (Φ : Fin 92 → sProp 𝕄) : bigSep Finset.univ Φ = iprop(Φ 0 ∗ bigSep Finset.univ fun k : Fin 91 => Φ k.succ) := by
  rw [Fin.univ_succ, Finset.cons_eq_insert, bigSep_insert (by
    rw [Finset.mem_map]; rintro ⟨k, -, hk⟩; exact absurd hk (Fin.succ_ne_zero k)), bigSep_map]
  rfl

/-- The barrier's semaphore is the only one that the kernel does not allocate. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All counters at nought: the barrier's and the kernel's own. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros
  rw [bigSep_first, unscopedSems0_eq]
  rfl

/-- A device's counters at nought become its cells, each with its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : Fin 92 => semVal (kcell (c, k)) 0) ∗ bigSep Finset.univ fun k : Fin 92 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens go to the devices that pay them -/

/-- A family over the devices, each member handed to the device before. -/
theorem to_next (Φ : Dev nD → sProp 𝕄) : bigSep Finset.univ Φ ⊢ bigSep Finset.univ fun c => Φ (nxt c) := Entails.of_eq (bigSep_univ_equiv ring Φ)
/-- A family over the devices, each member handed to the next device. -/
theorem to_prev (Φ : Dev nD → sProp 𝕄) : bigSep Finset.univ Φ ⊢ bigSep Finset.univ fun c => Φ (prv c) := Entails.of_eq (bigSep_univ_equiv ring.symm Φ)

/-- A device's fifteen tokens of the semaphores from `q` on. -/
def tk (q : ℕ) (c : Dev nD) : sProp 𝕄 := bigSep (Finset.range 15) fun h => dutyTok ER (dcell c (q + h)) 0 false

/-- A device's tokens, named one by one. -/
theorem toks_named (c : Dev nD) : (toks c : sProp 𝕄) ⊢ iprop(dutyTok ER (barCell c) 0 false ∗ dutyTok ER (barCell c) 0 true ∗ dutyTok ER (finCell c) 0 false
    ∗ dutyTok ER (finCell c) 0 true ∗ tk 4 c ∗ tk 19 c ∗ tk 34 c ∗ tk 49 c ∗ tk 64 c ∗ tk 79 c) := by
  unfold toks tk
  rw [bigSep_sep', cells_eq (fun sm => (dutyTok ER ((c : Thread nD τ), sm) 0 false : sProp 𝕄)),
    cells_eq (fun sm => (dutyTok ER ((c : Thread nD τ), sm) 0 true : sProp 𝕄))]
  iintro ⟨⟨H1, H2, H3, H4, H5, H6, H7, H8⟩, T1, T2, -⟩
  isplitl [H1]; · iexact H1
  isplitl [T1]; · iexact T1
  isplitl [H2]; · iexact H2
  isplitl [T2]; · iexact T2
  isplitl [H3]; · iexact H3
  isplitl [H4]; · iexact H4
  isplitl [H5]; · iexact H5
  isplitl [H6]; · iexact H6
  isplitl [H7]; · iexact H7
  iexact H8

/-- The tokens that a device pays with, gathered. -/
theorem toks_paid (c : Dev nD) : iprop(dutyTok ER (barCell (nxt c)) 0 false ∗ dutyTok ER (barCell (prv c)) 0 true ∗ dutyTok ER (finCell (nxt c)) 0 false
    ∗ dutyTok ER (finCell (prv c)) 0 true ∗ tk 4 c ∗ tk 19 (nxt c) ∗ tk 34 c ∗ tk 49 (nxt c) ∗ tk 64 c ∗ tk 79 (nxt c)) ⊢ (payToks c : sProp 𝕄) := by
  unfold payToks tk
  rw [bigSep_sep', bigSep_sep', bigSep_sep']
  iintro ⟨H1, H2, H3, H4, A1, A2, A3, A4, A5, A6⟩
  isplitl [H2]; · iexact H2
  isplitl [H1]; · iexact H1
  isplitl [H4]; · iexact H4
  isplitl [H3]; · iexact H3
  isplitl [A1 A2]; · isplitl [A1] <;> iassumption
  isplitl [A3 A4]; · isplitl [A3] <;> iassumption
  isplitl [A5] <;> iassumption

/-- The families of tokens, each handed round to the device that pays with it. -/
theorem families_around : iprop((bigSep Finset.univ fun c : Dev nD => dutyTok ER (barCell c) 0 false) ∗ (bigSep Finset.univ fun c : Dev nD => dutyTok ER (barCell c) 0 true) ∗ (bigSep Finset.univ fun c : Dev nD => dutyTok ER (finCell c) 0 false) ∗ (bigSep Finset.univ fun c : Dev nD => dutyTok ER (finCell c) 0 true) ∗ (bigSep Finset.univ fun c : Dev nD => tk 4 c) ∗ (bigSep Finset.univ fun c : Dev nD => tk 19 c) ∗ (bigSep Finset.univ fun c : Dev nD => tk 34 c) ∗ (bigSep Finset.univ fun c : Dev nD => tk 49 c) ∗ (bigSep Finset.univ fun c : Dev nD => tk 64 c) ∗ (bigSep Finset.univ fun c : Dev nD => tk 79 c))
    ⊢ (iprop((bigSep Finset.univ fun c : Dev nD => dutyTok ER (barCell (nxt c)) 0 false) ∗ (bigSep Finset.univ fun c : Dev nD => dutyTok ER (barCell (prv c)) 0 true) ∗ (bigSep Finset.univ fun c : Dev nD => dutyTok ER (finCell (nxt c)) 0 false) ∗ (bigSep Finset.univ fun c : Dev nD => dutyTok ER (finCell (prv c)) 0 true) ∗ (bigSep Finset.univ fun c : Dev nD => tk 4 c) ∗ (bigSep Finset.univ fun c : Dev nD => tk 19 (nxt c)) ∗ (bigSep Finset.univ fun c : Dev nD => tk 34 c) ∗ (bigSep Finset.univ fun c : Dev nD => tk 49 (nxt c)) ∗ (bigSep Finset.univ fun c : Dev nD => tk 64 c) ∗ (bigSep Finset.univ fun c : Dev nD => tk 79 (nxt c))) : sProp 𝕄) := by
  iintro ⟨H1, H2, H3, H4, A1, A2, A3, A4, A5, A6⟩
  isplitl [H1]; · iapply (to_next (F := F) fun c => dutyTok ER (barCell c) 0 false); iexact H1
  isplitl [H2]; · iapply (to_prev (F := F) fun c => dutyTok ER (barCell c) 0 true); iexact H2
  isplitl [H3]; · iapply (to_next (F := F) fun c => dutyTok ER (finCell c) 0 false); iexact H3
  isplitl [H4]; · iapply (to_prev (F := F) fun c => dutyTok ER (finCell c) 0 true); iexact H4
  isplitl [A1]; · iexact A1
  isplitl [A2]; · iapply (to_next (F := F) (tk 19)); iexact A2
  isplitl [A3]; · iexact A3
  isplitl [A4]; · iapply (to_next (F := F) (tk 49)); iexact A4
  isplitl [A5]; · iexact A5
  iapply (to_next (F := F) (tk 79)); iexact A6

/-- Every device's tokens, handed round to the devices that pay with them. -/
theorem toks_around : (bigSep Finset.univ fun c : Dev nD => (toks c : sProp 𝕄)) ⊢ bigSep Finset.univ fun c : Dev nD => payToks c := by
  have h1 := bigSep_mono (s := Finset.univ) fun c _ => toks_named (F := F) c
  have h2 := bigSep_mono (s := Finset.univ) fun c _ => toks_paid (F := F) c
  simp only [bigSep_sep'] at h1 h2
  exact h1.trans (families_around.trans h2)

/-- One device's share of the launch. -/
def linear (c : Dev nD) : sProp 𝕄 := iprop(atAll c ∗ payToks c)
/-- The records and a device's own part make its ghost state. -/
theorem ghost_intro (K : Dev nD × Fin 92 → ℕ) (c : Dev nD) : iprop(records m ρ K ∗ linear c) ⊢ G' m ρ c := by
  unfold linear G'
  iintro ⟨HR, HL⟩
  iexists K
  isplitl [HR] <;> iassumption

/-- The records may be used for every member of a family. -/
theorem with_records {I : Type} [DecidableEq I] {S : Finset I} (K : Dev nD × Fin 92 → ℕ) {Φ Ψ : I → sProp 𝕄}
    (h : ∀ i ∈ S, iprop(records m ρ K ∗ Φ i) ⊢ Ψ i) : iprop(records m ρ K ∗ bigSep S Φ) ⊢ bigSep S Ψ :=
  (sep_mono_left (BI.bigSep_of_persistent S (records m ρ K))).trans (by rw [← bigSep_sep']; exact bigSep_mono h)

/-- The devices' allocated cells, regrouped into the common records and each device's part. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 92 => iprop(∃ κ : ℕ, cellInv ER (rd m ρ) κ (kcell ck))),
    bigSep_congr (s := Finset.univ) (fun (c : Dev nD) _ => bigSep_sep' Finset.univ (fun k : Fin 92 => (atPos ER (kcell (c, k)) 0 ∅ 0 : sProp 𝕄)) (fun k => reached ER (kcell (c, k)) 0)),
    bigSep_sep', ← bigSep_univ_prod (fun ck : Dev nD × Fin 92 => (reached ER (kcell ck) 0 : sProp 𝕄))]
  iintro ⟨HI, ⟨Hat, #HR⟩, Htok⟩
  ihave HK := (BI.bigSep_exists_pi Finset.univ (fun (ck : Dev nD × Fin 92) (κ : ℕ) => (cellInv ER (rd m ρ) κ (kcell ck) : sProp 𝕄))) $$ HI
  icases HK with ⟨%K, #HI⟩
  ihave Htk := (toks_around (F := F)) $$ Htok
  iapply (with_records m ρ K fun c _ => ghost_intro m ρ K c)
  isplitr
  · unfold records; isplitl; · iexact HI
    iexact HR
  · iapply (Entails.of_eq (show iprop((bigSep Finset.univ fun c : Dev nD => (atAll c : sProp 𝕄)) ∗ bigSep Finset.univ payToks) = bigSep Finset.univ fun c : Dev nD => (linear c : sProp 𝕄) from
      (bigSep_sep' Finset.univ atAll payToks).symm))
    isplitl [Hat]; · iexact Hat
    iexact Htk

/-- All the semaphores of all the devices go into their invariants. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The launch's credit for signals to the next device arrives here from the device before. -/
theorem cred_next (sm : SemLoc sig) (n : ℕ) (c : Dev nD) :
    (Pipeline.launchCred (fun d => tallyAt ((nxt d : Thread nD τ), sm) () n) c : sProp 𝕄) ⊢ cred (tallyAt ((c : Thread nD τ), sm) () n) :=
  Pipeline.launchCred_tallyAt sm nxt prv nxt_prv prv_nxt () n c
/-- The launch's credit for signals to the device before arrives here from the next device. -/
theorem cred_prev (sm : SemLoc sig) (n : ℕ) (c : Dev nD) :
    (Pipeline.launchCred (fun d => tallyAt ((prv d : Thread nD τ), sm) () n) c : sProp 𝕄) ⊢ cred (tallyAt ((c : Thread nD τ), sm) () n) :=
  Pipeline.launchCred_tallyAt sm prv nxt prv_nxt nxt_prv () n c
/-- The launch's credit for a chain of copies to the next device. -/
theorem cred_owing (r N : ℕ) (c : Dev nD) :
    (Pipeline.launchCred (fun d => owing r N d 0) c : sProp 𝕄) ⊢ bigSep (Finset.range 15) fun h => cred (tallyAt (dcell c (r + h)) () N) := by
  rw [show (fun d => owing r N d 0) = fun d : Dev nD => ∑ h ∈ Finset.range 15, tallyAt (dcell (nxt d) (r + h)) () N from
    funext fun d => by unfold owing; rw [Finset.range_eq_Ico], Pipeline.launchCred_sum]
  exact bigSep_mono fun h _ => cred_next (.dma (dsem (r + h))) N c

/-- Two credits of one make a credit of two. -/
theorem two_units (g : GSem nD τ sig) : iprop(cred (tallyAt g () 1) ∗ cred (tallyAt g () 1)) ⊢ (cred (tallyAt g () 2) : sProp 𝕄) := by
  refine (cred_add _ _).2.trans (Entails.of_eq (congrArg cred ?_))
  rw [show (2 : ℕ) = 1 + 1 from rfl]; unfold tallyAt; rw [← tallyOn_add, ← Finsupp.single_add]

/-- All of a device's credit at the launch. -/
theorem creds (c : Dev nD) : (Pipeline.launchCred O₀ c : sProp 𝕄) ⊢ credsAll c := by
  rw [show (O₀ : Dev nD → CellTallies nD τ sig Unit) = fun d => ((owing 19 NX d 0 + (owing 49 NA d 0 + (owing 79 NS d 0 + (tallyAt (finCell (nxt d)) () 1 + tallyAt (finCell (prv d)) () 1))))
      + tallyAt (barCell (nxt d)) () 1) + tallyAt (barCell (prv d)) () 1 from rfl]
  rw [Pipeline.launchCred_add, Pipeline.launchCred_add, Pipeline.launchCred_add, Pipeline.launchCred_add, Pipeline.launchCred_add, Pipeline.launchCred_add]
  unfold credsAll
  iintro ⟨⟨⟨H1, H2, H3, H4, H5⟩, H6⟩, H7⟩
  ihave H4 := (cred_next (F := F) (.reg finS) 1 c) $$ H4
  ihave H5 := (cred_prev (F := F) (.reg finS) 1 c) $$ H5
  ihave H6 := (cred_next (F := F) (.reg barS) 1 c) $$ H6
  ihave H7 := (cred_prev (F := F) (.reg barS) 1 c) $$ H7
  isplitl [H6 H7]
  · iapply (two_units (F := F) (barCell c)); isplitl [H6] <;> iassumption
  isplitl [H4 H5]
  · iapply (two_units (F := F) (finCell c)); isplitl [H4] <;> iassumption
  isplitl [H1]; · iapply (cred_owing (F := F) 19 NX c); iexact H1
  isplitl [H2]; · iapply (cred_owing (F := F) 49 NA c); iexact H2
  iapply (cred_owing (F := F) 79 NS c); iexact H3

/-! ### The side conditions -/

/-- What the launch hands a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ Pipeline.unscopedRestP Pipeline.Prefetch.none cfg0.spec c (fun b => m ((c : Thread nD τ).loc b))) := by
  iintro ⟨HU, Hlev, Hcr, -, HG⟩
  ihave Hc := (creds (F := F) c) $$ Hcr
  imodintro
  unfold start
  isplitr [HU]
  · isplitl [HG]; · iexact HG
    isplitl [Hc]; · iexact Hc
    iexact Hlev
  · iexact HU

/-- That start, with the scoped buffers, is the body's invariant before its step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- The body's invariant after its step gives back the counters at nought and the scoped buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, Hu, Ho⟩
  isplitl [Hu]; · iexact Hu
  isplitl [Ho]; · iexact Ho
  iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds at the end. -/
def finalA (c : Dev nD) (w : Fin cfg0.W) : Buf (Elt F) ((cfg0.win w).arr.view.loc (c : Thread nD τ)) := (dats m ρ 0 c).arrAt w cfg0.N

/-- What every final state holds: the windows' arrays and the gate's weights. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- For any float values, from any memory with zero counters: every weakly fair execution of the sixteen devices' programs
    terminates without a fault, and every final state has each device's arrays at what `finalA` says, the gate's weights as
    they were, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c)
    (Z := fun c => Pipeline.unscopedRestP Pipeline.Prefetch.none cfg0.spec c (fun b => m ((c : Thread nD τ).loc b)))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold Pipeline.unscopedRestP
      iintro ⟨Hu, HZ, HSI⟩
      ihave HZ' := (pointsTo_read_all (Pipeline.restRefsP sig Pipeline.Prefetch.none cfg0.spec) (fun b => (c.tc : Thread nD τ).loc b) (fun b => m ((c : Thread nD τ).loc b)) s') $$ [HZ HSI]
      · isplitl [HZ] <;> iassumption
      icases HZ' with ⟨%hz, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hz main_arg1 (by decide)⟩
      iexact HSI)
    (hQ := fun _ h hs => ⟨fun c => ⟨fun w => (h c).1 w, (h c).2.2.2⟩, sem_eq_zero hs fun c => (h c).2.2.1⟩)

/-- The operands' arrays hold at the end what they held. -/
theorem finalA_x (c : Dev nD) : finalA m ρ c (0 : Fin 4) = (s₀ m ρ).mem ((c : Thread nD τ).loc main_arg0) := (dats (F := F) m ρ 0 c).arrAt_in (0 : Fin 4) rfl _
/-- The routes end as they began. -/
theorem finalA_r (c : Dev nD) : finalA m ρ c (1 : Fin 4) = (s₀ m ρ).mem ((c : Thread nD τ).loc main_arg2) := (dats (F := F) m ρ 0 c).arrAt_in (1 : Fin 4) rfl _
/-- The weights end as they began. -/
theorem finalA_w (c : Dev nD) : finalA m ρ c (2 : Fin 4) = (s₀ m ρ).mem ((c : Thread nD τ).loc main_arg3) := (dats (F := F) m ρ 0 c).arrAt_in (2 : Fin 4) rfl _

end Cert.RingMoe
end
-- ==== Proof.Frames.lean ====
/-
The frame of the kernel: every run of it, at either float instance, ends with the operands' arrays unchanged and every semaphore counter at zero.
-/
module

public import proofs.«01_k».proof.Proof.Launch
public import proofs.«01_k».proof.Defs
public import proofs.«01_k».proof.Proof.Gen.Kernel

@[expose] public section

set_option maxRecDepth 65536

noncomputable section

namespace Cert.RingMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

/-- The kernel at the ideal instance terminates without a fault, its operands unchanged and every counter back at zero. -/
theorem frame_KernelIdeal : Cert.quiescent_KernelIdeal := fun m ρ _ =>
  (θ_run Cert.KernelIdeal.defs _ _).mono (fun _ h => ⟨fun c => ⟨((h.1 c).1 (0 : Fin 4)).trans (finalA_x m ρ c), (h.1 c).2,
    ((h.1 c).1 (1 : Fin 4)).trans (finalA_r m ρ c), ((h.1 c).1 (2 : Fin 4)).trans (finalA_w m ρ c)⟩, h.2⟩) (run_main (F := Ideal) m ρ)

/-- The two printings of the kernel have one table of bodies: each label runs the same function. -/
theorem bodies_eq : (Cert.Kernel.defs₀ (F := Bits)) = (Cert.KernelIdeal.defs₀ (F := Bits)) := by
  unfold Cert.Kernel.defs₀ Cert.KernelIdeal.defs₀
  refine congrArg Defs.onTc ?_
  funext ℓ x
  match ℓ, x with
  | ⟨0, _⟩, (t, s) => rfl

/-- So the two programs' tables of labels agree. -/
theorem defs_eq : (Cert.Kernel.defs (F := Bits)) = (Cert.KernelIdeal.defs (F := Bits)) :=
  congrArg (Pipeline.defs (Cert.KernelIdeal.pcfgs (F := Bits))) bodies_eq

/-- What a run of the kernel at machine floats leaves behind. -/
theorem kept_Bits (m : (ℓ : Loc nD τ sig) → Buf (Elt Bits) ℓ) (ρ : Dev nD → PrngReg) :
    θ_run (Cert.KernelIdeal.defs (F := Bits)) (onTc (τ := τ) (Cert.KernelIdeal.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h => ⟨fun c => ⟨((h.1 c).1 (0 : Fin 4)).trans (finalA_x m ρ c), (h.1 c).2,
    ((h.1 c).1 (1 : Fin 4)).trans (finalA_r m ρ c), ((h.1 c).1 (2 : Fin 4)).trans (finalA_w m ρ c)⟩, h.2⟩) (run_main (F := Bits) m ρ)

/-- The kernel at machine floats terminates without a fault, its operands unchanged and every counter back at zero. -/
theorem frame_Kernel : Cert.quiescent_Kernel := fun m ρ _ => by
  have h := kept_Bits m ρ
  rw [← defs_eq] at h
  exact h

end Cert.RingMoe
end
-- ==== Proof.RefFrame.lean ====
/-
The frame of the reference: it runs, keeps its operands, and has no semaphore to leave raised.
-/
module

public import proofs.«01_k».proof.Proof.Gen.ReferenceIdeal.Run
public import proofs.«01_k».proof.Defs
public import Idealize.ShloMosaic.Adequacy
public import Idealize.ShloMosaic.Lib.Quiescent

@[expose] public section

noncomputable section

namespace Cert.RingMoe

open Idealize.ShloMosaic Idealize.ShloMosaic.TcCoe Idealize.SL.Sem

/-- The reference terminates without a fault, its operands unchanged; it has no semaphores. -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

end Cert.RingMoe

end
-- ==== Proof.Counts.lean ====
/-
Words that hold nought or one, and sums of them: how many earlier tokens chose an expert.
-/
module

public import Idealize.ShloMosaic.Lib.Pointwise
public import Idealize.ShloMosaic.Lib.IdealHost

@[expose] public section

set_option maxRecDepth 65536

noncomputable section

namespace Cert.RingMoe

open Idealize.ShloMosaic

/-- A comparison's bit, widened and turned into a float, is one where the words agree and nought where not. -/
theorem bit_eq (u v : BitVec 32) :
    (FloatOps.sitofp .f32 (BitVec.setWidth 32 (IntOp.cmpi .eq u v)) : Ideal .f32) = if u = v then (1 : EReal) else 0 := by
  by_cases h : u = v
  · have h1 : (BitVec.setWidth 32 (IntOp.cmpi .eq u v)) = 1#32 := by simp [IntOp.cmpi, h]
    rw [h1, if_pos h]
    show (((1#32 : BitVec 32).toInt : ℝ) : EReal) = 1
    norm_num
  · have h1 : (BitVec.setWidth 32 (IntOp.cmpi .eq u v)) = 0#32 := by
      have hb : (u == v) = false := beq_false_of_ne h
      simp [IntOp.cmpi, hb]
    rw [h1, if_neg h]
    show (((0#32 : BitVec 32).toInt : ℝ) : EReal) = 0
    norm_num

/-- A small number, as a word, reads as itself. -/
theorem toInt_small {n : ℕ} (hn : n < 100000) : (BitVec.ofNat 32 n).toInt = n := by
  have h : (BitVec.ofNat 32 n).toNat = n := by rw [BitVec.toNat_ofNat]; exact Nat.mod_eq_of_lt (by omega)
  rw [BitVec.toInt_eq_toNat_of_lt (by omega), h]

/-- Small numbers compare as words the way they compare as numbers. -/
theorem sge_small {i j : ℕ} (hi : i < 512) (hj : j < 512) : IntOp.cmpi .sge (BitVec.ofNat 32 i) (BitVec.ofNat 32 j) = BitVec.ofBool (decide (j ≤ i)) := by
  have h1 : (BitVec.ofNat 32 i).toInt = i := toInt_small (by omega)
  have h2 : (BitVec.ofNat 32 j).toInt = j := toInt_small (by omega)
  simp [IntOp.cmpi, BitVec.sle, h1, h2]

/-- So do small numbers against the capacity. -/
theorem slt_small {n : ℕ} (hn : n ≤ 8192) : IntOp.cmpi .slt (BitVec.ofNat 32 n) 102#32 = BitVec.ofBool (decide (n < 102)) := by
  have h1 : (BitVec.ofNat 32 n).toInt = n := toInt_small (by omega)
  have h2 : (102#32 : BitVec 32).toInt = 102 := by decide
  simp [IntOp.cmpi, BitVec.slt, h1, h2]

/-- The bit of the lower triangle of a chunk, as a float. -/
theorem bit_sge {i j : ℕ} (hi : i < 512) (hj : j < 512) :
    (FloatOps.sitofp .f32 (BitVec.setWidth 32 (IntOp.cmpi .sge (BitVec.ofNat 32 i) (BitVec.ofNat 32 j))) : Ideal .f32) = if j ≤ i then (1 : EReal) else 0 := by
  rw [sge_small hi hj]
  by_cases h : j ≤ i
  · have h1 : (BitVec.setWidth 32 (BitVec.ofBool (decide (j ≤ i)))) = 1#32 := by simp [h]
    rw [h1, if_pos h]
    show (((1#32 : BitVec 32).toInt : ℝ) : EReal) = 1
    norm_num
  · have h1 : (BitVec.setWidth 32 (BitVec.ofBool (decide (j ≤ i)))) = 0#32 := by simp [h]
    rw [h1, if_neg h]
    show (((0#32 : BitVec 32).toInt : ℝ) : EReal) = 0
    norm_num

/-- The capacity's bit pattern is the number 102. -/
theorem cap_value : Ideal.ofBits FTy.f32 1120665600#32 = ((102 : ℕ) : EReal) := by
  have h : Ideal.ofBits FTy.f32 1120665600#32 = ((102 : ℝ) : EReal) := by
    simp [Ideal.ofBits, Ideal.ieee, -EReal.coe_mul]
    norm_num
  rw [h]
  exact_mod_cast EReal.coe_natCast (n := 102)

/-- An indicator is positive exactly where it holds. -/
theorem ite_pos_iff {p : Prop} [Decidable p] : (0 : EReal) < (if p then 1 else 0) ↔ p := by
  by_cases h : p <;> simp [h]

/-- A sum of indicators counts. -/
theorem sum_ind (p : ℕ → Prop) [DecidablePred p] (n : ℕ) : ∑ j : Fin n, (if p j.val then (1 : EReal) else 0) = ((Nat.count p n : ℕ) : EReal) := by
  rw [Fin.sum_univ_eq_sum_range (fun j => if p j then (1 : EReal) else 0) n]
  induction n with
  | zero => simp
  | succ n ih =>
    rw [Finset.sum_range_succ, ih, Nat.count_succ, Nat.cast_add]
    by_cases h : p n <;> simp [h]

/-- The same sum against the lower triangle counts up to and including the row. -/
theorem sum_tri (p : ℕ → Prop) [DecidablePred p] (n i : ℕ) (hi : i < n) :
    ∑ j : Fin n, (if j.val ≤ i then (1 : EReal) else 0) * (if p j.val then (1 : EReal) else 0) = ((Nat.count p (i + 1) : ℕ) : EReal) := by
  have h1 : ∀ j : Fin n, (if j.val ≤ i then (1 : EReal) else 0) * (if p j.val then (1 : EReal) else 0)
      = if (j.val ≤ i ∧ p j.val) then (1 : EReal) else 0 := fun j => by
    by_cases h : j.val ≤ i <;> by_cases h' : p j.val <;> simp [h, h']
  rw [Finset.sum_congr rfl fun j _ => h1 j, sum_ind (fun j => j ≤ i ∧ p j) n]
  congr 1
  rw [Nat.count_eq_card_filter_range, Nat.count_eq_card_filter_range]
  congr 1
  ext j
  simp only [Finset.mem_filter, Finset.mem_range]
  constructor
  · rintro ⟨_, h, h'⟩; exact ⟨by omega, h'⟩
  · rintro ⟨h, h'⟩; exact ⟨by omega, by omega, h'⟩

/-- Counting in words: the list sum of nought-or-one entries. -/
theorem sum_count (p : ℕ → Prop) [DecidablePred p] (n : ℕ) : ((List.range n).map fun j => if p j then 1 else 0).sum = Nat.count p n := by
  induction n with
  | zero => rfl
  | succ n ih =>
    rw [List.range_succ, List.map_append, List.sum_append, ih, Nat.count_succ]
    simp

/-- A choice by two tests, each put into a bit, is the choice by both. -/
theorem select_both {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [Scalar.select, IntOp.andi, hp, hq]

end Cert.RingMoe

end
-- ==== Proof.ColSum.lean ====
/-
The running sum down the columns of a table of words.
-/
module

public import Idealize.ShloMosaic.Lib.Routing.Ops
public import proofs.«01_k».proof.Proof.Counts

@[expose] public section

set_option maxRecDepth 65536

noncomputable section

namespace Cert.RingMoe

open Idealize.ShloMosaic Idealize.ShloMosaic.Routing

/-- A column holds as many entries as it has rows. -/
theorem col_numel (N : ℕ) : (shape2 N 1).numel = N := by
  show ∏ a : Fin 2, (![N, 1] : Fin 2 → ℕ) a = N
  rw [Fin.prod_univ_two]
  exact Nat.mul_one N

/-- Position `n` of a column is its row `n`. -/
theorem col_symm {N : ℕ} (n : Fin (shape2 N 1).numel) : (shape2 N 1).rowMajor.symm n = ix2 (n.cast (col_numel N)) (0 : Fin 1) :=
  ((shape2 N 1).rowMajor.symm_apply_eq).2 (Fin.ext (by
    rw [Shape.rowMajor_val_two]
    show n.val = n.val * 1 + 0
    omega))

/-- Where column `e` of a table holds the naturals `f`, the running sum down the column holds their prefix sums. -/
theorem col_sum {N C k : ℕ} (hN : k + 1 = N) (x : IVec (shape2 N C) 32) (e : Fin C) (f : ℕ → ℕ)
    (hx : ∀ i : Fin N, x (ix2 i e) = BitVec.ofNat 32 (f i.val)) (init : IVec shape0 32) (hinit : ∀ i, init i = 0#32)
    (h : (shape2 N C).ReduceWindows (![N, 1] : Fin 2 → ℕ) ![1, 1] ![k, 0] ![0, 0] (shape2 N C)) (hu : 0 < shape0.numel) (j : Fin N) :
    Host.reduceWindow IntOp.addi ![N, 1] ![1, 1] ![k, 0] ![0, 0] x init h hu (ix2 j e)
      = BitVec.ofNat 32 ((List.range (j.val + 1)).map f).sum := by
  subst hN
  have hv : init (Shape.Idx.first hu) = BitVec.ofNat 32 0 := hinit _
  have hj := j.isLt
  have he := e.isLt
  unfold Host.reduceWindow
  refine (foldl_addi_ofNat _ _ (fun n => if k ≤ j.val + n.val then f (j.val + n.val - k) else 0) (fun n _ => ?_) _ 0 hv).trans ?_
  · have hw0 : ((shape2 (k + 1) 1).rowMajor.symm n 0).val = n.val := by rw [col_symm]; rfl
    have hw1 : ((shape2 (k + 1) 1).rowMajor.symm n 1).val = 0 := by rw [col_symm]; rfl
    have hn : n.val < k + 1 := (n.cast (col_numel _)).isLt
    dsimp only
    split
    · next hin =>
      have h0 := hin 0
      change k ≤ j.val * 1 + ((shape2 (k + 1) 1).rowMajor.symm n 0).val
        ∧ j.val * 1 + ((shape2 (k + 1) 1).rowMajor.symm n 0).val - k < k + 1 at h0
      rw [hw0] at h0
      rw [if_pos (by omega)]
      refine (congrArg x (funext fun a => Fin.ext ?_)).trans (hx ⟨j.val + n.val - k, by omega⟩)
      match a with
      | ⟨0, _⟩ =>
        show j.val * 1 + ((shape2 (k + 1) 1).rowMajor.symm n 0).val - k = j.val + n.val - k
        rw [hw0, Nat.mul_one]
      | ⟨1, _⟩ =>
        show e.val * 1 + ((shape2 (k + 1) 1).rowMajor.symm n 1).val - 0 = e.val
        rw [hw1]
        omega
    · next hin =>
      rw [if_neg fun hle => hin fun a => by
        match a with
        | ⟨0, _⟩ =>
          show k ≤ j.val * 1 + ((shape2 (k + 1) 1).rowMajor.symm n 0).val
            ∧ j.val * 1 + ((shape2 (k + 1) 1).rowMajor.symm n 0).val - k < k + 1
          rw [hw0]
          omega
        | ⟨1, _⟩ =>
          show 0 ≤ e.val * 1 + ((shape2 (k + 1) 1).rowMajor.symm n 1).val ∧ e.val * 1 + ((shape2 (k + 1) 1).rowMajor.symm n 1).val - 0 < C
          rw [hw1]
          omega]
      exact hv
  · rw [Nat.zero_add, map_finRange_val _ (fun w => if k ≤ j.val + w then f (j.val + w - k) else 0)]
    exact congrArg (BitVec.ofNat 32) ((congrArg (fun M => ((List.range M).map fun w => if k ≤ j.val + w then f (j.val + w - k) else 0).sum)
      (col_numel (k + 1))).trans (sum_window f k j.val (by omega)))

end Cert.RingMoe

end
-- ==== Proof.Payload.lean ====
/-
What the kernel's arithmetic computes, entry by entry, over the extended reals.
-/
module

public import proofs.«01_k».proof.Proof.Protocol
public import proofs.«01_k».proof.Proof.Counts
public import Idealize.ShloMosaic.Lib.Pointwise
public import Idealize.ShloMosaic.Lib.IdealHost

@[expose] public section

set_option maxRecDepth 65536

noncomputable section

namespace Cert.RingMoe

open Cert.KernelIdeal Cert.KernelIdeal.Gen

open Idealize.ShloMosaic Idealize.ShloMosaic.TcCoe

/-- One expert's product on one row of a chunk: counted where the row chose expert `e` and, with the rows `n` before the chunk, is within the capacity. -/
def term (e : BitVec 32) (n : EReal) (r : ℕ → BitVec 32) (x : Fin 512 → Fin 256 → EReal) (w : Fin 256 → Fin 512 → EReal) (i h : Fin 512) : EReal :=
  if r i.val = e ∧ ((Nat.count (fun t => r t = e) (i.val + 1) : ℕ) : EReal) + n ≤ ((102 : ℕ) : EReal) then ∑ d, x i d * w d h else 0

/-- Row `j` of a column of words. -/
def rowOf {n : ℕ} (r : IVec ⟨2, ![n, 1]⟩ 32) (t : ℕ) : BitVec 32 := if h : t < n then r (ix2 ⟨t, h⟩ 0) else 0#32

/-- Row `j` of a column, read as its entry. -/
theorem rowOf_val {n : ℕ} (r : IVec ⟨2, ![n, 1]⟩ 32) (j : Fin n) : r (ix2 j 0) = rowOf r j.val := by
  unfold rowOf; rw [dif_pos j.isLt]

/-- The triangle is one on and below the diagonal, nought above it. -/
theorem tri_apply (i j : Fin 512) : tri (F := Ideal) (ix2 i j) = if j.val ≤ i.val then (1 : EReal) else 0 := by
  pointwise [tri, k0_pay39, k0_pay40]
  exact bit_sge i.isLt j.isLt

/-- The four experts of the device at place `c` are the experts `4 c … 4 c + 3`. -/
theorem eb_apply (c : Dev nD) (k : Fin 4) : eb c (ix2 0 k) = BitVec.ofNat 32 (4 * c.val + k.val) := by
  pointwise [eb, k0_pay3]
  revert c k
  decide

/-- One expert's masked product, as the arithmetic spells it, is `term`. -/
theorem sum_term (e : BitVec 32) (n : EReal) (r : IVec S512x1 32) (x : FVec Ideal S512x256 .bf16) (w : FVec Ideal S256x512 .bf16) (i h : Fin 512) :
    ∑ d, Scalar.select (IntOp.andi (BitVec.ofBool (decide ((0 : EReal) < (FloatOps.sitofp .f32 (BitVec.setWidth 32 (IntOp.cmpi .eq (r (ix2 i 0)) e)) : Ideal .f32))))
      (BitVec.ofBool (decide (∑ j, (tri (F := Ideal) (ix2 i j) : EReal) * (FloatOps.sitofp .f32 (BitVec.setWidth 32 (IntOp.cmpi .eq (r (ix2 j 0)) e)) : Ideal .f32) + n
        ≤ Ideal.ofBits FTy.f32 1120665600#32)))) ((x (ix2 i d) : EReal) * w (ix2 d h)) 0
    = term e n (rowOf r) (fun i d => x (ix2 i d)) (fun d h => w (ix2 d h)) i h := by
  have hs : ∑ j, (tri (F := Ideal) (ix2 i j) : EReal) * (FloatOps.sitofp .f32 (BitVec.setWidth 32 (IntOp.cmpi .eq (r (ix2 j 0)) e)) : Ideal .f32)
      = ((Nat.count (fun t => rowOf r t = e) (i.val + 1) : ℕ) : EReal) := by
    rw [← sum_tri (fun t => rowOf r t = e) 512 i.val i.isLt]
    refine Finset.sum_congr rfl fun j _ => ?_
    rw [tri_apply, bit_eq, rowOf_val r j]
  rw [hs, bit_eq, cap_value]
  simp only [select_both, ite_pos_iff]
  unfold term
  rw [← rowOf_val r i]
  split
  · rfl
  · exact Finset.sum_const_zero

/-- A device's contribution to a chunk adds its four experts' terms. -/
theorem pay104_apply (e : IVec S1x4 32) (a b c d : FVec Ideal S256x512 .bf16) (r : IVec S512x1 32)
    (n : FVec Ideal S1x4 .f32) (x : FVec Ideal S512x256 .bf16) (i h : Fin 512) :
    k0_pay104 (F := Ideal) e tri a b c d r n x (ix2 i h) =
      term (e (ix2 0 0)) (n (ix2 0 0)) (rowOf r) (fun i d => x (ix2 i d)) (fun d h => a (ix2 d h)) i h
      + term (e (ix2 0 1)) (n (ix2 0 1)) (rowOf r) (fun i d => x (ix2 i d)) (fun d h => b (ix2 d h)) i h
      + term (e (ix2 0 2)) (n (ix2 0 2)) (rowOf r) (fun i d => x (ix2 i d)) (fun d h => c (ix2 d h)) i h
      + term (e (ix2 0 3)) (n (ix2 0 3)) (rowOf r) (fun i d => x (ix2 i d)) (fun d' h => d (ix2 d' h)) i h := by
  rw [← sum_term, ← sum_term, ← sum_term, ← sum_term]
  generalize tri (F := Ideal) = T
  pointwise [k0_pay104]

/-- The count of a chunk counts the rows that chose the expert. -/
theorem cnt_apply (e : IVec S1x4 32) (r : IVec S512x1 32) (k : Fin 4) :
    cnt (F := Ideal) e r (ix2 0 k) = ((Nat.count (fun t => rowOf r t = e (ix2 0 k)) 512 : ℕ) : EReal) := by
  rw [← sum_ind (fun t => rowOf r t = e (ix2 0 k)) 512]
  pointwise [cnt]
  refine Finset.sum_congr rfl fun j _ => ?_
  rw [bit_eq, rowOf_val r j]

/-- The running count starts at nought. -/
theorem zero_apply (k : Fin 4) : k0_pay4 (F := Ideal) (ix2 0 k) = (0 : EReal) := by
  pointwise [k0_pay4]
/-- The last step adds the last message to the device's own part. -/
theorem pay106_apply (a : FVec Ideal S512x512 .f32) (v : FVec Ideal S1x512x512 .bf16) (i h : Fin 512) :
    k0_pay106 (F := Ideal) a v (ix2 i h) = (a (ix2 i h) : EReal) + v (ix3 0 i h) := by
  pointwise [k0_pay106]
/-- The device's own part is stored as it is. -/
theorem pay105_apply (a : FVec Ideal S512x512 .f32) (i h : Fin 512) : k0_pay105 (F := Ideal) a (ix2 i h) = a (ix2 i h) := by
  pointwise [k0_pay105]
/-- A message adds the part computed here to the message that arrived. -/
theorem pay54_apply (a : FVec Ideal S512x512 .f32) (v : FVec Ideal S1x512x512 .bf16) (i h : Fin 512) :
    k0_pay54 (F := Ideal) a v (ix3 0 i h) = (a (ix2 i h) : EReal) + v (ix3 0 i h) := by
  pointwise [k0_pay54]
/-- The first message is the part computed here. -/
theorem msg0_apply (a : FVec Ideal S512x512 .f32) (i h : Fin 512) :
    shapeCast S1x512x512 (truncf .bf16 a bitsLt_bf16_f32) shapeCasts_S512x512_S1x512x512 (ix3 0 i h) = (a (ix2 i h) : EReal) := by
  pointwise []
/-- The activations are stored as they are. -/
theorem pay1_apply (x : FVec Ideal S512x256 .bf16) (i : Fin 512) (d : Fin 256) : k0_pay1 (F := Ideal) x (ix2 i d) = x (ix2 i d) := by
  pointwise [k0_pay1]
/-- The routes are stored as they are. -/
theorem pay2_apply (x : IVec S512x1 32) (i : Fin 512) : k0_pay2 (F := Ideal) x (ix2 i 0) = x (ix2 i 0) := by
  pointwise [k0_pay2]
/-- The first expert's page as a matrix. -/
theorem pay41_apply (w : FVec Ideal S1x256x512 .bf16) (d : Fin 256) (h : Fin 512) : k0_pay41 (F := Ideal) w (ix2 d h) = w (ix3 0 d h) := by
  pointwise [k0_pay41]
/-- The second expert's page as a matrix. -/
theorem pay42_apply (w : FVec Ideal S1x256x512 .bf16) (d : Fin 256) (h : Fin 512) : k0_pay42 (F := Ideal) w (ix2 d h) = w (ix3 0 d h) := by
  pointwise [k0_pay42]
/-- The third expert's page as a matrix. -/
theorem pay43_apply (w : FVec Ideal S1x256x512 .bf16) (d : Fin 256) (h : Fin 512) : k0_pay43 (F := Ideal) w (ix2 d h) = w (ix3 0 d h) := by
  pointwise [k0_pay43]
/-- The fourth expert's page as a matrix. -/
theorem pay44_apply (w : FVec Ideal S1x256x512 .bf16) (d : Fin 256) (h : Fin 512) : k0_pay44 (F := Ideal) w (ix2 d h) = w (ix3 0 d h) := by
  pointwise [k0_pay44]
/-- A row of counts is stored as it is. -/
theorem brow_cast (n : FVec Ideal S1x4 .f32) (k : Fin 4) : shapeCast S1x4 n shapeCasts_S1x4_S1x4 (ix2 0 k) = n (ix2 0 k) := by
  pointwise []

end Cert.RingMoe

end
-- ==== Proof.Contrib.lean ====
/-
What one device adds to one chunk of the result, in terms of the whole arrays: each of its four experts' products, on the rows that chose that expert while it had room.
-/
module

public import proofs.«01_k».proof.Proof.Payload

@[expose] public section

set_option maxRecDepth 65536

noncomputable section

namespace Cert.RingMoe

open Cert.KernelIdeal Cert.KernelIdeal.Gen

open Idealize.ShloMosaic Idealize.ShloMosaic.TcCoe

/-- What expert `e` adds to row `i` of the result: the row's product with the expert's weights where the row chose the expert and fewer than 102 rows before it did. -/
def part (R : ℕ → BitVec 32) (X : Fin 8192 → Fin 256 → EReal) (W : Fin 64 → Fin 256 → Fin 512 → EReal) (e : Fin 64) (i : Fin 8192) (h : Fin 512) : EReal :=
  if R i.val = BitVec.ofNat 32 e.val ∧ Nat.count (fun t => R t = BitVec.ofNat 32 e.val) i.val < 102 then ∑ d, X i d * W e d h else 0

/-- Row `i` of chunk `b` among all rows. -/
def grow (b : Dev nD) (i : Fin 512) : Fin 8192 := ⟨512 * b.val + i.val, by have hb : b.val < 16 := b.isLt; have := i.isLt; omega⟩
/-- Expert `k` of device `c` among all experts. -/
def gexp (c : Dev nD) (k : Fin 4) : Fin 64 := ⟨4 * c.val + k.val, by have hc : c.val < 16 := c.isLt; have := k.isLt; omega⟩

/-- Two predicates that agree below `n` are counted alike below `n`. -/
theorem count_congr (p q : ℕ → Prop) [DecidablePred p] [DecidablePred q] (n : ℕ) (h : ∀ t < n, p t ↔ q t) : Nat.count p n = Nat.count q n := by
  rw [Nat.count_eq_card_filter_range, Nat.count_eq_card_filter_range]
  congr 1
  ext t
  simp only [Finset.mem_filter, Finset.mem_range]
  exact and_congr_right fun ht => h t ht

/-- The chunk's test, its own rows counted inclusively and the rows before the chunk added, is the test by the rows before. -/
theorem term_eq (R : ℕ → BitVec 32) (X : Fin 8192 → Fin 256 → EReal) (W : Fin 64 → Fin 256 → Fin 512 → EReal) (e : Fin 64) (b : Dev nD)
    (r : ℕ → BitVec 32) (x : Fin 512 → Fin 256 → EReal) (w : Fin 256 → Fin 512 → EReal) (u : BitVec 32) (n : EReal)
    (hu : u = BitVec.ofNat 32 e.val) (hn : n = ((Nat.count (fun t => R t = BitVec.ofNat 32 e.val) (512 * b.val) : ℕ) : EReal))
    (hr : ∀ t < 512, r t = R (512 * b.val + t)) (hx : ∀ i d, x i d = X (grow b i) d) (hw : ∀ d h, w d h = W e d h) (i h : Fin 512) :
    term u n r x w i h = part R X W e (grow b i) h := by
  subst hu hn
  unfold term part
  have hi := i.isLt
  have hc : Nat.count (fun t => r t = BitVec.ofNat 32 e.val) (i.val + 1) = Nat.count (fun t => R (512 * b.val + t) = BitVec.ofNat 32 e.val) (i.val + 1) :=
    count_congr _ _ _ fun t ht => by rw [hr t (by omega)]
  have hg : (grow b i).val = 512 * b.val + i.val := rfl
  have hcond : (r i.val = BitVec.ofNat 32 e.val ∧ ((Nat.count (fun t => r t = BitVec.ofNat 32 e.val) (i.val + 1) : ℕ) : EReal)
        + ((Nat.count (fun t => R t = BitVec.ofNat 32 e.val) (512 * b.val) : ℕ) : EReal) ≤ ((102 : ℕ) : EReal))
      ↔ (R (grow b i).val = BitVec.ofNat 32 e.val ∧ Nat.count (fun t => R t = BitVec.ofNat 32 e.val) (grow b i).val < 102) := by
    rw [hr i.val hi, hc, hg, ← Nat.cast_add, EReal.natCast_le_iff, Nat.count_succ, Nat.count_add (fun t => R t = BitVec.ofNat 32 e.val) (512 * b.val) i.val]
    refine and_congr_right fun h => ?_
    rw [if_pos h]
    omega
  have hs : ∑ d, x i d * w d h = ∑ d, X (grow b i) d * W e d h := Finset.sum_congr rfl fun d _ => by rw [hx, hw]
  rw [hs]
  exact if_congr hcond rfl rfl

/-- A sum's first term split off. -/
theorem sum_shift (f : ℕ → EReal) (n : ℕ) : f 0 + ∑ t ∈ Finset.range n, f (t + 1) = ∑ t ∈ Finset.range (n + 1), f t := by
  rw [Finset.sum_range_succ', add_comm]

/-- One place back from the device before is one more place back from `c`. -/
theorem back_prv (c : Dev nD) (t : ℕ) : back (prv c) t = back c (t + 1) := by
  have h := back_nxt (prv c) t
  rw [nxt_prv] at h
  exact h.symm

/-- Sixteen places back is all the way round. -/
theorem back_sixteen (c : Dev nD) : back c 16 = c := by revert c; decide

variable (m : (ℓ : Loc nD τ sig) → Buf (Elt Ideal) ℓ) (ρ : Dev nD → PrngReg) (R : ℕ → BitVec 32) (X : Fin 8192 → Fin 256 → EReal) (W : Fin 64 → Fin 256 → Fin 512 → EReal)

/-- The devices' staged arguments are the chunks of the whole arrays. -/
structure Staged : Prop where
  x : ∀ b i d, xstg m ρ b (ix2 i d) = X (grow b i) d
  r : ∀ (b : Dev nD) (t : ℕ), t < 512 → rowOf (rblk m ρ b) t = R (512 * b.val + t)
  w : ∀ c k d h, wstg m ρ c (ix3 k d h) = W (gexp c k) d h

/-- Expert `k`'s weights are page `k` of the staged weights. -/
theorem wexp_apply (c : Dev nD) (k : Fin 4) (d : Fin 256) (h : Fin 512) : wexp m ρ c k (ix3 0 d h) = wstg m ρ c (ix3 k d h) := by
  show wstg m ρ c _ = _
  congr 1
  funext a
  match a with
  | ⟨0, _⟩ => exact Fin.ext (Nat.add_zero _)
  | ⟨1, _⟩ => exact Fin.ext (Nat.zero_add _ |>.trans (Nat.one_mul _))
  | ⟨2, _⟩ => exact Fin.ext (Nat.zero_add _ |>.trans (Nat.one_mul _))

variable {m ρ R X W} (S : Staged m ρ R X W)
include S

/-- Chunk `b` of the gathered activations is rows `512 b …` of the whole array. -/
theorem xblk_apply (b : Dev nD) (i : Fin 512) (d : Fin 256) : xblk m ρ b (ix2 i d) = X (grow b i) d :=
  (pay1_apply _ i d).trans (S.x b i d)

/-- The running count before chunk `b` counts the rows before it. -/
theorem run_apply (c : Dev nD) (k : Fin 4) (b : ℕ) (hb : b ≤ 16) :
    run m ρ c b (ix2 0 k) = ((Nat.count (fun t => R t = BitVec.ofNat 32 (gexp c k).val) (512 * b) : ℕ) : EReal) := by
  induction b with
  | zero => exact (zero_apply k).trans (by simp)
  | succ b ih =>
    have hm : b % 16 = b := Nat.mod_eq_of_lt (by omega)
    show (run m ρ c b (ix2 0 k) : EReal) + cnt (eb c) (rblk m ρ ⟨b % 16, _⟩) (ix2 0 k) = _
    rw [ih (by omega), cnt_apply, eb_apply, ← Nat.cast_add, Nat.mul_succ, Nat.count_add]
    congr 2
    refine count_congr _ _ _ fun t ht => ?_
    rw [S.r _ t ht]
    show R (512 * (b % 16) + t) = _ ↔ _
    rw [hm]
    rfl

/-- The stored row of counts for chunk `b` counts the rows before it. -/
theorem brow_apply (c b : Dev nD) (k : Fin 4) :
    brow m ρ c b.val (ix2 0 k) = ((Nat.count (fun t => R t = BitVec.ofNat 32 (gexp c k).val) (512 * b.val) : ℕ) : EReal) :=
  (brow_cast _ k).trans (run_apply S c k b.val (Nat.le_of_lt b.isLt))

/-- What device `c` adds to chunk `b`. -/
theorem con_apply (c b : Dev nD) (i h : Fin 512) :
    con m ρ c b (ix2 i h) = ∑ k : Fin 4, part R X W (gexp c k) (grow b i) h := by
  unfold con
  rw [pay104_apply, Fin.sum_univ_four]
  unfold w0 w1 w2 w3
  have ht := fun (k : Fin 4) (w : Fin 256 → Fin 512 → EReal) hw => term_eq R X W (gexp c k) b (rowOf (rblk m ρ b)) (fun i d => xblk m ρ b (ix2 i d)) w
    (eb c (ix2 0 k)) (brow m ρ c b.val (ix2 0 k)) (eb_apply c k) (brow_apply S c b k) (S.r b) (xblk_apply S b) hw i h
  rw [ht 0 _ fun d h => (pay41_apply _ d h).trans ((wexp_apply m ρ c 0 d h).trans (S.w c 0 d h)),
    ht 1 _ fun d h => (pay42_apply _ d h).trans ((wexp_apply m ρ c 1 d h).trans (S.w c 1 d h)),
    ht 2 _ fun d h => (pay43_apply _ d h).trans ((wexp_apply m ρ c 2 d h).trans (S.w c 2 d h)),
    ht 3 _ fun d h => (pay44_apply _ d h).trans ((wexp_apply m ρ c 3 d h).trans (S.w c 3 d h))]

omit S in
/-- A later message adds the device's own part to the message before it. -/
theorem msg_succ (s : ℕ) (c : Dev nD) : msg m ρ (s + 1) c = k0_pay54 (con m ρ c (back c (s + 2))) (msg m ρ s (prv c)) := rfl

omit S in
/-- The messages: message `s` of device `c` holds what the `s + 1` devices up to it add to the chunk `s + 1` places back. -/
theorem msg_apply (s : ℕ) (c : Dev nD) (i h : Fin 512) :
    msg m ρ s c (ix3 0 i h) = ∑ t ∈ Finset.range (s + 1), (con m ρ (back c t) (back c (s + 1)) (ix2 i h) : EReal) := by
  induction s generalizing c with
  | zero =>
    rw [Finset.sum_range_one, back_zero]
    exact msg0_apply _ i h
  | succ s ih =>
    rw [← sum_shift, back_zero]
    rw [msg_succ, pay54_apply, ih (prv c)]
    refine congrArg (con m ρ c (back c (s + 1 + 1)) (ix2 i h) + ·) ?_
    refine Finset.sum_congr rfl fun t _ => ?_
    rw [back_prv, back_prv]

/-- The result on device `c` is what all sixteen devices add to its chunk. -/
theorem outAt_apply (c : Dev nD) (i h : Fin 512) :
    outAt m ρ c (ix2 i h) = ∑ b : Dev nD, ∑ k : Fin 4, part R X W (gexp b k) (grow c i) h := by
  unfold outAt own
  rw [pay106_apply, pay105_apply, msg_apply, back_prv, back_sixteen]
  have h1 := sum_shift (fun t => (con m ρ (back c t) c (ix2 i h) : EReal)) 15
  rw [back_zero] at h1
  refine Eq.trans ?_ (h1.trans ?_)
  · refine congrArg (con m ρ c c (ix2 i h) + ·) ?_
    exact Finset.sum_congr rfl fun t _ => by rw [back_prv]
  rw [← Finset.sum_congr rfl fun b _ => con_apply S b c i h]
  refine Finset.sum_bij (fun t _ => back c t) (fun _ _ => Finset.mem_univ _) (fun a ha b hb h => ?_) (fun b _ => ?_) (fun _ _ => rfl)
  · exact back_inj c (Finset.mem_range.1 ha) (Finset.mem_range.1 hb) h
  · obtain ⟨p, hp, h⟩ := back_surj c b
    exact ⟨p, Finset.mem_range.2 hp, h⟩

end Cert.RingMoe

end
-- ==== Proof.RefValue.lean ====
/-
The reference's result, entry by entry: every expert's product, kept where the row chose the expert while it had room.
-/
module

public import proofs.«01_k».proof.Proof.Gen.ReferenceIdeal.Run
public import proofs.«01_k».proof.Proof.ColSum
public import proofs.«01_k».proof.Proof.Contrib
public import Idealize.ShloMosaic.Lib.Pointwise
public import Idealize.ShloMosaic.Lib.IdealHost

@[expose] public section

set_option maxRecDepth 65536

noncomputable section

namespace Cert.RingMoe

open Cert.ReferenceIdeal Cert.ReferenceIdeal.Gen

open Idealize.ShloMosaic Idealize.ShloMosaic.TcCoe

/-- Which expert each row chose, as a table of bits. -/
def refChosen (r : IVec S8192x1 32) : IVec S8192x64 1 :=
  cmpi .eq (broadcastInDim S8192x64 ![0, 1] bcast_S8192x1_S8192x64_0_1 r) (broadcastInDim S8192x64 ![0, 1] bcast_S1x64_S8192x64_0_1 (broadcastInDim S1x64 ![1] bcast_S64_S1x64_1 (iotaInDim S64 32 0)))

/-- How many rows before each chose each expert. -/
def refTaken (r : IVec S8192x1 32) : IVec S8192x64 32 :=
  subi (Host.reduceWindow IntOp.addi ![8192, 1] ![1, 1] ![8191, 0] ![0, 0] (extui 32 (refChosen r) natLt_1_32) (broadcastInDim S_ ![] bcast_S_S_ (constantI S_ 32 0#32)) reduceWindows_S8192x64_S8192x64_w8192s1p8191_0_w1s1p0_0 h_S_) (extui 32 (refChosen r) natLt_1_32)

/-- The reference's result. -/
def refOut (x : FVec Ideal S8192x256 .bf16) (r : IVec S8192x1 32) (w : FVec Ideal S64x256x512 .bf16) : FVec Ideal S8192x512 .f32 :=
  Host.reduceAdd (select (broadcastInDim S8192x64x512 ![0, 1, 2] bcast_S8192x64x1_S8192x64x512_0_1_2 (broadcastInDim S8192x64x1 ![0, 1] bcast_S8192x64_S8192x64x1_0_1 (andi (refChosen r) (cmpi .slt (refTaken r) (broadcastInDim S8192x64 ![] bcast_S_S8192x64 (constantI S_ 32 102#32)))))) (Host.dotGeneral dot_S8192x256_S64x256x512_S8192x64x512_1_1_0_02_n_n none (extf .f32 x bitsLt_bf16_f32) (extf .f32 w bitsLt_bf16_f32)) (broadcastInDim S8192x64x512 ![] bcast_S_S8192x64x512 (id (constant S_ .f32 0x00000000#32)))) (constant S_ .f32 0x00000000#32) reducesTo_S8192x64x512_S8192x512_d1 h_S_

/-- The table's bit at row `i` and expert `e` says whether row `i` chose `e`. -/
theorem refChosen_apply (r : IVec S8192x1 32) (i : Fin 8192) (e : Fin 64) :
    refChosen r (ix2 i e) = BitVec.ofBool (decide (rowOf r i.val = BitVec.ofNat 32 e.val)) := by
  rw [← rowOf_val r i]
  pointwise [refChosen]
  by_cases h : r (ix2 i 0) = BitVec.ofNat 32 e.val
  · simp [IntOp.cmpi, h]
  · have hb : (r (ix2 i 0) == BitVec.ofNat 32 e.val) = false := beq_false_of_ne h
    simp [IntOp.cmpi, h, hb]

/-- The same bit as a word of nought or one. -/
theorem refExt_apply (r : IVec S8192x1 32) (i : Fin 8192) (e : Fin 64) :
    extui 32 (refChosen r) natLt_1_32 (ix2 i e) = BitVec.ofNat 32 (if rowOf r i.val = BitVec.ofNat 32 e.val then 1 else 0) := by
  show BitVec.setWidth 32 (refChosen r (ix2 i e)) = _
  rw [refChosen_apply]
  by_cases h : rowOf r i.val = BitVec.ofNat 32 e.val <;> simp [h]

/-- The table of earlier choices counts the rows before `i` that chose `e`. -/
theorem refTaken_apply (r : IVec S8192x1 32) (i : Fin 8192) (e : Fin 64) :
    refTaken r (ix2 i e) = BitVec.ofNat 32 (Nat.count (fun t => rowOf r t = BitVec.ofNat 32 e.val) i.val) := by
  have hc := col_sum (k := 8191) rfl (extui 32 (refChosen r) natLt_1_32) e (fun t => if rowOf r t = BitVec.ofNat 32 e.val then 1 else 0) (fun i => refExt_apply r i e)
    (broadcastInDim S_ ![] bcast_S_S_ (constantI S_ 32 0#32)) (fun _ => rfl) reduceWindows_S8192x64_S8192x64_w8192s1p8191_0_w1s1p0_0 h_S_ i
  show Host.reduceWindow IntOp.addi ![8192, 1] ![1, 1] ![8191, 0] ![0, 0] (extui 32 (refChosen r) natLt_1_32) (broadcastInDim S_ ![] bcast_S_S_ (constantI S_ 32 0#32)) reduceWindows_S8192x64_S8192x64_w8192s1p8191_0_w1s1p0_0 h_S_ (ix2 i e)
    - extui 32 (refChosen r) natLt_1_32 (ix2 i e) = _
  refine (congrArg (· - extui 32 (refChosen r) natLt_1_32 (ix2 i e)) hc).trans ?_
  rw [refExt_apply, sum_count, Nat.count_succ, BitVec.ofNat_add, BitVec.add_sub_cancel]

/-- An entry of the reference's result sums the experts' parts. -/
theorem refOut_apply (x : FVec Ideal S8192x256 .bf16) (r : IVec S8192x1 32) (w : FVec Ideal S64x256x512 .bf16) (i : Fin 8192) (h : Fin 512) :
    refOut x r w (ix2 i h) = ∑ e : Fin 64, part (rowOf r) (fun i d => x (ix2 i d)) (fun e d h => w (ix3 e d h)) e i h := by
  have hp : ∀ e : Fin 64, part (rowOf r) (fun i d => x (ix2 i d)) (fun e d h => w (ix3 e d h)) e i h
      = Scalar.select (IntOp.andi (refChosen r (ix2 i e)) (IntOp.cmpi .slt (refTaken r (ix2 i e)) 102#32)) (∑ d, (x (ix2 i d) : EReal) * w (ix3 e d h)) 0 := fun e => by
    rw [refChosen_apply, refTaken_apply, slt_small ((Nat.count_le (p := fun t => rowOf r t = BitVec.ofNat 32 e.val) (n := i.val)).trans (Nat.le_of_lt i.isLt)), select_both]
    rfl
  rw [Finset.sum_congr rfl fun e _ => hp e]
  unfold refOut
  generalize refTaken r = t
  generalize refChosen r = c
  pointwise [id]

end Cert.RingMoe

end
-- ==== Proof.Algebraic.lean ====
/-
The kernel's results are the reference's, cut into the sixteen devices' chunks.
-/
module

public import proofs.«01_k».proof.Proof.Launch
public import proofs.«01_k».proof.Proof.RefValue
public import proofs.«01_k».proof.Proof.Protocol
public import Idealize.ShloMosaic.Lib.Layout
public import proofs.«01_k».proof.Defs

@[expose] public section

set_option maxRecDepth 65536

noncomputable section

namespace Cert.RingMoe

open Cert.KernelIdeal Cert.KernelIdeal.Gen

open Idealize.ShloMosaic Idealize.ShloMosaic.TcCoe Idealize.SL.Sem

/-- Expert `k` of device `c` runs through all sixty-four experts. -/
def experts : Dev nD × Fin 4 ≃ Fin 64 where
  toFun p := gexp p.1 p.2
  invFun e := (⟨e.val / 4, by have := e.isLt; show e.val / 4 < 16; omega⟩, ⟨e.val % 4, by omega⟩)
  left_inv p := by
    obtain ⟨c, k⟩ := p
    have := k.isLt
    refine Prod.ext (Fin.ext ?_) (Fin.ext ?_)
    · show (4 * c.val + k.val) / 4 = c.val
      omega
    · show (4 * c.val + k.val) % 4 = k.val
      omega
  right_inv e := Fin.ext (by
    show 4 * (e.val / 4) + e.val % 4 = e.val
    omega)

/-- A sum over the devices and their experts is a sum over all experts. -/
theorem sum_experts (f : Fin 64 → EReal) : ∑ b : Dev nD, ∑ k : Fin 4, f (gexp b k) = ∑ e : Fin 64, f e := by
  rw [← Fintype.sum_prod_type' (fun b k => f (gexp b k))]
  exact Fintype.sum_equiv experts _ _ fun _ => rfl

/-! ## The staged arguments -/

section
variable {F : FTy → Type} [FloatOps F] (m : (ℓ : Loc nD τ sig) → Buf (Elt F) ℓ) (ρ : Dev nD → PrngReg)

/-- Device `c`'s staged activations are its whole argument. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- Device `c`'s staged routes are its whole argument. -/
theorem rstg_eq (c : Dev nD) : rstg m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _

/-- Device `c`'s staged weights are its whole argument. -/
theorem wstg_eq (c : Dev nD) : wstg m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- The result array ends holding what the body left in its staging buffer. -/
theorem finalA_o (c : Dev nD) : finalA m ρ c (3 : Fin 4) = outAt m ρ c := by
  have hw : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt F) main_v1 hz (fun a => by fin_cases a <;> decide) _).symm.trans hw

end

variable (m : (ℓ : Loc nD τ sig) → Buf (Elt Ideal) ℓ) (ρ : Dev nD → PrngReg)
  (x : FVec Ideal ⟨2, ![8192, 256]⟩ .bf16) (r : IVec ⟨2, ![8192, 1]⟩ 32) (w : FVec Ideal ⟨3, ![64, 256, 512]⟩ .bf16)

/-- The devices hold the whole arrays' chunks. -/
theorem staged (hx : ∀ c : Dev nD, m ((c : Thread nD τ).loc main_arg0) = Layout.block ⟨2, ![512, 256]⟩ ⟨2, ![8192, 256]⟩ 0 16 c x)
    (hr : ∀ c : Dev nD, m ((c : Thread nD τ).loc main_arg2) = Layout.block ⟨2, ![512, 1]⟩ ⟨2, ![8192, 1]⟩ 0 16 c r)
    (hw : ∀ c : Dev nD, m ((c : Thread nD τ).loc main_arg3) = Layout.block ⟨3, ![4, 256, 512]⟩ ⟨3, ![64, 256, 512]⟩ 0 16 c w) :
    Staged m ρ (rowOf r) (fun i d => x (ix2 i d)) (fun e d h => w (ix3 e d h)) where
  x b i d := by
    rw [xstg_eq, hx b]
    show x _ = x _
    congr 1
    funext a
    match a with
    | ⟨0, _⟩ => exact Fin.ext (congrArg (· + i.val) (Nat.mul_comm _ _))
    | ⟨1, _⟩ => rfl
  r b t ht := by
    refine (rowOf_val (rblk m ρ b) ⟨t, ht⟩).symm.trans (Eq.trans ?_ (rowOf_val r (grow b ⟨t, ht⟩)))
    refine (pay2_apply _ _).trans ?_
    rw [rstg_eq, hr b]
    show r _ = r _
    congr 1
    funext a
    match a with
    | ⟨0, _⟩ => exact Fin.ext (congrArg (· + t) (Nat.mul_comm _ _))
    | ⟨1, _⟩ => rfl
  w c k d h := by
    rw [wstg_eq, hw c]
    show w _ = w _
    congr 1
    funext a
    match a with
    | ⟨0, _⟩ => exact Fin.ext (congrArg (· + k.val) (Nat.mul_comm _ _))
    | ⟨1, _⟩ => rfl
    | ⟨2, _⟩ => rfl

/-- Where the devices hold the whole arrays' chunks, their results are the chunks of the reference's result. -/
theorem outAt_eq (S : Staged m ρ (rowOf r) (fun i d => x (ix2 i d)) (fun e d h => w (ix3 e d h))) (c : Dev nD) :
    outAt m ρ c = Layout.block ⟨2, ![512, 512]⟩ ⟨2, ![8192, 512]⟩ 0 16 c (refOut x r w) := by
  funext j
  obtain ⟨p, q, rfl⟩ : ∃ p q : Fin 512, j = ix2 p q := ⟨j 0, j 1, eq_ix2 j⟩
  refine (outAt_apply S c p q).trans ?_
  rw [sum_experts (fun e => part (rowOf r) (fun i d => x (ix2 i d)) (fun e d h => w (ix3 e d h)) e (grow c p) q), ← refOut_apply]
  show refOut x r w _ = refOut x r w _
  congr 1
  funext a
  match a with
  | ⟨0, _⟩ => exact Fin.ext (congrArg (· + p.val) (Nat.mul_comm _ _))
  | ⟨1, _⟩ => rfl

/-- The kernel and the reference, run on one input, end with one result: device `c` holds chunk `c` of what the reference computes. -/
theorem algebraic : Cert.algebraic_KernelIdeal_ReferenceIdeal := by
  intro m g m' g' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun _ h c => ⟨((h.1 c).1 (3 : Fin 4)).trans ?_, ((h.1 c).1 (0 : Fin 4)).trans (finalA_x m g c), (h.1 c).2,
      ((h.1 c).1 (1 : Fin 4)).trans (finalA_r m g c), ((h.1 c).1 (2 : Fin 4)).trans (finalA_w m g c)⟩) (run_main (F := Ideal) m g)
    exact (finalA_o m g c).trans (outAt_eq m g _ _ _ (staged m g _ _ _ (fun c => (hagree c).1) (fun c => (hagree c).2.2.1) (fun c => (hagree c).2.2.2)) c)
  · exact (θ_run Cert.ReferenceIdeal.defs _ _).mono (fun _ h => h 0) (Cert.ReferenceIdeal.Value.run (F := Ideal) m' g')

end Cert.RingMoe

end
-- ==== Proof.lean ====
/-
The claims about the mixture-of-experts layer on its ring of sixteen devices, put together: the frames of the kernel at
machine floats and at the ideal instance (Proof/Frames.lean) and of the reference (Proof/RefFrame.lean), the idealization,
which rewrote no operation, and the equation between the kernel's results and the reference's (Proof/Algebraic.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts,
  Cert.RingMoe.frame_Kernel, Cert.RingMoe.frame_KernelIdeal, Cert.RingMoe.frame_ReferenceIdeal, trivial, Cert.RingMoe.algebraic⟩

end Cert.Proof

end
